-- ==== Defs.lean ====
def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpKernelIdeal_finite_mlp [hPre_finite_mlp : Cert.Pre_finite_mlp.Facts] (m : (ℓ : Loc Cert.MlpKernelIdeal.nD Cert.MlpKernelIdeal.τ Cert.MlpKernelIdeal.sig) → Buf (Elt Ideal) ℓ) : Prop :=
  ∀ c : Dev Cert.MlpKernelIdeal.nD,
    (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.2.2.2 = (fun _ => 1#1)

def Pre_GlaKernel (m : (ℓ : Loc Cert.GlaKernel.nD Cert.GlaKernel.τ Cert.GlaKernel.sig) → Buf (Elt Bits) ℓ) : Prop :=
  True

def Pre_GlaKernelIdeal (m : (ℓ : Loc Cert.GlaKernelIdeal.nD Cert.GlaKernelIdeal.τ Cert.GlaKernelIdeal.sig) → Buf (Elt Ideal) ℓ) : Prop :=
  True

def Pre_GlaKernelIdeal_finite_gla [hPre_finite_gla : Cert.Pre_finite_gla.Facts] (m : (ℓ : Loc Cert.GlaKernelIdeal.nD Cert.GlaKernelIdeal.τ Cert.GlaKernelIdeal.sig) → Buf (Elt Ideal) ℓ) : Prop :=
  ∀ c : Dev Cert.GlaKernelIdeal.nD,
    (Cert.Pre_finite_gla.fn (F := Ideal) (m ((c.tc : Thread Cert.GlaKernelIdeal.nD Cert.GlaKernelIdeal.τ).loc Cert.GlaKernelIdeal.main_arg0)) (m ((c.tc : Thread Cert.GlaKernelIdeal.nD Cert.GlaKernelIdeal.τ).loc Cert.GlaKernelIdeal.main_arg1)) (m ((c.tc : Thread Cert.GlaKernelIdeal.nD Cert.GlaKernelIdeal.τ).loc Cert.GlaKernelIdeal.main_arg2)) (m ((c.tc : Thread Cert.GlaKernelIdeal.nD Cert.GlaKernelIdeal.τ).loc Cert.GlaKernelIdeal.main_arg3)) (m ((c.tc : Thread Cert.GlaKernelIdeal.nD Cert.GlaKernelIdeal.τ).loc Cert.GlaKernelIdeal.main_arg4))).1 = (fun _ => 1#1)
    ∧ (Cert.Pre_finite_gla.fn (F := Ideal) (m ((c.tc : Thread Cert.GlaKernelIdeal.nD Cert.GlaKernelIdeal.τ).loc Cert.GlaKernelIdeal.main_arg0)) (m ((c.tc : Thread Cert.GlaKernelIdeal.nD Cert.GlaKernelIdeal.τ).loc Cert.GlaKernelIdeal.main_arg1)) (m ((c.tc : Thread Cert.GlaKernelIdeal.nD Cert.GlaKernelIdeal.τ).loc Cert.GlaKernelIdeal.main_arg2)) (m ((c.tc : Thread Cert.GlaKernelIdeal.nD Cert.GlaKernelIdeal.τ).loc Cert.GlaKernelIdeal.main_arg3)) (m ((c.tc : Thread Cert.GlaKernelIdeal.nD Cert.GlaKernelIdeal.τ).loc Cert.GlaKernelIdeal.main_arg4))).2.1 = (fun _ => 1#1)
    ∧ (Cert.Pre_finite_gla.fn (F := Ideal) (m ((c.tc : Thread Cert.GlaKernelIdeal.nD Cert.GlaKernelIdeal.τ).loc Cert.GlaKernelIdeal.main_arg0)) (m ((c.tc : Thread Cert.GlaKernelIdeal.nD Cert.GlaKernelIdeal.τ).loc Cert.GlaKernelIdeal.main_arg1)) (m ((c.tc : Thread Cert.GlaKernelIdeal.nD Cert.GlaKernelIdeal.τ).loc Cert.GlaKernelIdeal.main_arg2)) (m ((c.tc : Thread Cert.GlaKernelIdeal.nD Cert.GlaKernelIdeal.τ).loc Cert.GlaKernelIdeal.main_arg3)) (m ((c.tc : Thread Cert.GlaKernelIdeal.nD Cert.GlaKernelIdeal.τ).loc Cert.GlaKernelIdeal.main_arg4))).2.2.1 = (fun _ => 1#1)
    ∧ (Cert.Pre_finite_gla.fn (F := Ideal) (m ((c.tc : Thread Cert.GlaKernelIdeal.nD Cert.GlaKernelIdeal.τ).loc Cert.GlaKernelIdeal.main_arg0)) (m ((c.tc : Thread Cert.GlaKernelIdeal.nD Cert.GlaKernelIdeal.τ).loc Cert.GlaKernelIdeal.main_arg1)) (m ((c.tc : Thread Cert.GlaKernelIdeal.nD Cert.GlaKernelIdeal.τ).loc Cert.GlaKernelIdeal.main_arg2)) (m ((c.tc : Thread Cert.GlaKernelIdeal.nD Cert.GlaKernelIdeal.τ).loc Cert.GlaKernelIdeal.main_arg3)) (m ((c.tc : Thread Cert.GlaKernelIdeal.nD Cert.GlaKernelIdeal.τ).loc Cert.GlaKernelIdeal.main_arg4))).2.2.2.1 = (fun _ => 1#1)
    ∧ (Cert.Pre_finite_gla.fn (F := Ideal) (m ((c.tc : Thread Cert.GlaKernelIdeal.nD Cert.GlaKernelIdeal.τ).loc Cert.GlaKernelIdeal.main_arg0)) (m ((c.tc : Thread Cert.GlaKernelIdeal.nD Cert.GlaKernelIdeal.τ).loc Cert.GlaKernelIdeal.main_arg1)) (m ((c.tc : Thread Cert.GlaKernelIdeal.nD Cert.GlaKernelIdeal.τ).loc Cert.GlaKernelIdeal.main_arg2)) (m ((c.tc : Thread Cert.GlaKernelIdeal.nD Cert.GlaKernelIdeal.τ).loc Cert.GlaKernelIdeal.main_arg3)) (m ((c.tc : Thread Cert.GlaKernelIdeal.nD Cert.GlaKernelIdeal.τ).loc Cert.GlaKernelIdeal.main_arg4))).2.2.2.2 = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gla [hPre_finite_gla : Cert.Pre_finite_gla.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.2.1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.2.2 = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojKernelIdeal_finite_inproj [hPre_finite_inproj : Cert.Pre_finite_inproj.Facts] (m : (ℓ : Loc Cert.InprojKernelIdeal.nD Cert.InprojKernelIdeal.τ Cert.InprojKernelIdeal.sig) → Buf (Elt Ideal) ℓ) : Prop :=
  ∀ c : Dev Cert.InprojKernelIdeal.nD,
    (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4))).1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4))).2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4))).2.2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4))).2.2.2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4))).2.2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inproj [hPre_finite_inproj : Cert.Pre_finite_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).1 = (fun _ => 1#1)
    ∧ (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.1 = (fun _ => 1#1)
    ∧ (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.1 = (fun _ => 1#1)
    ∧ (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.2.1 = (fun _ => 1#1)
    ∧ (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.2.2 = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpKernelIdeal_pre_finite_mlp [hMlpKernelIdeal : Cert.MlpKernelIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal_finite_mlp m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_GlaKernel [hGlaKernel : Cert.GlaKernel.Facts] : Prop :=
  ∀ (m : (ℓ : Loc Cert.GlaKernel.nD Cert.GlaKernel.τ Cert.GlaKernel.sig) → Buf (Elt Bits) ℓ) (g : Dev Cert.GlaKernel.nD → PrngReg), Pre_GlaKernel m →
    θ_run (Cert.GlaKernel.defs (F := Bits)) (onTc (τ := Cert.GlaKernel.τ) (Cert.GlaKernel.main (F := Bits))) ⟨m, fun _ => 0, g⟩ (fun r => (∀ c : Dev Cert.GlaKernel.nD,
      r.2.mem ((c.tc : Thread Cert.GlaKernel.nD Cert.GlaKernel.τ).loc Cert.GlaKernel.main_arg0) = m ((c.tc : Thread Cert.GlaKernel.nD Cert.GlaKernel.τ).loc Cert.GlaKernel.main_arg0)
      ∧ r.2.mem ((c.tc : Thread Cert.GlaKernel.nD Cert.GlaKernel.τ).loc Cert.GlaKernel.main_arg1) = m ((c.tc : Thread Cert.GlaKernel.nD Cert.GlaKernel.τ).loc Cert.GlaKernel.main_arg1)
      ∧ r.2.mem ((c.tc : Thread Cert.GlaKernel.nD Cert.GlaKernel.τ).loc Cert.GlaKernel.main_arg2) = m ((c.tc : Thread Cert.GlaKernel.nD Cert.GlaKernel.τ).loc Cert.GlaKernel.main_arg2)
      ∧ r.2.mem ((c.tc : Thread Cert.GlaKernel.nD Cert.GlaKernel.τ).loc Cert.GlaKernel.main_arg3) = m ((c.tc : Thread Cert.GlaKernel.nD Cert.GlaKernel.τ).loc Cert.GlaKernel.main_arg3)
      ∧ r.2.mem ((c.tc : Thread Cert.GlaKernel.nD Cert.GlaKernel.τ).loc Cert.GlaKernel.main_arg4) = m ((c.tc : Thread Cert.GlaKernel.nD Cert.GlaKernel.τ).loc Cert.GlaKernel.main_arg4))
      ∧ r.2.sem = fun _ => 0)

def quiescent_GlaKernelIdeal [hGlaKernelIdeal : Cert.GlaKernelIdeal.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg), Pre_GlaKernelIdeal m →
    θ_run (Cert.GlaKernelIdeal.defs (F := Ideal)) (onTc (τ := Cert.GlaKernelIdeal.τ) (Cert.GlaKernelIdeal.main (F := Ideal))) ⟨m, fun _ => 0, g⟩ (fun r => (∀ c : Dev Cert.GlaKernelIdeal.nD,
      r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
      ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
      ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
      ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
      ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ r.2.sem = fun _ => 0)

def quiescent_GlaKernelIdeal_pre_finite_gla [hGlaKernelIdeal : Cert.GlaKernelIdeal.Facts] [hPre_finite_gla : Cert.Pre_finite_gla.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg), Pre_GlaKernelIdeal_finite_gla m →
    θ_run (Cert.GlaKernelIdeal.defs (F := Ideal)) (onTc (τ := Cert.GlaKernelIdeal.τ) (Cert.GlaKernelIdeal.main (F := Ideal))) ⟨m, fun _ => 0, g⟩ (fun r => (∀ c : Dev Cert.GlaKernelIdeal.nD,
      r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
      ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
      ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
      ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
      ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_finite_gla [hGlaRefIdeal : Cert.GlaRefIdeal.Facts] [hPre_finite_gla : Cert.Pre_finite_gla.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gla m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4))
      ∧ r.2.sem = fun _ => 0)

def quiescent_InprojKernelIdeal_pre_finite_inproj [hInprojKernelIdeal : Cert.InprojKernelIdeal.Facts] [hPre_finite_inproj : Cert.Pre_finite_inproj.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal_finite_inproj m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_inproj [hInprojRefIdeal : Cert.InprojRefIdeal.Facts] [hPre_finite_inproj : Cert.Pre_finite_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def preserves_MlpKernel_MlpKernelIdeal : Prop :=
  True

def algebraic_MlpKernelIdeal_MlpRefIdeal_pre_finite_mlp [hMlpKernelIdeal : Cert.MlpKernelIdeal.Facts] [hMlpRefIdeal : Cert.MlpRefIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpKernelIdeal_finite_mlp m →
    (∀ c : Dev Cert.MlpKernelIdeal.nD,
      m' ((c.tc : Thread Cert.MlpRefIdeal.nD Cert.MlpRefIdeal.τ).loc Cert.MlpRefIdeal.main_arg0) = m ((c.tc : Thread Cert.MlpKernelIdeal.nD Cert.MlpKernelIdeal.τ).loc Cert.MlpKernelIdeal.main_arg0)
      ∧ m' ((c.tc : Thread Cert.MlpRefIdeal.nD Cert.MlpRefIdeal.τ).loc Cert.MlpRefIdeal.main_arg1) = m ((c.tc : Thread Cert.MlpKernelIdeal.nD Cert.MlpKernelIdeal.τ).loc Cert.MlpKernelIdeal.main_arg1)
      ∧ m' ((c.tc : Thread Cert.MlpRefIdeal.nD Cert.MlpRefIdeal.τ).loc Cert.MlpRefIdeal.main_arg2) = m ((c.tc : Thread Cert.MlpKernelIdeal.nD Cert.MlpKernelIdeal.τ).loc Cert.MlpKernelIdeal.main_arg2)
      ∧ m' ((c.tc : Thread Cert.MlpRefIdeal.nD Cert.MlpRefIdeal.τ).loc Cert.MlpRefIdeal.main_arg3) = m ((c.tc : Thread Cert.MlpKernelIdeal.nD Cert.MlpKernelIdeal.τ).loc Cert.MlpKernelIdeal.main_arg3)
      ∧ m' ((c.tc : Thread Cert.MlpRefIdeal.nD Cert.MlpRefIdeal.τ).loc Cert.MlpRefIdeal.main_arg4) = m ((c.tc : Thread Cert.MlpKernelIdeal.nD Cert.MlpKernelIdeal.τ).loc Cert.MlpKernelIdeal.main_arg4)
      ∧ m' ((c.tc : Thread Cert.MlpRefIdeal.nD Cert.MlpRefIdeal.τ).loc Cert.MlpRefIdeal.main_arg5) = m ((c.tc : Thread Cert.MlpKernelIdeal.nD Cert.MlpKernelIdeal.τ).loc Cert.MlpKernelIdeal.main_arg5)
      ∧ m' ((c.tc : Thread Cert.MlpRefIdeal.nD Cert.MlpRefIdeal.τ).loc Cert.MlpRefIdeal.main_arg6) = m ((c.tc : Thread Cert.MlpKernelIdeal.nD Cert.MlpKernelIdeal.τ).loc Cert.MlpKernelIdeal.main_arg6)
      ∧ m' ((c.tc : Thread Cert.MlpRefIdeal.nD Cert.MlpRefIdeal.τ).loc Cert.MlpRefIdeal.main_arg7) = m ((c.tc : Thread Cert.MlpKernelIdeal.nD Cert.MlpKernelIdeal.τ).loc Cert.MlpKernelIdeal.main_arg7)) →
    ∃ (v0 : (c : Dev Cert.MlpKernelIdeal.nD) → Buf (Elt Ideal) ((c.tc : Thread Cert.MlpKernelIdeal.nD Cert.MlpKernelIdeal.τ).loc Cert.MlpKernelIdeal.main_v14_0)) (v1 : (c : Dev Cert.MlpKernelIdeal.nD) → Buf (Elt Ideal) ((c.tc : Thread Cert.MlpKernelIdeal.nD Cert.MlpKernelIdeal.τ).loc Cert.MlpKernelIdeal.main_v14_1)) (v2 : (c : Dev Cert.MlpKernelIdeal.nD) → Buf (Elt Ideal) ((c.tc : Thread Cert.MlpKernelIdeal.nD Cert.MlpKernelIdeal.τ).loc Cert.MlpKernelIdeal.main_v14_2)) (v3 : (c : Dev Cert.MlpKernelIdeal.nD) → Buf (Elt Ideal) ((c.tc : Thread Cert.MlpKernelIdeal.nD Cert.MlpKernelIdeal.τ).loc Cert.MlpKernelIdeal.main_v14_3)) (v4 : (c : Dev Cert.MlpKernelIdeal.nD) → Buf (Elt Ideal) ((c.tc : Thread Cert.MlpKernelIdeal.nD Cert.MlpKernelIdeal.τ).loc Cert.MlpKernelIdeal.main_v14_4)) (v5 : (c : Dev Cert.MlpKernelIdeal.nD) → Buf (Elt Ideal) ((c.tc : Thread Cert.MlpKernelIdeal.nD Cert.MlpKernelIdeal.τ).loc Cert.MlpKernelIdeal.main_v14_5)) (v6 : (c : Dev Cert.MlpKernelIdeal.nD) → Buf (Elt Ideal) ((c.tc : Thread Cert.MlpKernelIdeal.nD Cert.MlpKernelIdeal.τ).loc Cert.MlpKernelIdeal.main_v14_6)) (v7 : (c : Dev Cert.MlpKernelIdeal.nD) → Buf (Elt Ideal) ((c.tc : Thread Cert.MlpKernelIdeal.nD Cert.MlpKernelIdeal.τ).loc Cert.MlpKernelIdeal.main_v14_7)) (v8 : (c : Dev Cert.MlpKernelIdeal.nD) → Buf (Elt Ideal) ((c.tc : Thread Cert.MlpKernelIdeal.nD Cert.MlpKernelIdeal.τ).loc Cert.MlpKernelIdeal.main_v14_8)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v14_0) = v0 c
          ∧ r.2.mem ((c.tc : Thread Cert.MlpKernelIdeal.nD Cert.MlpKernelIdeal.τ).loc Cert.MlpKernelIdeal.main_v14_1) = v1 c
          ∧ r.2.mem ((c.tc : Thread Cert.MlpKernelIdeal.nD Cert.MlpKernelIdeal.τ).loc Cert.MlpKernelIdeal.main_v14_2) = v2 c
          ∧ r.2.mem ((c.tc : Thread Cert.MlpKernelIdeal.nD Cert.MlpKernelIdeal.τ).loc Cert.MlpKernelIdeal.main_v14_3) = v3 c
          ∧ r.2.mem ((c.tc : Thread Cert.MlpKernelIdeal.nD Cert.MlpKernelIdeal.τ).loc Cert.MlpKernelIdeal.main_v14_4) = v4 c
          ∧ r.2.mem ((c.tc : Thread Cert.MlpKernelIdeal.nD Cert.MlpKernelIdeal.τ).loc Cert.MlpKernelIdeal.main_v14_5) = v5 c
          ∧ r.2.mem ((c.tc : Thread Cert.MlpKernelIdeal.nD Cert.MlpKernelIdeal.τ).loc Cert.MlpKernelIdeal.main_v14_6) = v6 c
          ∧ r.2.mem ((c.tc : Thread Cert.MlpKernelIdeal.nD Cert.MlpKernelIdeal.τ).loc Cert.MlpKernelIdeal.main_v14_7) = v7 c
          ∧ r.2.mem ((c.tc : Thread Cert.MlpKernelIdeal.nD Cert.MlpKernelIdeal.τ).loc Cert.MlpKernelIdeal.main_v14_8) = v8 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v114) = v0 c
          ∧ r.2.mem ((c.tc : Thread Cert.MlpRefIdeal.nD Cert.MlpRefIdeal.τ).loc Cert.MlpRefIdeal.main_v116) = v1 c
          ∧ r.2.mem ((c.tc : Thread Cert.MlpRefIdeal.nD Cert.MlpRefIdeal.τ).loc Cert.MlpRefIdeal.main_v117) = v2 c
          ∧ r.2.mem ((c.tc : Thread Cert.MlpRefIdeal.nD Cert.MlpRefIdeal.τ).loc Cert.MlpRefIdeal.main_v118) = v3 c
          ∧ r.2.mem ((c.tc : Thread Cert.MlpRefIdeal.nD Cert.MlpRefIdeal.τ).loc Cert.MlpRefIdeal.main_v119) = v4 c
          ∧ r.2.mem ((c.tc : Thread Cert.MlpRefIdeal.nD Cert.MlpRefIdeal.τ).loc Cert.MlpRefIdeal.main_v120) = v5 c
          ∧ r.2.mem ((c.tc : Thread Cert.MlpRefIdeal.nD Cert.MlpRefIdeal.τ).loc Cert.MlpRefIdeal.main_v121) = v6 c
          ∧ r.2.mem ((c.tc : Thread Cert.MlpRefIdeal.nD Cert.MlpRefIdeal.τ).loc Cert.MlpRefIdeal.main_v122) = v7 c
          ∧ r.2.mem ((c.tc : Thread Cert.MlpRefIdeal.nD Cert.MlpRefIdeal.τ).loc Cert.MlpRefIdeal.main_v123) = v8 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_GlaKernel_GlaKernelIdeal : Prop :=
  True

def algebraic_GlaKernelIdeal_GlaRefIdeal_pre_finite_gla [hGlaKernelIdeal : Cert.GlaKernelIdeal.Facts] [hGlaRefIdeal : Cert.GlaRefIdeal.Facts] [hPre_finite_gla : Cert.Pre_finite_gla.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaKernelIdeal_finite_gla m →
    (∀ c : Dev Cert.GlaKernelIdeal.nD,
      m' ((c.tc : Thread Cert.GlaRefIdeal.nD Cert.GlaRefIdeal.τ).loc Cert.GlaRefIdeal.main_arg0) = m ((c.tc : Thread Cert.GlaKernelIdeal.nD Cert.GlaKernelIdeal.τ).loc Cert.GlaKernelIdeal.main_arg0)
      ∧ m' ((c.tc : Thread Cert.GlaRefIdeal.nD Cert.GlaRefIdeal.τ).loc Cert.GlaRefIdeal.main_arg1) = m ((c.tc : Thread Cert.GlaKernelIdeal.nD Cert.GlaKernelIdeal.τ).loc Cert.GlaKernelIdeal.main_arg1)
      ∧ m' ((c.tc : Thread Cert.GlaRefIdeal.nD Cert.GlaRefIdeal.τ).loc Cert.GlaRefIdeal.main_arg2) = m ((c.tc : Thread Cert.GlaKernelIdeal.nD Cert.GlaKernelIdeal.τ).loc Cert.GlaKernelIdeal.main_arg2)
      ∧ m' ((c.tc : Thread Cert.GlaRefIdeal.nD Cert.GlaRefIdeal.τ).loc Cert.GlaRefIdeal.main_arg3) = m ((c.tc : Thread Cert.GlaKernelIdeal.nD Cert.GlaKernelIdeal.τ).loc Cert.GlaKernelIdeal.main_arg3)
      ∧ m' ((c.tc : Thread Cert.GlaRefIdeal.nD Cert.GlaRefIdeal.τ).loc Cert.GlaRefIdeal.main_arg4) = m ((c.tc : Thread Cert.GlaKernelIdeal.nD Cert.GlaKernelIdeal.τ).loc Cert.GlaKernelIdeal.main_arg4)) →
    ∃ (v0 : (c : Dev Cert.GlaKernelIdeal.nD) → Buf (Elt Ideal) ((c.tc : Thread Cert.GlaKernelIdeal.nD Cert.GlaKernelIdeal.τ).loc Cert.GlaKernelIdeal.main_v85_0)) (v1 : (c : Dev Cert.GlaKernelIdeal.nD) → Buf (Elt Ideal) ((c.tc : Thread Cert.GlaKernelIdeal.nD Cert.GlaKernelIdeal.τ).loc Cert.GlaKernelIdeal.main_v85_1)) (v2 : (c : Dev Cert.GlaKernelIdeal.nD) → Buf (Elt Ideal) ((c.tc : Thread Cert.GlaKernelIdeal.nD Cert.GlaKernelIdeal.τ).loc Cert.GlaKernelIdeal.main_v85_2)) (v3 : (c : Dev Cert.GlaKernelIdeal.nD) → Buf (Elt Ideal) ((c.tc : Thread Cert.GlaKernelIdeal.nD Cert.GlaKernelIdeal.τ).loc Cert.GlaKernelIdeal.main_v85_3)),
      θ_run (Cert.GlaKernelIdeal.defs (F := Ideal)) (onTc (τ := Cert.GlaKernelIdeal.τ) (Cert.GlaKernelIdeal.main (F := Ideal))) ⟨m, fun _ => 0, g⟩ (fun r => ∀ c : Dev Cert.GlaKernelIdeal.nD,
          r.2.mem ((c.tc : Thread Cert.GlaKernelIdeal.nD Cert.GlaKernelIdeal.τ).loc Cert.GlaKernelIdeal.main_v85_0) = v0 c
          ∧ r.2.mem ((c.tc : Thread Cert.GlaKernelIdeal.nD Cert.GlaKernelIdeal.τ).loc Cert.GlaKernelIdeal.main_v85_1) = v1 c
          ∧ r.2.mem ((c.tc : Thread Cert.GlaKernelIdeal.nD Cert.GlaKernelIdeal.τ).loc Cert.GlaKernelIdeal.main_v85_2) = v2 c
          ∧ r.2.mem ((c.tc : Thread Cert.GlaKernelIdeal.nD Cert.GlaKernelIdeal.τ).loc Cert.GlaKernelIdeal.main_v85_3) = v3 c
          ∧ r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
          ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
          ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
          ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
          ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v140) = v0 c
          ∧ r.2.mem ((c.tc : Thread Cert.GlaRefIdeal.nD Cert.GlaRefIdeal.τ).loc Cert.GlaRefIdeal.main_v141) = v1 c
          ∧ r.2.mem ((c.tc : Thread Cert.GlaRefIdeal.nD Cert.GlaRefIdeal.τ).loc Cert.GlaRefIdeal.main_v142) = v2 c
          ∧ r.2.mem ((c.tc : Thread Cert.GlaRefIdeal.nD Cert.GlaRefIdeal.τ).loc Cert.GlaRefIdeal.main_v143) = v3 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_InprojKernel_InprojKernelIdeal : Prop :=
  True

def algebraic_InprojKernelIdeal_InprojRefIdeal_pre_finite_inproj [hInprojKernelIdeal : Cert.InprojKernelIdeal.Facts] [hInprojRefIdeal : Cert.InprojRefIdeal.Facts] [hPre_finite_inproj : Cert.Pre_finite_inproj.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojKernelIdeal_finite_inproj m →
    (∀ c : Dev Cert.InprojKernelIdeal.nD,
      m' ((c.tc : Thread Cert.InprojRefIdeal.nD Cert.InprojRefIdeal.τ).loc Cert.InprojRefIdeal.main_arg0) = m ((c.tc : Thread Cert.InprojKernelIdeal.nD Cert.InprojKernelIdeal.τ).loc Cert.InprojKernelIdeal.main_arg0)
      ∧ m' ((c.tc : Thread Cert.InprojRefIdeal.nD Cert.InprojRefIdeal.τ).loc Cert.InprojRefIdeal.main_arg1) = m ((c.tc : Thread Cert.InprojKernelIdeal.nD Cert.InprojKernelIdeal.τ).loc Cert.InprojKernelIdeal.main_arg1)
      ∧ m' ((c.tc : Thread Cert.InprojRefIdeal.nD Cert.InprojRefIdeal.τ).loc Cert.InprojRefIdeal.main_arg2) = m ((c.tc : Thread Cert.InprojKernelIdeal.nD Cert.InprojKernelIdeal.τ).loc Cert.InprojKernelIdeal.main_arg2)
      ∧ m' ((c.tc : Thread Cert.InprojRefIdeal.nD Cert.InprojRefIdeal.τ).loc Cert.InprojRefIdeal.main_arg3) = m ((c.tc : Thread Cert.InprojKernelIdeal.nD Cert.InprojKernelIdeal.τ).loc Cert.InprojKernelIdeal.main_arg3)
      ∧ m' ((c.tc : Thread Cert.InprojRefIdeal.nD Cert.InprojRefIdeal.τ).loc Cert.InprojRefIdeal.main_arg4) = m ((c.tc : Thread Cert.InprojKernelIdeal.nD Cert.InprojKernelIdeal.τ).loc Cert.InprojKernelIdeal.main_arg4)) →
    ∃ (v0 : (c : Dev Cert.InprojKernelIdeal.nD) → Buf (Elt Ideal) ((c.tc : Thread Cert.InprojKernelIdeal.nD Cert.InprojKernelIdeal.τ).loc Cert.InprojKernelIdeal.main_v10_0)) (v1 : (c : Dev Cert.InprojKernelIdeal.nD) → Buf (Elt Ideal) ((c.tc : Thread Cert.InprojKernelIdeal.nD Cert.InprojKernelIdeal.τ).loc Cert.InprojKernelIdeal.main_v10_1)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v10_0) = v0 c
          ∧ r.2.mem ((c.tc : Thread Cert.InprojKernelIdeal.nD Cert.InprojKernelIdeal.τ).loc Cert.InprojKernelIdeal.main_v10_1) = v1 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v42) = v0 c
          ∧ r.2.mem ((c.tc : Thread Cert.InprojRefIdeal.nD Cert.InprojRefIdeal.τ).loc Cert.InprojRefIdeal.main_v43) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_ProjKernel_ProjKernelIdeal : Prop :=
  True

def algebraic_ProjKernelIdeal_ProjRefIdeal [hProjKernelIdeal : Cert.ProjKernelIdeal.Facts] [hProjRefIdeal : Cert.ProjRefIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjKernelIdeal m →
    (∀ c : Dev Cert.ProjKernelIdeal.nD,
      m' ((c.tc : Thread Cert.ProjRefIdeal.nD Cert.ProjRefIdeal.τ).loc Cert.ProjRefIdeal.main_arg0) = m ((c.tc : Thread Cert.ProjKernelIdeal.nD Cert.ProjKernelIdeal.τ).loc Cert.ProjKernelIdeal.main_arg0)
      ∧ m' ((c.tc : Thread Cert.ProjRefIdeal.nD Cert.ProjRefIdeal.τ).loc Cert.ProjRefIdeal.main_arg1) = m ((c.tc : Thread Cert.ProjKernelIdeal.nD Cert.ProjKernelIdeal.τ).loc Cert.ProjKernelIdeal.main_arg1)
      ∧ m' ((c.tc : Thread Cert.ProjRefIdeal.nD Cert.ProjRefIdeal.τ).loc Cert.ProjRefIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v4_0)) (v1 : (c : Dev Cert.ProjKernelIdeal.nD) → Buf (Elt Ideal) ((c.tc : Thread Cert.ProjKernelIdeal.nD Cert.ProjKernelIdeal.τ).loc Cert.ProjKernelIdeal.main_v4_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4_0) = v0 c
          ∧ r.2.mem ((c.tc : Thread Cert.ProjKernelIdeal.nD Cert.ProjKernelIdeal.τ).loc Cert.ProjKernelIdeal.main_v4_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v22) = v0 c
          ∧ r.2.mem ((c.tc : Thread Cert.ProjRefIdeal.nD Cert.ProjRefIdeal.τ).loc Cert.ProjRefIdeal.main_v23) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_MixKernel_MixKernelIdeal : Prop :=
  True

def Claim : Prop :=
  ∃ (hMlpKernel : Cert.MlpKernel.Facts) (hMlpKernelIdeal : Cert.MlpKernelIdeal.Facts) (hMlpRefIdeal : Cert.MlpRefIdeal.Facts) (hGlaKernel : Cert.GlaKernel.Facts) (hGlaKernelIdeal : Cert.GlaKernelIdeal.Facts) (hGlaRefIdeal : Cert.GlaRefIdeal.Facts) (hInprojKernel : Cert.InprojKernel.Facts) (hInprojKernelIdeal : Cert.InprojKernelIdeal.Facts) (hInprojRefIdeal : Cert.InprojRefIdeal.Facts) (hProjKernel : Cert.ProjKernel.Facts) (hProjKernelIdeal : Cert.ProjKernelIdeal.Facts) (hProjRefIdeal : Cert.ProjRefIdeal.Facts) (hMixKernel : Cert.MixKernel.Facts) (hMixKernelIdeal : Cert.MixKernelIdeal.Facts) (hPre_finite_mlp : Cert.Pre_finite_mlp.Facts) (hPre_finite_gla : Cert.Pre_finite_gla.Facts) (hPre_finite_inproj : Cert.Pre_finite_inproj.Facts),
    quiescent_MlpKernel (hMlpKernel := hMlpKernel)
    ∧ quiescent_MlpKernelIdeal (hMlpKernelIdeal := hMlpKernelIdeal)
    ∧ quiescent_MlpKernelIdeal_pre_finite_mlp (hMlpKernelIdeal := hMlpKernelIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_GlaKernel (hGlaKernel := hGlaKernel)
    ∧ quiescent_GlaKernelIdeal (hGlaKernelIdeal := hGlaKernelIdeal)
    ∧ quiescent_GlaKernelIdeal_pre_finite_gla (hGlaKernelIdeal := hGlaKernelIdeal) (hPre_finite_gla := hPre_finite_gla)
    ∧ quiescent_GlaRefIdeal (hGlaRefIdeal := hGlaRefIdeal)
    ∧ quiescent_GlaRefIdeal_pre_finite_gla (hGlaRefIdeal := hGlaRefIdeal) (hPre_finite_gla := hPre_finite_gla)
    ∧ quiescent_InprojKernel (hInprojKernel := hInprojKernel)
    ∧ quiescent_InprojKernelIdeal (hInprojKernelIdeal := hInprojKernelIdeal)
    ∧ quiescent_InprojKernelIdeal_pre_finite_inproj (hInprojKernelIdeal := hInprojKernelIdeal) (hPre_finite_inproj := hPre_finite_inproj)
    ∧ quiescent_InprojRefIdeal (hInprojRefIdeal := hInprojRefIdeal)
    ∧ quiescent_InprojRefIdeal_pre_finite_inproj (hInprojRefIdeal := hInprojRefIdeal) (hPre_finite_inproj := hPre_finite_inproj)
    ∧ quiescent_ProjKernel (hProjKernel := hProjKernel)
    ∧ quiescent_ProjKernelIdeal (hProjKernelIdeal := hProjKernelIdeal)
    ∧ quiescent_ProjRefIdeal (hProjRefIdeal := hProjRefIdeal)
    ∧ quiescent_MixKernel (hMixKernel := hMixKernel)
    ∧ quiescent_MixKernelIdeal (hMixKernelIdeal := hMixKernelIdeal)
    ∧ preserves_MlpKernel_MlpKernelIdeal
    ∧ algebraic_MlpKernelIdeal_MlpRefIdeal_pre_finite_mlp (hMlpKernelIdeal := hMlpKernelIdeal) (hMlpRefIdeal := hMlpRefIdeal) (hPre_finite_mlp := hPre_finite_mlp)
    ∧ preserves_GlaKernel_GlaKernelIdeal
    ∧ algebraic_GlaKernelIdeal_GlaRefIdeal_pre_finite_gla (hGlaKernelIdeal := hGlaKernelIdeal) (hGlaRefIdeal := hGlaRefIdeal) (hPre_finite_gla := hPre_finite_gla)
    ∧ preserves_InprojKernel_InprojKernelIdeal
    ∧ algebraic_InprojKernelIdeal_InprojRefIdeal_pre_finite_inproj (hInprojKernelIdeal := hInprojKernelIdeal) (hInprojRefIdeal := hInprojRefIdeal) (hPre_finite_inproj := hPre_finite_inproj)
    ∧ preserves_ProjKernel_ProjKernelIdeal
    ∧ algebraic_ProjKernelIdeal_ProjRefIdeal (hProjKernelIdeal := hProjKernelIdeal) (hProjRefIdeal := hProjRefIdeal)
    ∧ preserves_MixKernel_MixKernelIdeal
-- ==== Pre_finite_gla.lean ====
abbrev S16384x2576 : Shape := ⟨2, ![16384, 2576]⟩
abbrev S1x16x256 : Shape := ⟨3, ![1, 16, 256]⟩
abbrev S1x256 : Shape := ⟨2, ![1, 256]⟩
abbrev S1x128 : Shape := ⟨2, ![1, 128]⟩
abbrev S16384x1024 : Shape := ⟨2, ![16384, 1024]⟩
abbrev S_ : Shape := ⟨0, ![]⟩

class Facts : Prop where
  bcast_S_S16384x2576 : S_.BroadcastsInDim S16384x2576 (![] : Fin 0 → Fin S16384x2576.rank)
  bcast_S_S1x16x256 : S_.BroadcastsInDim S1x16x256 (![] : Fin 0 → Fin S1x16x256.rank)
  bcast_S_S1x256 : S_.BroadcastsInDim S1x256 (![] : Fin 0 → Fin S1x256.rank)
  bcast_S_S1x128 : S_.BroadcastsInDim S1x128 (![] : Fin 0 → Fin S1x128.rank)
  bcast_S_S16384x1024 : S_.BroadcastsInDim S16384x1024 (![] : Fin 0 → Fin S16384x1024.rank)

variable [Facts]

def fn {F : FTy → Type} [FloatOps F] (main_arg0 : FVec F S16384x2576 .f32) (main_arg1 : FVec F S1x16x256 .f32) (main_arg2 : FVec F S1x256 .f32) (main_arg3 : FVec F S1x128 .f32) (main_arg4 : FVec F S16384x1024 .f32) : IVec S16384x2576 1 × IVec S1x16x256 1 × IVec S1x256 1 × IVec S1x128 1 × IVec S16384x1024 1 :=
  let main_v0 : FVec F S16384x2576 .f32 := Host.absf main_arg0
  let main_cst : FVec F S_ .f32 := constant S_ .f32 0x7F800000#32
  let main_v1 : FVec F S16384x2576 .f32 := broadcastInDim S16384x2576 ![] bcast_S_S16384x2576 main_cst
  let main_v2 : IVec S16384x2576 1 := cmpf .olt main_v0 main_v1
  let main_v3 : FVec F S1x16x256 .f32 := Host.absf main_arg1
  let main_cst_0 : FVec F S_ .f32 := constant S_ .f32 0x7F800000#32
  let main_v4 : FVec F S1x16x256 .f32 := broadcastInDim S1x16x256 ![] bcast_S_S1x16x256 main_cst_0
  let main_v5 : IVec S1x16x256 1 := cmpf .olt main_v3 main_v4
  let main_v6 : FVec F S1x256 .f32 := Host.absf main_arg2
  let main_cst_1 : FVec F S_ .f32 := constant S_ .f32 0x7F800000#32
  let main_v7 : FVec F S1x256 .f32 := broadcastInDim S1x256 ![] bcast_S_S1x256 main_cst_1
  let main_v8 : IVec S1x256 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_inproj.lean ====
abbrev S1x16384x1024 : Shape := ⟨3, ![1, 16384, 1024]⟩
abbrev S1x1024 : Shape := ⟨2, ![1, 1024]⟩
abbrev S1x1024x2576 : Shape := ⟨3, ![1, 1024, 2576]⟩
abbrev S16384x2576 : Shape := ⟨2, ![16384, 2576]⟩
abbrev S_ : Shape := ⟨0, ![]⟩

class Facts : Prop where
  bcast_S_S1x16384x1024 : S_.BroadcastsInDim S1x16384x1024 (![] : Fin 0 → Fin S1x16384x1024.rank)
  bcast_S_S1x1024 : S_.BroadcastsInDim S1x1024 (![] : Fin 0 → Fin S1x1024.rank)
  bcast_S_S1x1024x2576 : S_.BroadcastsInDim S1x1024x2576 (![] : Fin 0 → Fin S1x1024x2576.rank)
  bcast_S_S16384x2576 : S_.BroadcastsInDim S16384x2576 (![] : Fin 0 → Fin S16384x2576.rank)

variable [Facts]

def fn {F : FTy → Type} [FloatOps F] (main_arg0 : FVec F S1x16384x1024 .f32) (main_arg1 : FVec F S1x1024 .f32) (main_arg2 : FVec F S1x1024x2576 .f32) (main_arg3 : FVec F S1x16384x1024 .f32) (main_arg4 : FVec F S16384x2576 .f32) : IVec S1x16384x1024 1 × IVec S1x1024 1 × IVec S1x1024x2576 1 × IVec S1x16384x1024 1 × IVec S16384x2576 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2576 .f32 := Host.absf main_arg2
  let main_cst_1 : FVec F S_ .f32 := constant S_ .f32 0x7F800000#32
  let main_v7 : FVec F S1x1024x2576 .f32 := broadcastInDim S1x1024x2576 ![] bcast_S_S1x1024x2576 main_cst_1
  let main_v8 : IVec S1x1024x2576 1 := cmpf .olt main_v6 main_v7
  let main_v9 : FVec F S1x16384x1024 .f32 := Host.absf main_arg3
  let main_cst_2 : FVec F S_ .f32 := constant S_ .f32 0x7F800000#32
  let main_v10 : FVec F S1x16384x1024 .f32 := broadcastInDim S1x16384x1024 ![] bcast_S_S1x16384x1024 main_cst_2
  let main_v11 : IVec S1x16384x1024 1 := cmpf .olt main_v9 main_v10
  let main_v12 : FVec F S16384x2576 .f32 := Host.absf main_arg4
  let main_cst_3 : FVec F S_ .f32 := constant S_ .f32 0x7F800000#32
  let main_v13 : FVec F S16384x2576 .f32 := broadcastInDim S16384x2576 ![] bcast_S_S16384x2576 main_cst_3
  let main_v14 : IVec S16384x2576 1 := cmpf .olt main_v12 main_v13
  (main_v2, main_v5, main_v8, main_v11, main_v14)
-- ==== Pre_finite_mlp.lean ====
abbrev S1x16384x1024 : Shape := ⟨3, ![1, 16384, 1024]⟩
abbrev S16384x1024 : Shape := ⟨2, ![16384, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S1x16384x1024 : S_.BroadcastsInDim S1x16384x1024 (![] : Fin 0 → Fin S1x16384x1024.rank)
  bcast_S_S16384x1024 : S_.BroadcastsInDim S16384x1024 (![] : Fin 0 → Fin S16384x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)
  bcast_S_S1024 : S_.BroadcastsInDim S1024 (![] : Fin 0 → Fin S1024.rank)

variable [Facts]

def fn_part1 {F : FTy → Type} [FloatOps F] (main_arg6 : FVec F S1x4096x1024 .f32) (main_arg7 : FVec F S1024 .f32) (main_v2 : IVec S1x16384x1024 1) (main_v5 : IVec S16384x1024 1) (main_v8 : IVec S1x16384x1024 1) (main_v11 : IVec S1x1024x1024 1) (main_v14 : IVec S1x1024 1) (main_v17 : IVec S1x1024x4096 1) : IVec S1x16384x1024 1 × IVec S16384x1024 1 × IVec S1x16384x1024 1 × IVec S1x1024x1024 1 × IVec S1x1024 1 × IVec S1x1024x4096 1 × IVec S1x4096x1024 1 × IVec S1024 1 :=
  let main_v18 : FVec F S1x4096x1024 .f32 := Host.absf main_arg6
  let main_cst_5 : FVec F S_ .f32 := constant S_ .f32 0x7F800000#32
  let main_v19 : FVec F S1x4096x1024 .f32 := broadcastInDim S1x4096x1024 ![] bcast_S_S1x4096x1024 main_cst_5
  let main_v20 : IVec S1x4096x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S1x16384x1024 .f32) (main_arg1 : FVec F S16384x1024 .f32) (main_arg2 : FVec F S1x16384x1024 .f32) (main_arg3 : FVec F S1x1024x1024 .f32) (main_arg4 : FVec F S1x1024 .f32) (main_arg5 : FVec F S1x1024x4096 .f32) (main_arg6 : FVec F S1x4096x1024 .f32) (main_arg7 : FVec F S1024 .f32) : IVec S1x16384x1024 1 × IVec S16384x1024 1 × IVec S1x16384x1024 1 × IVec S1x1024x1024 1 × IVec S1x1024 1 × IVec S1x1024x4096 1 × IVec S1x4096x1024 1 × IVec S1024 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1x16384x1024 .f32 := Host.absf main_arg2
  let main_cst_1 : FVec F S_ .f32 := constant S_ .f32 0x7F800000#32
  let main_v7 : FVec F S1x16384x1024 .f32 := broadcastInDim S1x16384x1024 ![] bcast_S_S1x16384x1024 main_cst_1
  let main_v8 : IVec S1x16384x1024 1 := cmpf .olt main_v6 main_v7
  let main_v9 : FVec F S1x1024x1024 .f32 := Host.absf main_arg3
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x4096 .f32 := Host.absf main_arg5
  let main_cst_4 : FVec F S_ .f32 := constant S_ .f32 0x7F800000#32
  let main_v16 : FVec F S1x1024x4096 .f32 := broadcastInDim S1x1024x4096 ![] bcast_S_S1x1024x4096 main_cst_4
  let main_v17 : IVec S1x1024x4096 1 := cmpf .olt main_v15 main_v16
  fn_part1 (F := F) main_arg6 main_arg7 main_v2 main_v5 main_v8 main_v11 main_v14 main_v17
-- ==== MlpKernel.lean ====
abbrev S1x16384x1024 : Shape := ⟨3, ![1, 16384, 1024]⟩
abbrev S16384x1024 : Shape := ⟨2, ![16384, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x512 : Shape := ⟨2, ![16384, 512]⟩
abbrev S1024x1024 : Shape := ⟨2, ![1024, 1024]⟩
abbrev S1024x4096 : Shape := ⟨2, ![1024, 4096]⟩
abbrev S4096x1024 : Shape := ⟨2, ![4096, 1024]⟩
abbrev S16384x4096 : Shape := ⟨2, ![16384, 4096]⟩
abbrev S1x1 : Shape := ⟨2, ![1, 1]⟩
abbrev S256x1024 : Shape := ⟨2, ![256, 1024]⟩
abbrev S256x512 : Shape := ⟨2, ![256, 512]⟩
abbrev S256x4096 : Shape := ⟨2, ![256, 4096]⟩
abbrev S512x1024 : Shape := ⟨2, ![512, 1024]⟩
abbrev S256 : Shape := ⟨1, ![256]⟩
abbrev S256x1 : Shape := ⟨2, ![256, 1]⟩
abbrev S1 : Shape := ⟨1, ![1]⟩

abbrev nBuf : Space → Nat
  | .hbm => 31
  | .vmem => 28
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S1x16384x1024, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S16384x1024, .f32⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .bf16⟩
  | .hbm, ⟨13, _⟩ => ⟨S16384x1024, .f32⟩
  | .hbm, ⟨14, _⟩ => ⟨S1024x1024, .f32⟩
  | .hbm, ⟨15, _⟩ => ⟨S1024x1024, .bf16⟩
  | .hbm, ⟨16, _⟩ => ⟨S1024x4096, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S16384x1024, .f32⟩
  | .hbm, ⟨23, _⟩ => ⟨S16384x1024, .bf16⟩
  | .hbm, ⟨24, _⟩ => ⟨S16384x1024, .bf16⟩
  | .hbm, ⟨25, _⟩ => ⟨S16384x4096, .bf16⟩
  | .hbm, ⟨26, _⟩ => ⟨S16384x4096, .bf16⟩
  | .hbm, ⟨27, _⟩ => ⟨S16384x1024, .bf16⟩
  | .hbm, ⟨28, _⟩ => ⟨S1x1, .f32⟩
  | .hbm, ⟨29, _⟩ => ⟨S1x1024, .f32⟩
  | .hbm, ⟨30, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S4096x1024, .bf16⟩
  | .local _ .vmem, ⟨11, _⟩ => ⟨S4096x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x1024, .bf16⟩
  | .local _ .vmem, ⟨24, _⟩ => ⟨S256x1024, .bf16⟩
  | .local _ .vmem, ⟨25, _⟩ => ⟨S1x1, .f32⟩
  | .local _ .vmem, ⟨26, _⟩ => ⟨S1x1024, .f32⟩
  | .local _ .vmem, ⟨27, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev main_v14_8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlpRefIdeal.lean ====
abbrev S1x16384x1024 : Shape := ⟨3, ![1, 16384, 1024]⟩
abbrev S16384x1024 : Shape := ⟨2, ![16384, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16384x4096 : Shape := ⟨2, ![16384, 4096]⟩
abbrev S1024x1024 : Shape := ⟨2, ![1024, 1024]⟩
abbrev S1024x4096 : Shape := ⟨2, ![1024, 4096]⟩
abbrev S4096x1024 : Shape := ⟨2, ![4096, 1024]⟩
abbrev S16384 : Shape := ⟨1, ![16384]⟩
abbrev S16384x1 : Shape := ⟨2, ![16384, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S1x16384x1024, .f32⟩
  | 1 => ⟨S16384x1024, .f32⟩
  | 2 => ⟨S1x16384x1024, .f32⟩
  | 3 => ⟨S1x1024x1024, .f32⟩
  | 4 => ⟨S1x1024, .f32⟩
  | 5 => ⟨S1x1024x4096, .f32⟩
  | 6 => ⟨S1x4096x1024, .f32⟩
  | 7 => ⟨S1024, .f32⟩
  | 8 => ⟨S16384x1024, .f32⟩
  | 9 => ⟨S1024, .f32⟩
  | 10 => ⟨S_, .f32⟩
  | 11 => ⟨S16384x4096, .f32⟩
  | 12 => ⟨S_, .f32⟩
  | 13 => ⟨S16384x1024, .f32⟩
  | 14 => ⟨S1024x1024, .f32⟩
  | 15 => ⟨S1024x4096, .f32⟩
  | 16 => ⟨S4096x1024, .f32⟩
  | 17 => ⟨S16384x1024, .f32⟩
  | 18 => ⟨S16384x1024, .f32⟩
  | 19 => ⟨S16384x1024, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S1x1024, .f32⟩
  | 38 => ⟨S16384x1024, .f32⟩
  | 39 => ⟨S16384x1024, .f32⟩
  | 40 => ⟨S16384x4096, .f32⟩
  | 41 => ⟨S16384x4096, .f32⟩
  | 42 => ⟨S_, .f32⟩
  | 43 => ⟨S16384x4096, .f32⟩
  | 44 => ⟨S16384x4096, .f32⟩
  | 45 => ⟨S_, .f32⟩
  | 46 => ⟨S16384x4096, .f32⟩
  | 47 => ⟨S16384x4096, .i1⟩
  | 48 => ⟨S_, .f32⟩
  | 49 => ⟨S16384x4096, .f32⟩
  | 50 => ⟨S16384x4096, .f32⟩
  | 51 => ⟨S_, .f32⟩
  | 52 => ⟨S16384x4096, .f32⟩
  | 53 => ⟨S16384x4096, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x1024, .f32⟩
  | 73 => ⟨S16384x1024, .f32⟩
  | 74 => ⟨S1x1024, .f32⟩
  | 75 => ⟨S16384x1024, .f32⟩
  | 76 => ⟨S16384x1024, .f32⟩
  | 77 => ⟨S16384x1024, .f32⟩
  | 78 => ⟨S16384x1024, .f32⟩
  | 79 => ⟨S_, .f32⟩
  | 80 => ⟨S16384x1024, .f32⟩
  | 81 => ⟨S16384x1024, .f32⟩
  | 82 => ⟨S_, .f32⟩
  | 83 => ⟨S16384, .f32⟩
  | 84 => ⟨S_, .f32⟩
  | 85 => ⟨S16384, .f32⟩
  | 86 => ⟨S16384, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S16384, .f32⟩
  | 95 => ⟨S_, .f32⟩
  | 96 => ⟨S16384, .f32⟩
  | 97 => ⟨S16384, .f32⟩
  | 98 => ⟨S16384x1024, .f32⟩
  | 99 => ⟨S16384x1024, .f32⟩
  | 100 => ⟨S16384x1024, .f32⟩
  | 101 => ⟨S_, .f32⟩
  | 102 => ⟨S1024, .f32⟩
  | 103 => ⟨S1x1024, .f32⟩
  | 104 => ⟨S16384x1024, .f32⟩
  | 105 => ⟨S16384x1024, .f32⟩
  | 106 => ⟨S_, .f32⟩
  | 107 => ⟨S1024, .f32⟩
  | 108 => ⟨S16384x1024, .f32⟩
  | 109 => ⟨S_, .f32⟩
  | 110 => ⟨S16384, .f32⟩
  | 111 => ⟨S16384x1, .f32⟩
  | 112 => ⟨S16384x1024, .f32⟩
  | 113 => ⟨S16384x1024, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S16384x4096, .f32⟩
  | 126 => ⟨S16384x4096, .f32⟩
  | 127 => ⟨S_, .f32⟩
  | _ => ⟨S1x16384x1024, .f32⟩

abbrev hbmTy0_1 (i : Nat) : BufTy := match i % 128 with
  | 0 => ⟨S16384x4096, .f32⟩
  | 1 => ⟨S16384x4096, .f32⟩
  | 2 => ⟨S16384x1024, .f32⟩
  | 3 => ⟨S16384x1024, .f32⟩
  | 4 => ⟨S_, .f32⟩
  | 5 => ⟨S1024, .f32⟩
  | 6 => ⟨S1x1024, .f32⟩
  | 7 => ⟨S16384x1024, .f32⟩
  | 8 => ⟨S16384x1024, .f32⟩
  | 9 => ⟨S_, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S16384x1024, .f32⟩
  | 16 => ⟨S16384x1024, .f32⟩
  | 17 => ⟨S16384x1024, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S16384x1024, .bf16⟩
  | 31 => ⟨S16384x1024, .bf16⟩
  | 32 => ⟨S16384x4096, .bf16⟩
  | 33 => ⟨S16384x4096, .bf16⟩
  | 34 => ⟨S16384x1024, .bf16⟩
  | 35 => ⟨S1x1, .f32⟩
  | 36 => ⟨S1x1024, .f32⟩
  | 37 => ⟨S1x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_cst_17 : Ref sig .tc := ⟨.hbm, 91, rfl⟩
abbrev main_cst_18 : Ref sig .tc := ⟨.hbm, 92, rfl⟩
abbrev main_v63 : Ref sig .tc := ⟨.hbm, 93, rfl⟩
abbrev main_v64 : Ref sig .tc := ⟨.hbm, 94, rfl⟩
abbrev main_cst_19 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_20 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_v74 : Ref sig .tc := ⟨.hbm, 107, rfl⟩
abbrev main_v75 : Ref sig .tc := ⟨.hbm, 108, rfl⟩
abbrev main_cst_22 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_23 : Ref sig .tc := ⟨.hbm, 115, rfl⟩
abbrev main_v81 : Ref sig .tc := ⟨.hbm, 116, rfl⟩
abbrev main_v82 : Ref sig .tc := ⟨.hbm, 117, rfl⟩
abbrev main_cst_24 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_26 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_27 : Ref sig .tc := ⟨.hbm, 137, rfl⟩
abbrev main_v99 : Ref sig .tc := ⟨.hbm, 138, rfl⟩
abbrev main_v100 : Ref sig .tc := ⟨.hbm, 139, rfl⟩
abbrev main_cst_28 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_29 : Ref sig .tc := ⟨.hbm, 147, rfl⟩
abbrev main_v107 : Ref sig .tc := ⟨.hbm, 148, rfl⟩
abbrev main_v108 : Ref sig .tc := ⟨.hbm, 149, rfl⟩
abbrev main_cst_30 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩

abbrev nD : Nat := 1
abbrev τ : Topo := Topo.v7x

variable {F : FTy → Type} [FloatOps F]
-- ==== GlaKernel.lean ====
abbrev S16384x2576 : Shape := ⟨2, ![16384, 2576]⟩
abbrev S1x16x256 : Shape := ⟨3, ![1, 16, 256]⟩
abbrev S1x256 : Shape := ⟨2, ![1, 256]⟩
abbrev S1x128 : Shape := ⟨2, ![1, 128]⟩
abbrev S16384x1024 : Shape := ⟨2, ![16384, 1024]⟩
abbrev S16384x1552 : Shape := ⟨2, ![16384, 1552]⟩
abbrev S16x256 : Shape := ⟨2, ![16, 256]⟩
abbrev S256 : Shape := ⟨1, ![256]⟩
abbrev S16384x256 : Shape := ⟨2, ![16384, 256]⟩
abbrev S16384x4x64 : Shape := ⟨3, ![16384, 4, 64]⟩
abbrev S_ : Shape := ⟨0, ![]⟩
abbrev S16384x512 : Shape := ⟨2, ![16384, 512]⟩
abbrev S16384x4x128 : Shape := ⟨3, ![16384, 4, 128]⟩
abbrev S16384x16 : Shape := ⟨2, ![16384, 16]⟩
abbrev S16384x16384 : Shape := ⟨2, ![16384, 16384]⟩
abbrev S16384x16384x1x1 : Shape := ⟨4, ![16384, 16384, 1, 1]⟩
abbrev S16384x1x4x64 : Shape := ⟨4, ![16384, 1, 4, 64]⟩
abbrev S1x16384x4x64 : Shape := ⟨4, ![1, 16384, 4, 64]⟩
abbrev S16384x16384x4x64 : Shape := ⟨4, ![16384, 16384, 4, 64]⟩
abbrev S16384x16384x4 : Shape := ⟨3, ![16384, 16384, 4]⟩
abbrev S4x128x16384 : Shape := ⟨3, ![4, 128, 16384]⟩
abbrev S1x512x256 : Shape := ⟨3, ![1, 512, 256]⟩
abbrev S256x64x4x64 : Shape := ⟨4, ![256, 64, 4, 64]⟩
abbrev S256x1x4x64 : Shape := ⟨4, ![256, 1, 4, 64]⟩
abbrev S256x4x64 : Shape := ⟨3, ![256, 4, 64]⟩
abbrev S256x16384 : Shape := ⟨2, ![256, 16384]⟩
abbrev S256x16384x1x1 : Shape := ⟨4, ![256, 16384, 1, 1]⟩
abbrev S256x16384x4x64 : Shape := ⟨4, ![256, 16384, 4, 64]⟩
abbrev S4x128x256x64 : Shape := ⟨4, ![4, 128, 256, 64]⟩
abbrev S256x4x128x64 : Shape := ⟨4, ![256, 4, 128, 64]⟩
abbrev S256x512x64 : Shape := ⟨3, ![256, 512, 64]⟩
abbrev S1x256x1x512x1x64 : Shape := ⟨6, ![1, 256, 1, 512, 1, 64]⟩
abbrev S1x256x1x512x4x64 : Shape := ⟨6, ![1, 256, 1, 512, 4, 64]⟩
abbrev S256x512x256 : Shape := ⟨3, ![256, 512, 256]⟩
abbrev S128x256 : Shape := ⟨2, ![128, 256]⟩
abbrev S16384x1536 : Shape := ⟨2, ![16384, 1536]⟩
abbrev S16384x128 : Shape := ⟨2, ![16384, 128]⟩
abbrev S16384x2688 : Shape := ⟨2, ![16384, 2688]⟩
abbrev S16384x1664 : Shape := ⟨2, ![16384, 1664]⟩
abbrev S512x256 : Shape := ⟨2, ![512, 256]⟩
abbrev S512x512 : Shape := ⟨2, ![512, 512]⟩
abbrev S512x128 : Shape := ⟨2, ![512, 128]⟩
abbrev S8x512x256 : Shape := ⟨3, ![8, 512, 256]⟩
abbrev S512x1664 : Shape := ⟨2, ![512, 1664]⟩
abbrev S512 : Shape := ⟨1, ![512]⟩
abbrev S512x1 : Shape := ⟨2, ![512, 1]⟩
abbrev S128 : Shape := ⟨1, ![128]⟩
abbrev S256x256 : Shape := ⟨2, ![256, 256]⟩
abbrev S256x128 : Shape := ⟨2, ![256, 128]⟩
abbrev S64x512 : Shape := ⟨2, ![64, 512]⟩
abbrev S64x256 : Shape := ⟨2, ![64, 256]⟩

abbrev nBuf : Space → Nat
  | .hbm => 176
  | .vmem => 27
  | .smem => 0
  | _ => 0

abbrev hbmTy0_0 (i : Nat) : BufTy := match i % 128 with
  | 0 => ⟨S16384x2576, .f32⟩
  | 1 => ⟨S1x16x256, .f32⟩
  | 2 => ⟨S1x256, .f32⟩
  | 3 => ⟨S1x128, .f32⟩
  | 4 => ⟨S16384x1024, .f32⟩
  | 5 => ⟨S16384x1552, .f32⟩
  | 6 => ⟨S16x256, .f32⟩
  | 7 => ⟨S256, .f32⟩
  | 8 => ⟨S16384x256, .f32⟩
  | 9 => ⟨S16384x4x64, .f32⟩
  | 10 => ⟨S_, .f32⟩
  | 11 => ⟨S16384x4x64, .f32⟩
  | 12 => ⟨S16384x4x64, .f32⟩
  | 13 => ⟨S16384x256, .f32⟩
  | 14 => ⟨S16384x4x64, .f32⟩
  | 15 => ⟨S16384x512, .f32⟩
  | 16 => ⟨S16384x4x128, .f32⟩
  | 17 => ⟨S16384x16, .f32⟩
  | 18 => ⟨S16384x256, .f32⟩
  | 19 => ⟨S1x256, .f32⟩
  | 20 => ⟨S16384x256, .f32⟩
  | 21 => ⟨S16384x256, .f32⟩
  | 22 => ⟨S16384x256, .f32⟩
  | 23 => ⟨S_, .f32⟩
  | 24 => ⟨S16384x256, .f32⟩
  | 25 => ⟨S16384x256, .f32⟩
  | 26 => ⟨S16384x256, .f32⟩
  | 27 => ⟨S16384x256, .f32⟩
  | 28 => ⟨S16384x256, .i1⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S16384x256, .f32⟩
  | 37 => ⟨S16384x256, .f32⟩
  | 38 => ⟨S_, .f32⟩
  | 39 => ⟨S16384x256, .f32⟩
  | 40 => ⟨S16384x256, .f32⟩
  | 41 => ⟨S16384x4x64, .f32⟩
  | 42 => ⟨S_, .f32⟩
  | 43 => ⟨S_, .f32⟩
  | 44 => ⟨S16384x4x64, .f32⟩
  | 45 => ⟨S_, .i1⟩
  | 46 => ⟨S16384x16384, .i1⟩
  | 47 => ⟨S16384x16384, .i32⟩
  | 48 => ⟨S_, .i32⟩
  | 49 => ⟨S16384x16384, .i32⟩
  | 50 => ⟨S16384x16384, .i32⟩
  | 51 => ⟨S16384x16384, .i32⟩
  | 52 => ⟨S16384x16384, .i1⟩
  | 53 => ⟨S_, .i1⟩
  | 54 => ⟨S16384x16384, .i1⟩
  | 55 => ⟨S16384x16384, .i1⟩
  | 56 => ⟨S16384x16384x1x1, .i1⟩
  | 57 => ⟨S16384x1x4x64, .f32⟩
  | 58 => ⟨S1x16384x4x64, .f32⟩
  | 59 => ⟨S16384x16384x4x64, .f32⟩
  | 60 => ⟨S16384x16384x4x64, .f32⟩
  | 61 => ⟨S16384x16384x4x64, .f32⟩
  | 62 => ⟨S_, .f32⟩
  | 63 => ⟨S_, .f32⟩
  | 64 => ⟨S16384x16384x4x64, .i1⟩
  | 65 => ⟨S16384x16384x4x64, .f32⟩
  | 66 => ⟨S16384x16384x4x64, .f32⟩
  | 67 => ⟨S16384x16384x4x64, .f32⟩
  | 68 => ⟨S16384x1x4x64, .f32⟩
  | 69 => ⟨S1x16384x4x64, .f32⟩
  | 70 => ⟨S16384x16384x4x64, .f32⟩
  | 71 => ⟨S16384x16384x4x64, .f32⟩
  | 72 => ⟨S16384x16384x4x64, .f32⟩
  | 73 => ⟨S16384x16384x4x64, .f32⟩
  | 74 => ⟨S_, .f32⟩
  | 75 => ⟨S16384x16384x4, .f32⟩
  | 76 => ⟨S4x128x16384, .f32⟩
  | 77 => ⟨S16384x4x128, .f32⟩
  | 78 => ⟨S16384x512, .f32⟩
  | 79 => ⟨S1x512x256, .i32⟩
  | 80 => ⟨S_, .i32⟩
  | 81 => ⟨S_, .i32⟩
  | 82 => ⟨S1x512x256, .i32⟩
  | 83 => ⟨S1x512x256, .i32⟩
  | 84 => ⟨S1x512x256, .i32⟩
  | 85 => ⟨S_, .i32⟩
  | 86 => ⟨S1x512x256, .i32⟩
  | 87 => ⟨S1x512x256, .i1⟩
  | 88 => ⟨S1x512x256, .i32⟩
  | 89 => ⟨S1x512x256, .i32⟩
  | 90 => ⟨S_, .i32⟩
  | 91 => ⟨S1x512x256, .i32⟩
  | 92 => ⟨S1x512x256, .i1⟩
  | 93 => ⟨S1x512x256, .i1⟩
  | 94 => ⟨S_, .i32⟩
  | 95 => ⟨S1x512x256, .i32⟩
  | 96 => ⟨S1x512x256, .i32⟩
  | 97 => ⟨S1x512x256, .i32⟩
  | 98 => ⟨S1x512x256, .i32⟩
  | 99 => ⟨S_, .i32⟩
  | 100 => ⟨S_, .i32⟩
  | 101 => ⟨S1x512x256, .i32⟩
  | 102 => ⟨S1x512x256, .i32⟩
  | 103 => ⟨S1x512x256, .i32⟩
  | 104 => ⟨S_, .i32⟩
  | 105 => ⟨S1x512x256, .i32⟩
  | 106 => ⟨S1x512x256, .i1⟩
  | 107 => ⟨S1x512x256, .i32⟩
  | 108 => ⟨S1x512x256, .i32⟩
  | 109 => ⟨S_, .i32⟩
  | 110 => ⟨S1x512x256, .i32⟩
  | 111 => ⟨S1x512x256, .i1⟩
  | 112 => ⟨S1x512x256, .i1⟩
  | 113 => ⟨S_, .i32⟩
  | 114 => ⟨S1x512x256, .i32⟩
  | 115 => ⟨S1x512x256, .i32⟩
  | 116 => ⟨S1x512x256, .i32⟩
  | 117 => ⟨S1x512x256, .i1⟩
  | 118 => ⟨S_, .f32⟩
  | 119 => ⟨S_, .f32⟩
  | 120 => ⟨S16384x4x64, .f32⟩
  | 121 => ⟨S16384x4x64, .f32⟩
  | 122 => ⟨S256x64x4x64, .f32⟩
  | 123 => ⟨S256x1x4x64, .f32⟩
  | 124 => ⟨S256x4x64, .f32⟩
  | 125 => ⟨S256x16384, .i32⟩
  | 126 => ⟨S256x16384, .i32⟩
  | 127 => ⟨S_, .i32⟩
  | _ => ⟨S16384x2576, .f32⟩

abbrev hbmTy0_1 (i : Nat) : BufTy := match i % 128 with
  | 0 => ⟨S256x16384, .i32⟩
  | 1 => ⟨S256x16384, .i32⟩
  | 2 => ⟨S256x16384, .i1⟩
  | 3 => ⟨S256x16384x1x1, .i1⟩
  | 4 => ⟨S256x1x4x64, .f32⟩
  | 5 => ⟨S1x16384x4x64, .f32⟩
  | 6 => ⟨S256x16384x4x64, .f32⟩
  | 7 => ⟨S256x16384x4x64, .f32⟩
  | 8 => ⟨S256x16384x4x64, .f32⟩
  | 9 => ⟨S_, .f32⟩
  | 10 => ⟨S_, .f32⟩
  | 11 => ⟨S256x16384x4x64, .i1⟩
  | 12 => ⟨S256x16384x4x64, .f32⟩
  | 13 => ⟨S256x16384x4x64, .f32⟩
  | 14 => ⟨S256x16384x4x64, .f32⟩
  | 15 => ⟨S1x16384x4x64, .f32⟩
  | 16 => ⟨S256x16384x4x64, .f32⟩
  | 17 => ⟨S256x16384x4x64, .f32⟩
  | 18 => ⟨S4x128x256x64, .f32⟩
  | 19 => ⟨S256x4x128x64, .f32⟩
  | 20 => ⟨S256x512x64, .f32⟩
  | 21 => ⟨S1x256x1x512x1x64, .f32⟩
  | 22 => ⟨S1x256x1x512x4x64, .f32⟩
  | 23 => ⟨S256x512x256, .f32⟩
  | 24 => ⟨S_, .f32⟩
  | 25 => ⟨S_, .f32⟩
  | 26 => ⟨S256x512x256, .i1⟩
  | 27 => ⟨S256x512x256, .f32⟩
  | 28 => ⟨S256x512x256, .f32⟩
  | 29 => ⟨S256x512x256, .bf16⟩
  | 30 => ⟨S16x256, .f32⟩
  | 31 => ⟨S_, .i32⟩
  | 32 => ⟨S_, .f32⟩
  | 33 => ⟨S128x256, .f32⟩
  | 34 => ⟨S128x256, .bf16⟩
  | 35 => ⟨S16384x1536, .f32⟩
  | 36 => ⟨S16384x1024, .f32⟩
  | 37 => ⟨S16384x16, .f32⟩
  | 38 => ⟨S_, .i32⟩
  | 39 => ⟨S_, .f32⟩
  | 40 => ⟨S16384x128, .f32⟩
  | 41 => ⟨S16384x2688, .f32⟩
  | 42 => ⟨S16384x2688, .bf16⟩
  | 43 => ⟨S16384x1024, .bf16⟩
  | 44 => ⟨S16384x1664, .bf16⟩
  | 45 => ⟨S128x256, .f32⟩
  | 46 => ⟨S1x256, .f32⟩
  | 47 => ⟨S1x128, .f32⟩
  | _ => ⟨S16384x2576, .f32⟩

abbrev hbmTy (i : Nat) : BufTy := match i / 128 with
  | 0 => hbmTy0_0 i
  | 1 => hbmTy0_1 i
  | _ => ⟨S16384x2576, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x512, .f32⟩
  | .local _ .vmem, ⟨11, _⟩ => ⟨S512x512, .f32⟩
  | .local _ .vmem, ⟨12, _⟩ => ⟨S8x512x256, .bf16⟩
  | .local _ .vmem, ⟨13, _⟩ => ⟨S8x512x256, .bf16⟩
  | .local _ .vmem, ⟨14, _⟩ => ⟨S512x512, .bf16⟩
  | .local _ .vmem, ⟨15, _⟩ => ⟨S512x512, .bf16⟩
  | .local _ .vmem, ⟨16, _⟩ => ⟨S128x256, .bf16⟩
  | .local _ .vmem, ⟨17, _⟩ => ⟨S1x256, .f32⟩
  | .local _ .vmem, ⟨18, _⟩ => ⟨S1x128, .f32⟩
  | .local _ .vmem, ⟨19, _⟩ => ⟨S512x1664, .bf16⟩
  | .local _ .vmem, ⟨20, _⟩ => ⟨S512x1664, .bf16⟩
  | .local _ .vmem, ⟨21, _⟩ => ⟨S128x256, .f32⟩
  | .local _ .vmem, ⟨22, _⟩ => ⟨S1x256, .f32⟩
  | .local _ .vmem, ⟨23, _⟩ => ⟨S1x128, .f32⟩
  | .local _ .vmem, ⟨24, _⟩ => ⟨S512x256, .f32⟩
  | .local _ .vmem, ⟨25, _⟩ => ⟨S512x512, .f32⟩
  | .local _ .vmem, ⟨26, _⟩ => ⟨S512x512, .f32⟩
  | _, _ => ⟨S16384x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_call0_cst : Ref sig .tc := ⟨.hbm, 42, rfl⟩
abbrev main_call1_call0_v0 : Ref sig .tc := ⟨.hbm, 43, rfl⟩
abbrev main_v20 : Ref sig .tc := ⟨.hbm, 44, rfl⟩
abbrev main_c : Ref sig .tc := ⟨.hbm, 45, rfl⟩
abbrev main_v21 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_0 : Ref sig .tc := ⟨.hbm, 53, rfl⟩
abbrev main_call2_v5 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_1 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_3 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_c : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_0 : Ref sig .tc := ⟨.hbm, 94, rfl⟩
abbrev main_call4_v12 : Ref sig .tc := ⟨.hbm, 95, rfl⟩
abbrev main_call4_v13 : Ref sig .tc := ⟨.hbm, 96, rfl⟩
abbrev main_v42 : Ref sig .tc := ⟨.hbm, 97, rfl⟩
abbrev main_v43 : Ref sig .tc := ⟨.hbm, 98, rfl⟩
abbrev main_c_4 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_v6 : Ref sig .tc := ⟨.hbm, 106, rfl⟩
abbrev main_call5_v7 : Ref sig .tc := ⟨.hbm, 107, rfl⟩
abbrev main_call5_v8 : Ref sig .tc := ⟨.hbm, 108, rfl⟩
abbrev main_call5_c : Ref sig .tc := ⟨.hbm, 109, rfl⟩
abbrev main_call5_v9 : Ref sig .tc := ⟨.hbm, 110, rfl⟩
abbrev main_call5_v10 : Ref sig .tc := ⟨.hbm, 111, rfl⟩
abbrev main_call5_v11 : Ref sig .tc := ⟨.hbm, 112, rfl⟩
abbrev main_call5_c_0 : Ref sig .tc := ⟨.hbm, 113, rfl⟩
abbrev main_call5_v12 : Ref sig .tc := ⟨.hbm, 114, rfl⟩
abbrev main_call5_v13 : Ref sig .tc := ⟨.hbm, 115, rfl⟩
abbrev main_v44 : Ref sig .tc := ⟨.hbm, 116, rfl⟩
abbrev main_v45 : Ref sig .tc := ⟨.hbm, 117, rfl⟩
abbrev main_call6_call0_cst : Ref sig .tc := ⟨.hbm, 118, rfl⟩
abbrev main_call6_call0_v0 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_c_5 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_cst_6 : Ref sig .tc := ⟨.hbm, 137, rfl⟩
abbrev main_call7_v0 : Ref sig .tc := ⟨.hbm, 138, rfl⟩
abbrev main_call7_v1 : Ref sig .tc := ⟨.hbm, 139, rfl⟩
abbrev main_call7_v2 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_cst_7 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_c_8 : Ref sig .tc := ⟨.hbm, 159, rfl⟩
abbrev main_call9_v0 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_c_9 : Ref sig .tc := ⟨.hbm, 166, rfl⟩
abbrev main_call10_v0 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85_0 : Ref sig .tc := ⟨.hbm, 172, rfl⟩
abbrev main_v85_1 : Ref sig .tc := ⟨.hbm, 173, rfl⟩
abbrev main_v85_2 : Ref sig .tc := ⟨.hbm, 174, rfl⟩
abbrev main_v85_3 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c20_i32 : BitVec 32 := 20#32
  let c0_i32 : BitVec 32 := 0#32
  ![v0.toNat, c20_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1664 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GlaRefIdeal.lean ====
abbrev S16384x2576 : Shape := ⟨2, ![16384, 2576]⟩
abbrev S1x16x256 : Shape := ⟨3, ![1, 16, 256]⟩
abbrev S1x256 : Shape := ⟨2, ![1, 256]⟩
abbrev S1x128 : Shape := ⟨2, ![1, 128]⟩
abbrev S16384x1024 : Shape := ⟨2, ![16384, 1024]⟩
abbrev S16384x1552 : Shape := ⟨2, ![16384, 1552]⟩
abbrev S16x256 : Shape := ⟨2, ![16, 256]⟩
abbrev S256 : Shape := ⟨1, ![256]⟩
abbrev S128 : Shape := ⟨1, ![128]⟩
abbrev S16384x256 : Shape := ⟨2, ![16384, 256]⟩
abbrev S16384x4x64 : Shape := ⟨3, ![16384, 4, 64]⟩
abbrev S_ : Shape := ⟨0, ![]⟩
abbrev S16384x512 : Shape := ⟨2, ![16384, 512]⟩
abbrev S16384x4x128 : Shape := ⟨3, ![16384, 4, 128]⟩
abbrev S16384x16 : Shape := ⟨2, ![16384, 16]⟩
abbrev S16384x16384 : Shape := ⟨2, ![16384, 16384]⟩
abbrev S16384x16384x1x1 : Shape := ⟨4, ![16384, 16384, 1, 1]⟩
abbrev S16384x1x4x64 : Shape := ⟨4, ![16384, 1, 4, 64]⟩
abbrev S1x16384x4x64 : Shape := ⟨4, ![1, 16384, 4, 64]⟩
abbrev S16384x16384x4x64 : Shape := ⟨4, ![16384, 16384, 4, 64]⟩
abbrev S16384x16384x4 : Shape := ⟨3, ![16384, 16384, 4]⟩
abbrev S4x128x16384 : Shape := ⟨3, ![4, 128, 16384]⟩
abbrev S16384x4 : Shape := ⟨2, ![16384, 4]⟩
abbrev S16384x4x1 : Shape := ⟨3, ![16384, 4, 1]⟩
abbrev S1x1x128 : Shape := ⟨3, ![1, 1, 128]⟩
abbrev S4x16384x16384 : Shape := ⟨3, ![4, 16384, 16384]⟩
abbrev S256x16 : Shape := ⟨2, ![256, 16]⟩
abbrev S16384x1664 : Shape := ⟨2, ![16384, 1664]⟩
abbrev S128x256 : Shape := ⟨2, ![128, 256]⟩

abbrev nBuf : Space → Nat
  | .hbm => 267
  | .vmem => 0
  | .smem => 0
  | _ => 0

abbrev hbmTy0_0 (i : Nat) : BufTy := match i % 128 with
  | 0 => ⟨S16384x2576, .f32⟩
  | 1 => ⟨S1x16x256, .f32⟩
  | 2 => ⟨S1x256, .f32⟩
  | 3 => ⟨S1x128, .f32⟩
  | 4 => ⟨S16384x1024, .f32⟩
  | 5 => ⟨S16384x1552, .f32⟩
  | 6 => ⟨S16x256, .f32⟩
  | 7 => ⟨S256, .f32⟩
  | 8 => ⟨S128, .f32⟩
  | 9 => ⟨S16384x256, .f32⟩
  | 10 => ⟨S16384x4x64, .f32⟩
  | 11 => ⟨S_, .f32⟩
  | 12 => ⟨S16384x4x64, .f32⟩
  | 13 => ⟨S16384x4x64, .f32⟩
  | 14 => ⟨S16384x256, .f32⟩
  | 15 => ⟨S16384x4x64, .f32⟩
  | 16 => ⟨S16384x512, .f32⟩
  | 17 => ⟨S16384x4x128, .f32⟩
  | 18 => ⟨S16384x16, .f32⟩
  | 19 => ⟨S16384x256, .f32⟩
  | 20 => ⟨S1x256, .f32⟩
  | 21 => ⟨S16384x256, .f32⟩
  | 22 => ⟨S16384x256, .f32⟩
  | 23 => ⟨S16384x256, .f32⟩
  | 24 => ⟨S_, .f32⟩
  | 25 => ⟨S16384x256, .f32⟩
  | 26 => ⟨S16384x256, .f32⟩
  | 27 => ⟨S16384x256, .f32⟩
  | 28 => ⟨S16384x256, .f32⟩
  | 29 => ⟨S16384x256, .i1⟩
  | 30 => ⟨S16384x256, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S16384x256, .f32⟩
  | 37 => ⟨S16384x256, .f32⟩
  | 38 => ⟨S_, .f32⟩
  | 39 => ⟨S16384x256, .f32⟩
  | 40 => ⟨S16384x256, .i1⟩
  | 41 => ⟨S_, .f32⟩
  | 42 => ⟨S16384x256, .f32⟩
  | 43 => ⟨S16384x256, .f32⟩
  | 44 => ⟨S_, .f32⟩
  | 45 => ⟨S16384x256, .f32⟩
  | 46 => ⟨S16384x256, .i1⟩
  | 47 => ⟨S_, .f32⟩
  | 48 => ⟨S16384x256, .f32⟩
  | 49 => ⟨S16384x256, .f32⟩
  | 50 => ⟨S16384x256, .f32⟩
  | 51 => ⟨S16384x256, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16384x256, .f32⟩
  | 60 => ⟨S16384x256, .i1⟩
  | 61 => ⟨S_, .f32⟩
  | 62 => ⟨S16384x256, .f32⟩
  | 63 => ⟨S16384x256, .f32⟩
  | 64 => ⟨S16384x256, .f32⟩
  | 65 => ⟨S16384x256, .f32⟩
  | 66 => ⟨S16384x256, .f32⟩
  | 67 => ⟨S_, .f32⟩
  | 68 => ⟨S16384x256, .f32⟩
  | 69 => ⟨S16384x256, .f32⟩
  | 70 => ⟨S16384x256, .f32⟩
  | 71 => ⟨S_, .f32⟩
  | 72 => ⟨S16384x256, .f32⟩
  | 73 => ⟨S16384x256, .f32⟩
  | 74 => ⟨S16384x4x64, .f32⟩
  | 75 => ⟨S_, .f32⟩
  | 76 => ⟨S_, .f32⟩
  | 77 => ⟨S16384x4x64, .f32⟩
  | 78 => ⟨S_, .i1⟩
  | 79 => ⟨S16384x16384, .i1⟩
  | 80 => ⟨S16384x16384, .i32⟩
  | 81 => ⟨S_, .i32⟩
  | 82 => ⟨S16384x16384, .i32⟩
  | 83 => ⟨S16384x16384, .i32⟩
  | 84 => ⟨S16384x16384, .i32⟩
  | 85 => ⟨S16384x16384, .i1⟩
  | 86 => ⟨S_, .i1⟩
  | 87 => ⟨S16384x16384, .i1⟩
  | 88 => ⟨S16384x16384, .i1⟩
  | 89 => ⟨S16384x16384x1x1, .i1⟩
  | 90 => ⟨S16384x1x4x64, .f32⟩
  | 91 => ⟨S1x16384x4x64, .f32⟩
  | 92 => ⟨S16384x16384x4x64, .f32⟩
  | 93 => ⟨S16384x16384x4x64, .f32⟩
  | 94 => ⟨S16384x16384x4x64, .f32⟩
  | 95 => ⟨S_, .f32⟩
  | 96 => ⟨S_, .f32⟩
  | 97 => ⟨S16384x16384x4x64, .i1⟩
  | 98 => ⟨S16384x16384x4x64, .f32⟩
  | 99 => ⟨S16384x16384x4x64, .f32⟩
  | 100 => ⟨S_, .f32⟩
  | 101 => ⟨S16384x16384x4x64, .f32⟩
  | 102 => ⟨S16384x16384x4x64, .f32⟩
  | 103 => ⟨S16384x1x4x64, .f32⟩
  | 104 => ⟨S1x16384x4x64, .f32⟩
  | 105 => ⟨S16384x16384x4x64, .f32⟩
  | 106 => ⟨S16384x16384x4x64, .f32⟩
  | 107 => ⟨S16384x16384x4x64, .f32⟩
  | 108 => ⟨S16384x16384x4x64, .f32⟩
  | 109 => ⟨S_, .f32⟩
  | 110 => ⟨S16384x16384x4, .f32⟩
  | 111 => ⟨S4x128x16384, .f32⟩
  | 112 => ⟨S16384x4x128, .f32⟩
  | 113 => ⟨S16384x4x128, .f32⟩
  | 114 => ⟨S_, .f32⟩
  | 115 => ⟨S16384x4, .f32⟩
  | 116 => ⟨S16384x4x1, .f32⟩
  | 117 => ⟨S_, .f32⟩
  | 118 => ⟨S16384x4x1, .f32⟩
  | 119 => ⟨S16384x4x1, .f32⟩
  | 120 => ⟨S_, .f32⟩
  | 121 => ⟨S16384x4x1, .f32⟩
  | 122 => ⟨S16384x4x1, .f32⟩
  | 123 => ⟨S16384x4x1, .f32⟩
  | 124 => ⟨S16384x4x1, .f32⟩
  | 125 => ⟨S_, .f32⟩
  | 126 => ⟨S16384x4x1, .f32⟩
  | 127 => ⟨S16384x4x1, .f32⟩
  | _ => ⟨S16384x2576, .f32⟩

abbrev hbmTy0_1 (i : Nat) : BufTy := match i % 128 with
  | 0 => ⟨S16384x4x128, .f32⟩
  | 1 => ⟨S16384x4x128, .f32⟩
  | 2 => ⟨S1x1x128, .f32⟩
  | 3 => ⟨S16384x4x128, .f32⟩
  | 4 => ⟨S16384x4x128, .f32⟩
  | 5 => ⟨S16384x512, .f32⟩
  | 6 => ⟨S16384x512, .f32⟩
  | 7 => ⟨S16384x512, .f32⟩
  | 8 => ⟨S16384x512, .f32⟩
  | 9 => ⟨S_, .f32⟩
  | 10 => ⟨S16384x512, .f32⟩
  | 11 => ⟨S16384x512, .f32⟩
  | 12 => ⟨S_, .f32⟩
  | 13 => ⟨S16384x512, .f32⟩
  | 14 => ⟨S16384x512, .f32⟩
  | 15 => ⟨S_, .f32⟩
  | 16 => ⟨S16384x512, .f32⟩
  | 17 => ⟨S16384x512, .f32⟩
  | 18 => ⟨S16384x512, .f32⟩
  | 19 => ⟨S16384x512, .f32⟩
  | 20 => ⟨S16384x512, .f32⟩
  | 21 => ⟨S16384x512, .f32⟩
  | 22 => ⟨S16384x512, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S_, .f32⟩
  | 29 => ⟨S16384x1552, .f32⟩
  | 30 => ⟨S16384x4x128, .f32⟩
  | 31 => ⟨S16384x4x128, .f32⟩
  | 32 => ⟨S_, .f32⟩
  | 33 => ⟨S128, .f32⟩
  | 34 => ⟨S1x1x128, .f32⟩
  | 35 => ⟨S16384x4x128, .f32⟩
  | 36 => ⟨S16384x4x128, .f32⟩
  | 37 => ⟨S_, .f32⟩
  | 38 => ⟨S128, .f32⟩
  | 39 => ⟨S16384x4x128, .f32⟩
  | 40 => ⟨S_, .f32⟩
  | 41 => ⟨S16384x4, .f32⟩
  | 42 => ⟨S16384x4x1, .f32⟩
  | 43 => ⟨S16384x4x128, .f32⟩
  | 44 => ⟨S16384x4x128, .f32⟩
  | 45 => ⟨S16384x4x1, .f32⟩
  | 46 => ⟨S_, .f32⟩
  | 47 => ⟨S16384x4x1, .f32⟩
  | 48 => ⟨S16384x4x1, .f32⟩
  | 49 => ⟨S_, .f32⟩
  | 50 => ⟨S16384x4, .f32⟩
  | 51 => ⟨S16384x4x128, .f32⟩
  | 52 => ⟨S16384x4x128, .f32⟩
  | 53 => ⟨S16384x4x128, .f32⟩
  | 54 => ⟨S16384x4x128, .f32⟩
  | 55 => ⟨S16384x4x128, .f32⟩
  | 56 => ⟨S4x128x16384, .f32⟩
  | 57 => ⟨S4x16384x16384, .f32⟩
  | 58 => ⟨S16384x16384x4, .f32⟩
  | 59 => ⟨S4x128x16384, .f32⟩
  | 60 => ⟨S16384x4x128, .f32⟩
  | 61 => ⟨S16384x16384x4x64, .f32⟩
  | 62 => ⟨S16384x16384x4x64, .f32⟩
  | 63 => ⟨S16384x16384x4x64, .f32⟩
  | 64 => ⟨S16384x16384x4x64, .f32⟩
  | 65 => ⟨S16384x16384x4x64, .f32⟩
  | 66 => ⟨S_, .f32⟩
  | 67 => ⟨S16384x4x64, .f32⟩
  | 68 => ⟨S1x16384x4x64, .f32⟩
  | 69 => ⟨S16384x16384x4x64, .f32⟩
  | 70 => ⟨S16384x16384x4x64, .f32⟩
  | 71 => ⟨S_, .f32⟩
  | 72 => ⟨S16384x4x64, .f32⟩
  | 73 => ⟨S16384x1x4x64, .f32⟩
  | 74 => ⟨S_, .f32⟩
  | 75 => ⟨S16384x4x64, .f32⟩
  | 76 => ⟨S_, .f32⟩
  | 77 => ⟨S16384x4x64, .f32⟩
  | 78 => ⟨S16384x16384x4x64, .f32⟩
  | 79 => ⟨S_, .f32⟩
  | 80 => ⟨S16384x16384x4x64, .f32⟩
  | 81 => ⟨S16384x16384x4x64, .f32⟩
  | 82 => ⟨S_, .f32⟩
  | 83 => ⟨S16384x4x64, .f32⟩
  | 84 => ⟨S16384x1x4x64, .f32⟩
  | 85 => ⟨S16384x16384x4x64, .f32⟩
  | 86 => ⟨S_, .f32⟩
  | 87 => ⟨S16384x4x64, .f32⟩
  | 88 => ⟨S1x16384x4x64, .f32⟩
  | 89 => ⟨S_, .f32⟩
  | 90 => ⟨S16384x4x64, .f32⟩
  | 91 => ⟨S_, .f32⟩
  | 92 => ⟨S16384x4x64, .f32⟩
  | 93 => ⟨S16384x4x64, .f32⟩
  | 94 => ⟨S_, .f32⟩
  | 95 => ⟨S_, .f32⟩
  | 96 => ⟨S16384x4x64, .f32⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S16384x256, .f32⟩
  | 103 => ⟨S16384x256, .f32⟩
  | 104 => ⟨S_, .f32⟩
  | 105 => ⟨S256, .f32⟩
  | 106 => ⟨S1x256, .f32⟩
  | 107 => ⟨S_, .f32⟩
  | 108 => ⟨S256, .f32⟩
  | 109 => ⟨S256x16, .f32⟩
  | 110 => ⟨S16x256, .f32⟩
  | 111 => ⟨S16384x16, .f32⟩
  | 112 => ⟨S_, .f32⟩
  | 113 => ⟨S16384x1552, .f32⟩
  | 114 => ⟨S16384x1552, .f32⟩
  | 115 => ⟨S16384x512, .f32⟩
  | 116 => ⟨S_, .f32⟩
  | 117 => ⟨S16384x1552, .f32⟩
  | 118 => ⟨S16384x1552, .f32⟩
  | 119 => ⟨S16384x256, .f32⟩
  | 120 => ⟨S_, .f32⟩
  | 121 => ⟨S16384x1552, .f32⟩
  | 122 => ⟨S16384x1552, .f32⟩
  | 123 => ⟨S_, .f32⟩
  | 124 => ⟨S16384x4x64, .f32⟩
  | 125 => ⟨S16384x4x64, .f32⟩
  | 126 => ⟨S16384x256, .f32⟩
  | 127 => ⟨S_, .f32⟩
  | _ => ⟨S16384x2576, .f32⟩

abbrev hbmTy0_2 (i : Nat) : BufTy := match i % 128 with
  | 0 => ⟨S16384x1552, .f32⟩
  | 1 => ⟨S16384x1552, .f32⟩
  | 2 => ⟨S_, .i32⟩
  | 3 => ⟨S_, .f32⟩
  | 4 => ⟨S16384x1664, .f32⟩
  | 5 => ⟨S16384x1664, .bf16⟩
  | 6 => ⟨S_, .i32⟩
  | 7 => ⟨S_, .f32⟩
  | 8 => ⟨S128x256, .f32⟩
  | 9 => ⟨S1x256, .f32⟩
  | 10 => ⟨S1x128, .f32⟩
  | _ => ⟨S16384x2576, .f32⟩

abbrev hbmTy (i : Nat) : BufTy := match i / 128 with
  | 0 => hbmTy0_0 i
  | 1 => hbmTy0_1 i
  | 2 => hbmTy0_2 i
  | _ => ⟨S16384x2576, .f32⟩

abbrev bufTy : (tb : Table) → Fin (tcTables nBuf tb) → BufTy
  | .hbm, ⟨i, _⟩ => hbmTy i
  | _, _ => ⟨S16384x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v17_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v17_2 : Ref sig .tc := ⟨.hbm, 69, rfl⟩
abbrev main_v17_0 : Ref sig .tc := ⟨.hbm, 70, rfl⟩
abbrev main_cst_0 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_call1_call0_cst : Ref sig .tc := ⟨.hbm, 75, rfl⟩
abbrev main_call1_call0_v0 : Ref sig .tc := ⟨.hbm, 76, rfl⟩
abbrev main_v21 : Ref sig .tc := ⟨.hbm, 77, rfl⟩
abbrev main_c : Ref sig .tc := ⟨.hbm, 78, rfl⟩
abbrev main_v22 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_0 : Ref sig .tc := ⟨.hbm, 86, rfl⟩
abbrev main_call2_v5 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_1 : Ref sig .tc := ⟨.hbm, 95, rfl⟩
abbrev main_call3_v0 : Ref sig .tc := ⟨.hbm, 96, rfl⟩
abbrev main_v30_1 : Ref sig .tc := ⟨.hbm, 97, rfl⟩
abbrev main_call3_v2 : Ref sig .tc := ⟨.hbm, 98, rfl⟩
abbrev main_v30_0 : Ref sig .tc := ⟨.hbm, 99, rfl⟩
abbrev main_call3_cst : Ref sig .tc := ⟨.hbm, 100, rfl⟩
abbrev main_v30_2 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_cst_2 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_cst_3 : Ref sig .tc := ⟨.hbm, 114, rfl⟩
abbrev main_v42 : Ref sig .tc := ⟨.hbm, 115, rfl⟩
abbrev main_v43 : Ref sig .tc := ⟨.hbm, 116, rfl⟩
abbrev main_cst_4 : Ref sig .tc := ⟨.hbm, 117, rfl⟩
abbrev main_v44 : Ref sig .tc := ⟨.hbm, 118, rfl⟩
abbrev main_v45 : Ref sig .tc := ⟨.hbm, 119, rfl⟩
abbrev main_cst_5 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_cst_6 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_v59_2 : Ref sig .tc := ⟨.hbm, 142, rfl⟩
abbrev main_call4_cst_1 : Ref sig .tc := ⟨.hbm, 143, rfl⟩
abbrev main_call4_v6 : Ref sig .tc := ⟨.hbm, 144, rfl⟩
abbrev main_call4_v7 : Ref sig .tc := ⟨.hbm, 145, rfl⟩
abbrev main_v59_1 : Ref sig .tc := ⟨.hbm, 146, rfl⟩
abbrev main_v59_0 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v64 : Ref sig .tc := ⟨.hbm, 155, rfl⟩
abbrev main_cst_7 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_cst_8 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_cst_9 : Ref sig .tc := ⟨.hbm, 165, rfl⟩
abbrev main_v72 : Ref sig .tc := ⟨.hbm, 166, rfl⟩
abbrev main_v73 : Ref sig .tc := ⟨.hbm, 167, rfl⟩
abbrev main_cst_10 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_cst_11 : Ref sig .tc := ⟨.hbm, 174, rfl⟩
abbrev main_v79 : Ref sig .tc := ⟨.hbm, 175, rfl⟩
abbrev main_v80 : Ref sig .tc := ⟨.hbm, 176, rfl⟩
abbrev main_cst_12 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_cst_13 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_14 : Ref sig .tc := ⟨.hbm, 199, rfl⟩
abbrev main_v101 : Ref sig .tc := ⟨.hbm, 200, rfl⟩
abbrev main_v102 : Ref sig .tc := ⟨.hbm, 201, rfl⟩
abbrev main_cst_15 : Ref sig .tc := ⟨.hbm, 202, rfl⟩
abbrev main_v103 : Ref sig .tc := ⟨.hbm, 203, rfl⟩
abbrev main_cst_16 : Ref sig .tc := ⟨.hbm, 204, rfl⟩
abbrev main_v104 : Ref sig .tc := ⟨.hbm, 205, rfl⟩
abbrev main_v105 : Ref sig .tc := ⟨.hbm, 206, rfl⟩
abbrev main_call6_cst : Ref sig .tc := ⟨.hbm, 207, rfl⟩
abbrev main_call6_v0 : Ref sig .tc := ⟨.hbm, 208, rfl⟩
abbrev main_v106 : Ref sig .tc := ⟨.hbm, 209, rfl⟩
abbrev main_cst_17 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_cst_18 : Ref sig .tc := ⟨.hbm, 214, rfl⟩
abbrev main_v110 : Ref sig .tc := ⟨.hbm, 215, rfl⟩
abbrev main_v111 : Ref sig .tc := ⟨.hbm, 216, rfl⟩
abbrev main_cst_19 : Ref sig .tc := ⟨.hbm, 217, rfl⟩
abbrev main_v112 : Ref sig .tc := ⟨.hbm, 218, rfl⟩
abbrev main_cst_20 : Ref sig .tc := ⟨.hbm, 219, rfl⟩
abbrev main_v113 : Ref sig .tc := ⟨.hbm, 220, rfl⟩
abbrev main_v114 : Ref sig .tc := ⟨.hbm, 221, rfl⟩
abbrev main_call7_call0_cst : Ref sig .tc := ⟨.hbm, 222, rfl⟩
abbrev main_call7_call0_v0 : Ref sig .tc := ⟨.hbm, 223, rfl⟩
abbrev main_v115 : Ref sig .tc := ⟨.hbm, 224, rfl⟩
abbrev main_v116 : Ref sig .tc := ⟨.hbm, 225, rfl⟩
abbrev main_cst_21 : Ref sig .tc := ⟨.hbm, 226, rfl⟩
abbrev main_v117 : Ref sig .tc := ⟨.hbm, 227, rfl⟩
abbrev main_v118 : Ref sig .tc := ⟨.hbm, 228, rfl⟩
abbrev main_call8_v0 : Ref sig .tc := ⟨.hbm, 229, rfl⟩
abbrev main_call8_v1 : Ref sig .tc := ⟨.hbm, 230, rfl⟩
abbrev main_v119 : Ref sig .tc := ⟨.hbm, 231, rfl⟩
abbrev main_cst_22 : Ref sig .tc := ⟨.hbm, 232, rfl⟩
abbrev main_v120 : Ref sig .tc := ⟨.hbm, 233, rfl⟩
abbrev main_v121 : Ref sig .tc := ⟨.hbm, 234, rfl⟩
abbrev main_cst_23 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_cst_24 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_cst_25 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_cst_26 : Ref sig .tc := ⟨.hbm, 248, rfl⟩
abbrev main_v132 : Ref sig .tc := ⟨.hbm, 249, rfl⟩
abbrev main_v133 : Ref sig .tc := ⟨.hbm, 250, rfl⟩
abbrev main_cst_27 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_cst_28 : Ref sig .tc := ⟨.hbm, 255, rfl⟩
abbrev main_v137 : Ref sig .tc := ⟨.hbm, 256, rfl⟩
abbrev main_v138 : Ref sig .tc := ⟨.hbm, 257, rfl⟩
abbrev main_c_29 : Ref sig .tc := ⟨.hbm, 258, rfl⟩
abbrev main_call9_v0 : Ref sig .tc := ⟨.hbm, 259, rfl⟩
abbrev main_v139 : Ref sig .tc := ⟨.hbm, 260, rfl⟩
abbrev main_v140 : Ref sig .tc := ⟨.hbm, 261, rfl⟩
abbrev main_c_30 : Ref sig .tc := ⟨.hbm, 262, rfl⟩
abbrev main_call10_v0 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩

abbrev nD : Nat := 1
abbrev τ : Topo := Topo.v7x

variable {F : FTy → Type} [FloatOps F]
-- ==== InprojKernel.lean ====
abbrev S1x16384x1024 : Shape := ⟨3, ![1, 16384, 1024]⟩
abbrev S1x1024 : Shape := ⟨2, ![1, 1024]⟩
abbrev S1x1024x2576 : Shape := ⟨3, ![1, 1024, 2576]⟩
abbrev S16384x2576 : Shape := ⟨2, ![16384, 2576]⟩
abbrev S16384x1552 : Shape := ⟨2, ![16384, 1552]⟩
abbrev S_ : Shape := ⟨0, ![]⟩
abbrev S16384x1664 : Shape := ⟨2, ![16384, 1664]⟩
abbrev S16384x1024 : Shape := ⟨2, ![16384, 1024]⟩
abbrev S1024x2576 : Shape := ⟨2, ![1024, 2576]⟩
abbrev S2576x1024 : Shape := ⟨2, ![2576, 1024]⟩
abbrev S512x1024 : Shape := ⟨2, ![512, 1024]⟩
abbrev S3x512x1024 : Shape := ⟨3, ![3, 512, 1024]⟩
abbrev S3x512x1664 : Shape := ⟨3, ![3, 512, 1664]⟩
abbrev S4x3 : Shape := ⟨2, ![4, 3]⟩
abbrev S1x1 : Shape := ⟨2, ![1, 1]⟩
abbrev S1x512x1024 : Shape := ⟨3, ![1, 512, 1024]⟩
abbrev S1x512x1664 : Shape := ⟨3, ![1, 512, 1664]⟩
abbrev S512x1664 : Shape := ⟨2, ![512, 1664]⟩
abbrev S1664x1024 : Shape := ⟨2, ![1664, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2576, .f32⟩
  | .hbm, ⟨3, _⟩ => ⟨S1x16384x1024, .f32⟩
  | .hbm, ⟨4, _⟩ => ⟨S16384x2576, .f32⟩
  | .hbm, ⟨5, _⟩ => ⟨S16384x1552, .f32⟩
  | .hbm, ⟨6, _⟩ => ⟨S_, .i32⟩
  | .hbm, ⟨7, _⟩ => ⟨S_, .f32⟩
  | .hbm, ⟨8, _⟩ => ⟨S16384x1664, .f32⟩
  | .hbm, ⟨9, _⟩ => ⟨S16384x1664, .bf16⟩
  | .hbm, ⟨10, _⟩ => ⟨S16384x1024, .f32⟩
  | .hbm, ⟨11, _⟩ => ⟨S1024x2576, .f32⟩
  | .hbm, ⟨12, _⟩ => ⟨S2576x1024, .f32⟩
  | .hbm, ⟨13, _⟩ => ⟨S2576x1024, .bf16⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S1x1024, .f32⟩
  | .local _ .vmem, ⟨0, _⟩ => ⟨S1x1024, .f32⟩
  | .local _ .vmem, ⟨1, _⟩ => ⟨S2576x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S3x512x1024, .f32⟩
  | .local _ .vmem, ⟨6, _⟩ => ⟨S3x512x1024, .f32⟩
  | .local _ .vmem, ⟨7, _⟩ => ⟨S3x512x1664, .bf16⟩
  | .local _ .vmem, ⟨8, _⟩ => ⟨S3x512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let arg0 : BitVec 32 := BitVec.ofNat 32 (i 0).val
  let c2_i32_98 : BitVec 32 := 2#32
  let v176 : BitVec 32 := Scalar.addi arg0 c2_i32_98
  let c512_i32_99 : BitVec 32 := 512#32
  let v177 : BitVec 32 := Scalar.muli v176 c512_i32_99
  v177
def k0_off1 (i : grid0.Coords) : Fin 2 → Nat :=
  let c0_i32_112 : BitVec 32 := 0#32
  let arg0 : BitVec 32 := BitVec.ofNat 32 (i 0).val
  let c2_i32_98 : BitVec 32 := 2#32
  let v176 : BitVec 32 := Scalar.addi arg0 c2_i32_98
  let c3_i32_106 : BitVec 32 := 3#32
  let c0_i32_107 : BitVec 32 := 0#32
  let v189 : BitVec 1 := Scalar.cmpi .eq c3_i32_106 c0_i32_107
  let c1_i32_108 : BitVec 32 := 1#32
  let v190 : BitVec 32 := Scalar.select v189 c1_i32_108 c3_i32_106
  let v191 : BitVec 32 := Scalar.remsi v176 v190
  let c0_i32_110 : BitVec 32 := 0#32
  let v193 : BitVec 1 := Scalar.cmpi .slt v191 c0_i32_110
  let c0_i32_111 : BitVec 32 := 0#32
  let v194 : BitVec 1 := Scalar.cmpi .slt v190 c0_i32_111
  let v195 : BitVec 1 := Scalar.xori v193 v194
  let c0_i32_109 : BitVec 32 := 0#32
  let v192 : BitVec 1 := Scalar.cmpi .ne v191 c0_i32_109
  let v196 : BitVec 1 := Scalar.andi v195 v192
  let v197 : BitVec 32 := Scalar.addi v191 v190
  let v198 : BitVec 32 := Scalar.select v196 v197 v191
  ![0, v198.toNat]
def k0_off2 (i : grid0.Coords) : Fin 3 → Nat :=
  let arg0 : BitVec 32 := BitVec.ofNat 32 (i 0).val
  let c2_i32_98 : BitVec 32 := 2#32
  let v176 : BitVec 32 := Scalar.addi arg0 c2_i32_98
  let c3_i32_100 : BitVec 32 := 3#32
  let c0_i32_101 : BitVec 32 := 0#32
  let v179 : BitVec 1 := Scalar.cmpi .eq c3_i32_100 c0_i32_101
  let c1_i32_102 : BitVec 32 := 1#32
  let v180 : BitVec 32 := Scalar.select v179 c1_i32_102 c3_i32_100
  let v181 : BitVec 32 := Scalar.remsi v176 v180
  let c0_i32_104 : BitVec 32 := 0#32
  let v183 : BitVec 1 := Scalar.cmpi .slt v181 c0_i32_104
  let c0_i32_105 : BitVec 32 := 0#32
  let v184 : BitVec 1 := Scalar.cmpi .slt v180 c0_i32_105
  let v185 : BitVec 1 := Scalar.xori v183 v184
  let c0_i32_103 : BitVec 32 := 0#32
  let v182 : BitVec 1 := Scalar.cmpi .ne v181 c0_i32_103
  let v186 : BitVec 1 := Scalar.andi v185 v182
  let v187 : BitVec 32 := Scalar.addi v181 v180
  let v188 : BitVec 32 := Scalar.select v186 v187 v181
  let c0_i32_113 : BitVec 32 := 0#32
  let c0_i32_114 : BitVec 32 := 0#32
  ![v188.toNat, 0, 0]
def k0_off3 (i : grid0.Coords) : Fin 2 → Nat :=
  let arg0 : BitVec 32 := BitVec.ofNat 32 (i 0).val
  let c2_i32_98 : BitVec 32 := 2#32
  let v176 : BitVec 32 := Scalar.addi arg0 c2_i32_98
  let c512_i32_99 : BitVec 32 := 512#32
  let v177 : BitVec 32 := Scalar.muli v176 c512_i32_99
  let v178 : BitVec 32 := v177
  let c0_i32_115 : BitVec 32 := 0#32
  ![v178.toNat, 0]
def k0_mult2 (i : grid0.Coords) : BitVec 32 :=
  let arg0 : BitVec 32 := BitVec.ofNat 32 (i 0).val
  let c2_i32_116 : BitVec 32 := 2#32
  let v204 : BitVec 32 := Scalar.addi arg0 c2_i32_116
  let c512_i32_117 : BitVec 32 := 512#32
  let v205 : BitVec 32 := Scalar.muli v204 c512_i32_117
  v205
def k0_off4 (i : grid0.Coords) : Fin 2 → Nat :=
  let c1_i32_130 : BitVec 32 := 1#32
  let arg0 : BitVec 32 := BitVec.ofNat 32 (i 0).val
  let c2_i32_116 : BitVec 32 := 2#32
  let v204 : BitVec 32 := Scalar.addi arg0 c2_i32_116
  let c3_i32_124 : BitVec 32 := 3#32
  let c0_i32_125 : BitVec 32 := 0#32
  let v217 : BitVec 1 := Scalar.cmpi .eq c3_i32_124 c0_i32_125
  let c1_i32_126 : BitVec 32 := 1#32
  let v218 : BitVec 32 := Scalar.select v217 c1_i32_126 c3_i32_124
  let v219 : BitVec 32 := Scalar.remsi v204 v218
  let c0_i32_128 : BitVec 32 := 0#32
  let v221 : BitVec 1 := Scalar.cmpi .slt v219 c0_i32_128
  let c0_i32_129 : BitVec 32 := 0#32
  let v222 : BitVec 1 := Scalar.cmpi .slt v218 c0_i32_129
  let v223 : BitVec 1 := Scalar.xori v221 v222
  let c0_i32_127 : BitVec 32 := 0#32
  let v220 : BitVec 1 := Scalar.cmpi .ne v219 c0_i32_127
  let v224 : BitVec 1 := Scalar.andi v223 v220
  let v225 : BitVec 32 := Scalar.addi v219 v218
  let v226 : BitVec 32 := Scalar.select v224 v225 v219
  ![1, v226.toNat]
def k0_mult3 (i : grid0.Coords) : BitVec 32 :=
  let arg0 : BitVec 32 := BitVec.ofNat 32 (i 0).val
  let c2_i32_134 : BitVec 32 := 2#32
  let v232 : BitVec 32 := Scalar.addi arg0 c2_i32_134
  let c512_i32_135 : BitVec 32 := 512#32
  let v233 : BitVec 32 := Scalar.muli v232 c512_i32_135
  v233
def k0_off5 (i : grid0.Coords) : Fin 2 → Nat :=
  let c2_i32_148 : BitVec 32 := 2#32
  let arg0 : BitVec 32 := BitVec.ofNat 32 (i 0).val
  let c2_i32_134 : BitVec 32 := 2#32
  let v232 : BitVec 32 := Scalar.addi arg0 c2_i32_134
  let c3_i32_142 : BitVec 32 := 3#32
  let c0_i32_143 : BitVec 32 := 0#32
  let v245 : BitVec 1 := Scalar.cmpi .eq c3_i32_142 c0_i32_143
  let c1_i32_144 : BitVec 32 := 1#32
  let v246 : BitVec 32 := Scalar.select v245 c1_i32_144 c3_i32_142
  let v247 : BitVec 32 := Scalar.remsi v232 v246
  let c0_i32_146 : BitVec 32 := 0#32
  let v249 : BitVec 1 := Scalar.cmpi .slt v247 c0_i32_146
  let c0_i32_147 : BitVec 32 := 0#32
  let v250 : BitVec 1 := Scalar.cmpi .slt v246 c0_i32_147
  let v251 : BitVec 1 := Scalar.xori v249 v250
  let c0_i32_145 : BitVec 32 := 0#32
  let v248 : BitVec 1 := Scalar.cmpi .ne v247 c0_i32_145
  let v252 : BitVec 1 := Scalar.andi v251 v248
  let v253 : BitVec 32 := Scalar.addi v247 v246
  let v254 : BitVec 32 := Scalar.select v252 v253 v247
  ![2, v254.toNat]
def k0_off6 (i : grid0.Coords) : Fin 3 → Nat :=
  let arg0 : BitVec 32 := BitVec.ofNat 32 (i 0).val
  let c2_i32_134 : BitVec 32 := 2#32
  let v232 : BitVec 32 := Scalar.addi arg0 c2_i32_134
  let c3_i32_136 : BitVec 32 := 3#32
  let c0_i32_137 : BitVec 32 := 0#32
  let v235 : BitVec 1 := Scalar.cmpi .eq c3_i32_136 c0_i32_137
  let c1_i32_138 : BitVec 32 := 1#32
  let v236 : BitVec 32 := Scalar.select v235 c1_i32_138 c3_i32_136
  let v237 : BitVec 32 := Scalar.remsi v232 v236
  let c0_i32_140 : BitVec 32 := 0#32
  let v239 : BitVec 1 := Scalar.cmpi .slt v237 c0_i32_140
  let c0_i32_141 : BitVec 32 := 0#32
  let v240 : BitVec 1 := Scalar.cmpi .slt v236 c0_i32_141
  let v241 : BitVec 1 := Scalar.xori v239 v240
  let c0_i32_139 : BitVec 32 := 0#32
  let v238 : BitVec 1 := Scalar.cmpi .ne v237 c0_i32_139
  let v242 : BitVec 1 := Scalar.andi v241 v238
  let v243 : BitVec 32 := Scalar.addi v237 v236
  let v244 : BitVec 32 := Scalar.select v242 v243 v237
  let c0_i32_149 : BitVec 32 := 0#32
  let c0_i32_150 : BitVec 32 := 0#32
  ![v244.toNat, 0, 0]
def k0_off7 (i : grid0.Coords) : Fin 2 → Nat :=
  let arg0 : BitVec 32 := BitVec.ofNat 32 (i 0).val
  let c2_i32_134 : BitVec 32 := 2#32
  let v232 : BitVec 32 := Scalar.addi arg0 c2_i32_134
  let c512_i32_135 : BitVec 32 := 512#32
  let v233 : BitVec 32 := Scalar.muli v232 c512_i32_135
  let v234 : BitVec 32 := v233
  let c0_i32_151 : BitVec 32 := 0#32
  ![v234.toNat, 0]
def k0_mult4 (i : grid0.Coords) : BitVec 32 :=
  let arg0 : BitVec 32 := BitVec.ofNat 32 (i 0).val
  let c2_i32_152 : BitVec 32 := 2#32
  let v260 : BitVec 32 := Scalar.addi arg0 c2_i32_152
  let c512_i32_153 : BitVec 32 := 512#32
  let v261 : BitVec 32 := Scalar.muli v260 c512_i32_153
  v261
def k0_off8 (i : grid0.Coords) : Fin 2 → Nat :=
  let c3_i32_166 : BitVec 32 := 3#32
  let arg0 : BitVec 32 := BitVec.ofNat 32 (i 0).val
  let c2_i32_152 : BitVec 32 := 2#32
  let v260 : BitVec 32 := Scalar.addi arg0 c2_i32_152
  let c3_i32_160 : BitVec 32 := 3#32
  let c0_i32_161 : BitVec 32 := 0#32
  let v273 : BitVec 1 := Scalar.cmpi .eq c3_i32_160 c0_i32_161
  let c1_i32_162 : BitVec 32 := 1#32
  let v274 : BitVec 32 := Scalar.select v273 c1_i32_162 c3_i32_160
  let v275 : BitVec 32 := Scalar.remsi v260 v274
  let c0_i32_164 : BitVec 32 := 0#32
  let v277 : BitVec 1 := Scalar.cmpi .slt v275 c0_i32_164
  let c0_i32_165 : BitVec 32 := 0#32
  let v278 : BitVec 1 := Scalar.cmpi .slt v274 c0_i32_165
  let v279 : BitVec 1 := Scalar.xori v277 v278
  let c0_i32_163 : BitVec 32 := 0#32
  let v276 : BitVec 1 := Scalar.cmpi .ne v275 c0_i32_163
  let v280 : BitVec 1 := Scalar.andi v279 v276
  let v281 : BitVec 32 := Scalar.addi v275 v274
  let v282 : BitVec 32 := Scalar.select v280 v281 v275
  ![3, v282.toNat]
def k0_mult5 (i : grid0.Coords) : BitVec 32 :=
  let arg0 : BitVec 32 := BitVec.ofNat 32 (i 0).val
  let c512_i32 : BitVec 32 := 512#32
  let v7 : BitVec 32 := Scalar.muli arg0 c512_i32
  v7
def k0_off9 (i : grid0.Coords) : Fin 2 → Nat :=
  let c0_i32_12 : BitVec 32 := 0#32
  let arg0 : BitVec 32 := BitVec.ofNat 32 (i 0).val
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi arg0 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  ![0, v28.toNat]
def k0_off10 (i : grid0.Coords) : Fin 3 → Nat :=
  let arg0 : BitVec 32 := BitVec.ofNat 32 (i 0).val
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi arg0 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_13 : BitVec 32 := 0#32
  let c0_i32_14 : BitVec 32 := 0#32
  ![v18.toNat, 0, 0]
def k0_off11 (i : grid0.Coords) : Fin 2 → Nat :=
  let arg0 : BitVec 32 := BitVec.ofNat 32 (i 0).val
  let c512_i32 : BitVec 32 := 512#32
  let v7 : BitVec 32 := Scalar.muli arg0 c512_i32
  let v8 : BitVec 32 := v7
  let c0_i32_15 : BitVec 32 := 0#32
  ![v8.toNat, 0]
def k0_mult6 (i : grid0.Coords) : BitVec 32 :=
  let arg0 : BitVec 32 := BitVec.ofNat 32 (i 0).val
  let c512_i32_16 : BitVec 32 := 512#32
  let v34 : BitVec 32 := Scalar.muli arg0 c512_i32_16
  v34
def k0_off12 (i : grid0.Coords) : Fin 2 → Nat :=
  let c1_i32_29 : BitVec 32 := 1#32
  let arg0 : BitVec 32 := BitVec.ofNat 32 (i 0).val
  let c3_i32_23 : BitVec 32 := 3#32
  let c0_i32_24 : BitVec 32 := 0#32
  let v46 : BitVec 1 := Scalar.cmpi .eq c3_i32_23 c0_i32_24
  let c1_i32_25 : BitVec 32 := 1#32
  let v47 : BitVec 32 := Scalar.select v46 c1_i32_25 c3_i32_23
  let v48 : BitVec 32 := Scalar.remsi arg0 v47
  let c0_i32_27 : BitVec 32 := 0#32
  let v50 : BitVec 1 := Scalar.cmpi .slt v48 c0_i32_27
  let c0_i32_28 : BitVec 32 := 0#32
  let v51 : BitVec 1 := Scalar.cmpi .slt v47 c0_i32_28
  let v52 : BitVec 1 := Scalar.xori v50 v51
  let c0_i32_26 : BitVec 32 := 0#32
  let v49 : BitVec 1 := Scalar.cmpi .ne v48 c0_i32_26
  let v53 : BitVec 1 := Scalar.andi v52 v49
  let v54 : BitVec 32 := Scalar.addi v48 v47
  let v55 : BitVec 32 := Scalar.select v53 v54 v48
  ![1, v55.toNat]
def k0_mult7 (i : grid0.Coords) : BitVec 32 :=
  let arg0 : BitVec 32 := BitVec.ofNat 32 (i 0).val
  let c512_i32_33 : BitVec 32 := 512#32
  let v61 : BitVec 32 := Scalar.muli arg0 c512_i32_33
  v61
def k0_off13 (i : grid0.Coords) : Fin 2 → Nat :=
  let c2_i32_46 : BitVec 32 := 2#32
  let arg0 : BitVec 32 := BitVec.ofNat 32 (i 0).val
  let c3_i32_40 : BitVec 32 := 3#32
  let c0_i32_41 : BitVec 32 := 0#32
  let v73 : BitVec 1 := Scalar.cmpi .eq c3_i32_40 c0_i32_41
  let c1_i32_42 : BitVec 32 := 1#32
  let v74 : BitVec 32 := Scalar.select v73 c1_i32_42 c3_i32_40
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  ![2, v82.toNat]
def k0_off14 (i : grid0.Coords) : Fin 3 → Nat :=
  let arg0 : BitVec 32 := BitVec.ofNat 32 (i 0).val
  let c3_i32_34 : BitVec 32 := 3#32
  let c0_i32_35 : BitVec 32 := 0#32
  let v63 : BitVec 1 := Scalar.cmpi .eq c3_i32_34 c0_i32_35
  let c1_i32_36 : BitVec 32 := 1#32
  let v64 : BitVec 32 := Scalar.select v63 c1_i32_36 c3_i32_34
  let v65 : BitVec 32 := Scalar.remsi arg0 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let c0_i32_47 : BitVec 32 := 0#32
  let c0_i32_48 : BitVec 32 := 0#32
  ![v72.toNat, 0, 0]
def k0_off15 (i : grid0.Coords) : Fin 2 → Nat :=
  let arg0 : BitVec 32 := BitVec.ofNat 32 (i 0).val
  let c512_i32_33 : BitVec 32 := 512#32
  let v61 : BitVec 32 := Scalar.muli arg0 c512_i32_33
  let v62 : BitVec 32 := v61
  let c0_i32_49 : BitVec 32 := 0#32
  ![v62.toNat, 0]
def k0_mult8 (i : grid0.Coords) : BitVec 32 :=
  let arg0 : BitVec 32 := BitVec.ofNat 32 (i 0).val
  let c512_i32_50 : BitVec 32 := 512#32
  let v88 : BitVec 32 := Scalar.muli arg0 c512_i32_50
  v88
def k0_off16 (i : grid0.Coords) : Fin 2 → Nat :=
  let c3_i32_63 : BitVec 32 := 3#32
  let arg0 : BitVec 32 := BitVec.ofNat 32 (i 0).val
  let c3_i32_57 : BitVec 32 := 3#32
  let c0_i32_58 : BitVec 32 := 0#32
  let v100 : BitVec 1 := Scalar.cmpi .eq c3_i32_57 c0_i32_58
  let c1_i32_59 : BitVec 32 := 1#32
  let v101 : BitVec 32 := Scalar.select v100 c1_i32_59 c3_i32_57
  let v102 : BitVec 32 := Scalar.remsi arg0 v101
  let c0_i32_61 : BitVec 32 := 0#32
  let v104 : BitVec 1 := Scalar.cmpi .slt v102 c0_i32_61
  let c0_i32_62 : BitVec 32 := 0#32
  let v105 : BitVec 1 := Scalar.cmpi .slt v101 c0_i32_62
  let v106 : BitVec 1 := Scalar.xori v104 v105
  let c0_i32_60 : BitVec 32 := 0#32
  let v103 : BitVec 1 := Scalar.cmpi .ne v102 c0_i32_60
  let v107 : BitVec 1 := Scalar.andi v106 v103
  let v108 : BitVec 32 := Scalar.addi v102 v101
  let v109 : BitVec 32 := Scalar.select v107 v108 v102
  ![3, v109.toNat]
def k0_off17 (i : grid0.Coords) : Fin 3 → Nat :=
  let arg0 : BitVec 32 := BitVec.ofNat 32 (i 0).val
  let c3_i32_67 : BitVec 32 := 3#32
  let c0_i32_68 : BitVec 32 := 0#32
  let v115 : BitVec 1 := Scalar.cmpi .eq c3_i32_67 c0_i32_68
  let c1_i32_69 : BitVec 32 := 1#32
  let v116 : BitVec 32 := Scalar.select v115 c1_i32_69 c3_i32_67
  let v117 : BitVec 32 := Scalar.remsi arg0 v116
  let c0_i32_71 : BitVec 32 := 0#32
  let v119 : BitVec 1 := Scalar.cmpi .slt v117 c0_i32_71
  let c0_i32_72 : BitVec 32 := 0#32
  let v120 : BitVec 1 := Scalar.cmpi .slt v116 c0_i32_72
  let v121 : BitVec 1 := Scalar.xori v119 v120
  let c0_i32_70 : BitVec 32 := 0#32
  let v118 : BitVec 1 := Scalar.cmpi .ne v117 c0_i32_70
  let v122 : BitVec 1 := Scalar.andi v121 v118
  let v123 : BitVec 32 := Scalar.addi v117 v116
  let v124 : BitVec 32 := Scalar.select v122 v123 v117
  let v125 : Index := Scalar.indexCast v124
  let c0 : Index := 0#32
  let c0_73 : Index := 0#32
  ![v125.toNat, 0, 0]
def k0_off18 (i : grid0.Coords) : Fin 3 → Nat :=
  let arg0 : BitVec 32 := BitVec.ofNat 32 (i 0).val
  let c3_i32_67 : BitVec 32 := 3#32
  let c0_i32_68 : BitVec 32 := 0#32
  let v115 : BitVec 1 := Scalar.cmpi .eq c3_i32_67 c0_i32_68
  let c1_i32_69 : BitVec 32 := 1#32
  let v116 : BitVec 32 := Scalar.select v115 c1_i32_69 c3_i32_67
  let v117 : BitVec 32 := Scalar.remsi arg0 v116
  let c0_i32_71 : BitVec 32 := 0#32
  let v119 : BitVec 1 := Scalar.cmpi .slt v117 c0_i32_71
  let c0_i32_72 : BitVec 32 := 0#32
  let v120 : BitVec 1 := Scalar.cmpi .slt v116 c0_i32_72
  let v121 : BitVec 1 := Scalar.xori v119 v120
  let c0_i32_70 : BitVec 32 := 0#32
  let v118 : BitVec 1 := Scalar.cmpi .ne v117 c0_i32_70
  let v122 : BitVec 1 := Scalar.andi v121 v118
  let v123 : BitVec 32 := Scalar.addi v117 v116
  let v124 : BitVec 32 := Scalar.select v122 v123 v117
  let v131 : Index := Scalar.indexCast v124
  let c0_76 : Index := 0#32
  let c0_77 : Index := 0#32
  ![v131.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2576x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== InprojRefIdeal.lean ====
abbrev S1x16384x1024 : Shape := ⟨3, ![1, 16384, 1024]⟩
abbrev S1x1024 : Shape := ⟨2, ![1, 1024]⟩
abbrev S1x1024x2576 : Shape := ⟨3, ![1, 1024, 2576]⟩
abbrev S16384x2576 : Shape := ⟨2, ![16384, 2576]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2576 : Shape := ⟨2, ![1024, 2576]⟩

abbrev nBuf : Space → Nat
  | .hbm => 58
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2576, .f32⟩
  | .hbm, ⟨3, _⟩ => ⟨S1x16384x1024, .f32⟩
  | .hbm, ⟨4, _⟩ => ⟨S16384x2576, .f32⟩
  | .hbm, ⟨5, _⟩ => ⟨S16384x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x2576, .f32⟩
  | .hbm, ⟨28, _⟩ => ⟨S16384x2576, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== ProjKernel.lean ====
abbrev S1x16384x1024 : Shape := ⟨3, ![1, 16384, 1024]⟩
abbrev S1x1024 : Shape := ⟨2, ![1, 1024]⟩
abbrev S1x1024x2576 : Shape := ⟨3, ![1, 1024, 2576]⟩
abbrev S16384x1024 : Shape := ⟨2, ![16384, 1024]⟩
abbrev S1024x2576 : Shape := ⟨2, ![1024, 2576]⟩
abbrev S2576x1024 : Shape := ⟨2, ![2576, 1024]⟩
abbrev S16384x2688 : Shape := ⟨2, ![16384, 2688]⟩
abbrev S512x2688 : Shape := ⟨2, ![512, 2688]⟩
abbrev S512x1024 : Shape := ⟨2, ![512, 1024]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1024x1024 : Shape := ⟨2, ![1024, 1024]⟩
abbrev S1x128 : Shape := ⟨2, ![1, 128]⟩
abbrev S128x1024 : Shape := ⟨2, ![128, 1024]⟩
abbrev S512x128 : Shape := ⟨2, ![512, 128]⟩

abbrev nBuf : Space → Nat
  | .hbm => 9
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2576, .f32⟩
  | .hbm, ⟨3, _⟩ => ⟨S16384x1024, .f32⟩
  | .hbm, ⟨4, _⟩ => ⟨S1024x2576, .f32⟩
  | .hbm, ⟨5, _⟩ => ⟨S2576x1024, .f32⟩
  | .hbm, ⟨6, _⟩ => ⟨S2576x1024, .bf16⟩
  | .hbm, ⟨7, _⟩ => ⟨S16384x2688, .bf16⟩
  | .hbm, ⟨8, _⟩ => ⟨S16384x1024, .bf16⟩
  | .local _ .vmem, ⟨0, _⟩ => ⟨S1x1024, .f32⟩
  | .local _ .vmem, ⟨1, _⟩ => ⟨S2576x1024, .bf16⟩
  | .local _ .vmem, ⟨2, _⟩ => ⟨S512x2688, .bf16⟩
  | .local _ .vmem, ⟨3, _⟩ => ⟨S512x2688, .bf16⟩
  | .local _ .vmem, ⟨4, _⟩ => ⟨S512x1024, .bf16⟩
  | .local _ .vmem, ⟨5, _⟩ => ⟨S512x1024, .bf16⟩
  | .local _ .vmem, ⟨6, _⟩ => ⟨S3x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let arg0 : BitVec 32 := BitVec.ofNat 32 (i 0).val
  let c2_i32_41 : BitVec 32 := 2#32
  let v84 : BitVec 32 := Scalar.addi arg0 c2_i32_41
  let c512_i32_42 : BitVec 32 := 512#32
  let v85 : BitVec 32 := Scalar.muli v84 c512_i32_42
  v85
def k0_off1 (i : grid0.Coords) : Fin 1 → Nat :=
  let arg0 : BitVec 32 := BitVec.ofNat 32 (i 0).val
  let c2_i32_41 : BitVec 32 := 2#32
  let v84 : BitVec 32 := Scalar.addi arg0 c2_i32_41
  let c3_i32_49 : BitVec 32 := 3#32
  let c0_i32_50 : BitVec 32 := 0#32
  let v97 : BitVec 1 := Scalar.cmpi .eq c3_i32_49 c0_i32_50
  let c1_i32_51 : BitVec 32 := 1#32
  let v98 : BitVec 32 := Scalar.select v97 c1_i32_51 c3_i32_49
  let v99 : BitVec 32 := Scalar.remsi v84 v98
  let c0_i32_53 : BitVec 32 := 0#32
  let v101 : BitVec 1 := Scalar.cmpi .slt v99 c0_i32_53
  let c0_i32_54 : BitVec 32 := 0#32
  let v102 : BitVec 1 := Scalar.cmpi .slt v98 c0_i32_54
  let v103 : BitVec 1 := Scalar.xori v101 v102
  let c0_i32_52 : BitVec 32 := 0#32
  let v100 : BitVec 1 := Scalar.cmpi .ne v99 c0_i32_52
  let v104 : BitVec 1 := Scalar.andi v103 v100
  let v105 : BitVec 32 := Scalar.addi v99 v98
  let v106 : BitVec 32 := Scalar.select v104 v105 v99
  ![v106.toNat]
def k0_off2 (i : grid0.Coords) : Fin 3 → Nat :=
  let arg0 : BitVec 32 := BitVec.ofNat 32 (i 0).val
  let c2_i32_41 : BitVec 32 := 2#32
  let v84 : BitVec 32 := Scalar.addi arg0 c2_i32_41
  let c3_i32_43 : BitVec 32 := 3#32
  let c0_i32_44 : BitVec 32 := 0#32
  let v87 : BitVec 1 := Scalar.cmpi .eq c3_i32_43 c0_i32_44
  let c1_i32_45 : BitVec 32 := 1#32
  let v88 : BitVec 32 := Scalar.select v87 c1_i32_45 c3_i32_43
  let v89 : BitVec 32 := Scalar.remsi v84 v88
  let c0_i32_47 : BitVec 32 := 0#32
  let v91 : BitVec 1 := Scalar.cmpi .slt v89 c0_i32_47
  let c0_i32_48 : BitVec 32 := 0#32
  let v92 : BitVec 1 := Scalar.cmpi .slt v88 c0_i32_48
  let v93 : BitVec 1 := Scalar.xori v91 v92
  let c0_i32_46 : BitVec 32 := 0#32
  let v90 : BitVec 1 := Scalar.cmpi .ne v89 c0_i32_46
  let v94 : BitVec 1 := Scalar.andi v93 v90
  let v95 : BitVec 32 := Scalar.addi v89 v88
  let v96 : BitVec 32 := Scalar.select v94 v95 v89
  let c0_i32_55 : BitVec 32 := 0#32
  let c0_i32_56 : BitVec 32 := 0#32
  ![v96.toNat, 0, 0]
def k0_off3 (i : grid0.Coords) : Fin 2 → Nat :=
  let arg0 : BitVec 32 := BitVec.ofNat 32 (i 0).val
  let c2_i32_41 : BitVec 32 := 2#32
  let v84 : BitVec 32 := Scalar.addi arg0 c2_i32_41
  let c512_i32_42 : BitVec 32 := 512#32
  let v85 : BitVec 32 := Scalar.muli v84 c512_i32_42
  let v86 : BitVec 32 := v85
  let c0_i32_57 : BitVec 32 := 0#32
  ![v86.toNat, 0]
def k0_mult2 (i : grid0.Coords) : BitVec 32 :=
  let arg0 : BitVec 32 := BitVec.ofNat 32 (i 0).val
  let c512_i32 : BitVec 32 := 512#32
  let v7 : BitVec 32 := Scalar.muli arg0 c512_i32
  v7
def k0_off4 (i : grid0.Coords) : Fin 1 → Nat :=
  let arg0 : BitVec 32 := BitVec.ofNat 32 (i 0).val
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi arg0 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  ![v28.toNat]
def k0_off5 (i : grid0.Coords) : Fin 3 → Nat :=
  let arg0 : BitVec 32 := BitVec.ofNat 32 (i 0).val
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi arg0 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_12 : BitVec 32 := 0#32
  let c0_i32_13 : BitVec 32 := 0#32
  ![v18.toNat, 0, 0]
def k0_off6 (i : grid0.Coords) : Fin 2 → Nat :=
  let arg0 : BitVec 32 := BitVec.ofNat 32 (i 0).val
  let c512_i32 : BitVec 32 := 512#32
  let v7 : BitVec 32 := Scalar.muli arg0 c512_i32
  let v8 : BitVec 32 := v7
  let c0_i32_14 : BitVec 32 := 0#32
  ![v8.toNat, 0]
def k0_off7 (i : grid0.Coords) : Fin 3 → Nat :=
  let arg0 : BitVec 32 := BitVec.ofNat 32 (i 0).val
  let c3_i32_15 : BitVec 32 := 3#32
  let c0_i32_16 : BitVec 32 := 0#32
  let v34 : BitVec 1 := Scalar.cmpi .eq c3_i32_15 c0_i32_16
  let c1_i32_17 : BitVec 32 := 1#32
  let v35 : BitVec 32 := Scalar.select v34 c1_i32_17 c3_i32_15
  let v36 : BitVec 32 := Scalar.remsi arg0 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : Index := Scalar.indexCast v43
  let c0 : Index := 0#32
  let c0_21 : Index := 0#32
  ![v44.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2576x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S1x16384x1024 : Shape := ⟨3, ![1, 16384, 1024]⟩
abbrev S1x1024 : Shape := ⟨2, ![1, 1024]⟩
abbrev S1x1024x2576 : Shape := ⟨3, ![1, 1024, 2576]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2576 : Shape := ⟨2, ![1024, 2576]⟩
abbrev S16384x2576 : Shape := ⟨2, ![16384, 2576]⟩
abbrev S16384x16 : Shape := ⟨2, ![16384, 16]⟩
abbrev S16384x128 : Shape := ⟨2, ![16384, 128]⟩
abbrev S16384x1536 : Shape := ⟨2, ![16384, 1536]⟩
abbrev S16384x2688 : Shape := ⟨2, ![16384, 2688]⟩

abbrev nBuf : Space → Nat
  | .hbm => 32
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2576, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x2576, .f32⟩
  | .hbm, ⟨22, _⟩ => ⟨S16384x2576, .f32⟩
  | .hbm, ⟨23, _⟩ => ⟨S16384x16, .f32⟩
  | .hbm, ⟨24, _⟩ => ⟨S_, .i32⟩
  | .hbm, ⟨25, _⟩ => ⟨S_, .f32⟩
  | .hbm, ⟨26, _⟩ => ⟨S16384x128, .f32⟩
  | .hbm, ⟨27, _⟩ => ⟨S16384x1536, .f32⟩
  | .hbm, ⟨28, _⟩ => ⟨S16384x1024, .f32⟩
  | .hbm, ⟨29, _⟩ => ⟨S16384x2688, .f32⟩
  | .hbm, ⟨30, _⟩ => ⟨S16384x2688, .bf16⟩
  | .hbm, ⟨31, _⟩ => ⟨S16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== MixKernel.lean ====
abbrev S16384x2576 : Shape := ⟨2, ![16384, 2576]⟩
abbrev S1x16x256 : Shape := ⟨3, ![1, 16, 256]⟩
abbrev S1x256 : Shape := ⟨2, ![1, 256]⟩
abbrev S1x128 : Shape := ⟨2, ![1, 128]⟩
abbrev S1x31x512 : Shape := ⟨3, ![1, 31, 512]⟩
abbrev S1x512 : Shape := ⟨2, ![1, 512]⟩
abbrev S16x256 : Shape := ⟨2, ![16, 256]⟩
abbrev S_ : Shape := ⟨0, ![]⟩
abbrev S128x256 : Shape := ⟨2, ![128, 256]⟩
abbrev S31x512 : Shape := ⟨2, ![31, 512]⟩
abbrev S32x512 : Shape := ⟨2, ![32, 512]⟩
abbrev S16384x1536 : Shape := ⟨2, ![16384, 1536]⟩
abbrev S16384x1024 : Shape := ⟨2, ![16384, 1024]⟩
abbrev S16384x16 : Shape := ⟨2, ![16384, 16]⟩
abbrev S16384x128 : Shape := ⟨2, ![16384, 128]⟩
abbrev S16384x2688 : Shape := ⟨2, ![16384, 2688]⟩
abbrev S512x512 : Shape := ⟨2, ![512, 512]⟩
abbrev S16384x512 : Shape := ⟨2, ![16384, 512]⟩
abbrev S256x512x256 : Shape := ⟨3, ![256, 512, 256]⟩
abbrev S512x256 : Shape := ⟨2, ![512, 256]⟩
abbrev S512x128 : Shape := ⟨2, ![512, 128]⟩
abbrev S8x512x256 : Shape := ⟨3, ![8, 512, 256]⟩
abbrev S544x512 : Shape := ⟨2, ![544, 512]⟩
abbrev S7x536x512 : Shape := ⟨3, ![7, 536, 512]⟩
abbrev S256x256 : Shape := ⟨2, ![256, 256]⟩
abbrev S256x128 : Shape := ⟨2, ![256, 128]⟩
abbrev S1x512x256 : Shape := ⟨3, ![1, 512, 256]⟩
abbrev S64x512 : Shape := ⟨2, ![64, 512]⟩
abbrev S64x256 : Shape := ⟨2, ![64, 256]⟩
abbrev S512 : Shape := ⟨1, ![512]⟩
abbrev S512x1 : Shape := ⟨2, ![512, 1]⟩
abbrev S536x512 : Shape := ⟨2, ![536, 512]⟩
abbrev S1x536x512 : Shape := ⟨3, ![1, 536, 512]⟩
abbrev S16x512 : Shape := ⟨2, ![16, 512]⟩
abbrev S1x16x512 : Shape := ⟨3, ![1, 16, 512]⟩

abbrev nBuf : Space → Nat
  | .hbm => 75
  | .vmem => 35
  | .smem => 0
  | _ => 0

abbrev bufTy : (tb : Table) → Fin (tcTables nBuf tb) → BufTy
  | .hbm, ⟨0, _⟩ => ⟨S16384x2576, .f32⟩
  | .hbm, ⟨1, _⟩ => ⟨S1x16x256, .f32⟩
  | .hbm, ⟨2, _⟩ => ⟨S1x256, .f32⟩
  | .hbm, ⟨3, _⟩ => ⟨S1x128, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S16x256, .f32⟩
  | .hbm, ⟨9, _⟩ => ⟨S_, .i32⟩
  | .hbm, ⟨10, _⟩ => ⟨S_, .f32⟩
  | .hbm, ⟨11, _⟩ => ⟨S128x256, .f32⟩
  | .hbm, ⟨12, _⟩ => ⟨S128x256, .bf16⟩
  | .hbm, ⟨13, _⟩ => ⟨S31x512, .f32⟩
  | .hbm, ⟨14, _⟩ => ⟨S_, .i32⟩
  | .hbm, ⟨15, _⟩ => ⟨S_, .f32⟩
  | .hbm, ⟨16, _⟩ => ⟨S32x512, .f32⟩
  | .hbm, ⟨17, _⟩ => ⟨S16384x1536, .f32⟩
  | .hbm, ⟨18, _⟩ => ⟨S16384x1024, .f32⟩
  | .hbm, ⟨19, _⟩ => ⟨S16384x16, .f32⟩
  | .hbm, ⟨20, _⟩ => ⟨S_, .i32⟩
  | .hbm, ⟨21, _⟩ => ⟨S_, .f32⟩
  | .hbm, ⟨22, _⟩ => ⟨S16384x128, .f32⟩
  | .hbm, ⟨23, _⟩ => ⟨S16384x2688, .f32⟩
  | .hbm, ⟨24, _⟩ => ⟨S16384x2688, .bf16⟩
  | .hbm, ⟨25, _⟩ => ⟨S512x512, .i32⟩
  | .hbm, ⟨26, _⟩ => ⟨S_, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i1⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i1⟩
  | .hbm, ⟨39, _⟩ => ⟨S512x512, .i1⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i32⟩
  | .hbm, ⟨50, _⟩ => ⟨S_, .i32⟩
  | .hbm, ⟨51, _⟩ => ⟨S512x512, .i32⟩
  | .hbm, ⟨52, _⟩ => ⟨S512x512, .i1⟩
  | .hbm, ⟨53, _⟩ => ⟨S512x512, .i32⟩
  | .hbm, ⟨54, _⟩ => ⟨S512x512, .i32⟩
  | .hbm, ⟨55, _⟩ => ⟨S_, .i32⟩
  | .hbm, ⟨56, _⟩ => ⟨S512x512, .i32⟩
  | .hbm, ⟨57, _⟩ => ⟨S512x512, .i1⟩
  | .hbm, ⟨58, _⟩ => ⟨S512x512, .i1⟩
  | .hbm, ⟨59, _⟩ => ⟨S_, .i32⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S512x512, .i1⟩
  | .hbm, ⟨64, _⟩ => ⟨S_, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S512x512, .bf16⟩
  | .hbm, ⟨70, _⟩ => ⟨S16384x512, .bf16⟩
  | .hbm, ⟨71, _⟩ => ⟨S16384x512, .f32⟩
  | .hbm, ⟨72, _⟩ => ⟨S256x512x256, .bf16⟩
  | .hbm, ⟨73, _⟩ => ⟨S16384x512, .bf16⟩
  | .hbm, ⟨74, _⟩ => ⟨S16384x512, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S128x256, .bf16⟩
  | .local _ .vmem, ⟨11, _⟩ => ⟨S1x256, .f32⟩
  | .local _ .vmem, ⟨12, _⟩ => ⟨S1x128, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S8x512x256, .bf16⟩
  | .local _ .vmem, ⟨27, _⟩ => ⟨S8x512x256, .bf16⟩
  | .local _ .vmem, ⟨28, _⟩ => ⟨S512x512, .bf16⟩
  | .local _ .vmem, ⟨29, _⟩ => ⟨S512x512, .bf16⟩
  | .local _ .vmem, ⟨30, _⟩ => ⟨S512x512, .f32⟩
  | .local _ .vmem, ⟨31, _⟩ => ⟨S512x512, .f32⟩
  | .local _ .vmem, ⟨32, _⟩ => ⟨S512x256, .f32⟩
  | .local _ .vmem, ⟨33, _⟩ => ⟨S544x512, .f32⟩
  | .local _ .vmem, ⟨34, _⟩ => ⟨S7x536x512, .f32⟩
  | _, _ => ⟨S16384x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_call3_v5 : Ref sig .tc := ⟨.hbm, 32, rfl⟩
abbrev main_call3_v6 : Ref sig .tc := ⟨.hbm, 33, rfl⟩
abbrev main_call3_v7 : Ref sig .tc := ⟨.hbm, 34, rfl⟩
abbrev main_call3_v8 : Ref sig .tc := ⟨.hbm, 35, rfl⟩
abbrev main_call3_c : Ref sig .tc := ⟨.hbm, 36, rfl⟩
abbrev main_call3_v9 : Ref sig .tc := ⟨.hbm, 37, rfl⟩
abbrev main_call3_v10 : Ref sig .tc := ⟨.hbm, 38, rfl⟩
abbrev main_call3_v11 : Ref sig .tc := ⟨.hbm, 39, rfl⟩
abbrev main_call3_c_0 : Ref sig .tc := ⟨.hbm, 40, rfl⟩
abbrev main_call3_v12 : Ref sig .tc := ⟨.hbm, 41, rfl⟩
abbrev main_call3_v13 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_v5 : Ref sig .tc := ⟨.hbm, 51, rfl⟩
abbrev main_call4_v6 : Ref sig .tc := ⟨.hbm, 52, rfl⟩
abbrev main_call4_v7 : Ref sig .tc := ⟨.hbm, 53, rfl⟩
abbrev main_call4_v8 : Ref sig .tc := ⟨.hbm, 54, rfl⟩
abbrev main_call4_c : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_0 : Ref sig .tc := ⟨.hbm, 59, rfl⟩
abbrev main_call4_v12 : Ref sig .tc := ⟨.hbm, 60, rfl⟩
abbrev main_call4_v13 : Ref sig .tc := ⟨.hbm, 61, rfl⟩
abbrev main_v14 : Ref sig .tc := ⟨.hbm, 62, rfl⟩
abbrev main_v15 : Ref sig .tc := ⟨.hbm, 63, rfl⟩
abbrev main_cst : Ref sig .tc := ⟨.hbm, 64, rfl⟩
abbrev main_cst_4 : Ref sig .tc := ⟨.hbm, 65, rfl⟩
abbrev main_call5_v0 : Ref sig .tc := ⟨.hbm, 66, rfl⟩
abbrev main_call5_v1 : Ref sig .tc := ⟨.hbm, 67, rfl⟩
abbrev main_v16 : Ref sig .tc := ⟨.hbm, 68, rfl⟩
abbrev main_v17 : Ref sig .tc := ⟨.hbm, 69, rfl⟩
abbrev main_v18_0 : Ref sig .tc := ⟨.hbm, 70, rfl⟩
abbrev main_v18_1 : Ref sig .tc := ⟨.hbm, 71, rfl⟩
abbrev main_v18_2 : Ref sig .tc := ⟨.hbm, 72, rfl⟩
abbrev main_v18_3 : Ref sig .tc := ⟨.hbm, 73, rfl⟩
abbrev main_v18_4 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Proof.Reals.lean ====
/- Finite extended reals as real numbers: the lemmas that turn an identity of `EReal` terms built from coerced reals
   into an identity over `ℝ`, and the constants the programs use. -/
module

public import Idealize.ShloMosaic.Lib.Pointwise
public import Idealize.ShloMosaic.Lib.IdealHost

@[expose] public section

set_option maxRecDepth 16384

noncomputable section

namespace Cert.Reals

open Idealize.ShloMosaic

/-- A sum of finite values is the sum of the reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_add' (a b : ℝ) : (a : EReal) + b = ((a + b : ℝ) : EReal) := (EReal.coe_add a b).symm
theorem coe_mul' (a b : ℝ) : (a : EReal) * b = ((a * b : ℝ) : EReal) := (EReal.coe_mul a b).symm
theorem coe_sub' (a b : ℝ) : (a : EReal) - b = ((a - b : ℝ) : EReal) := (EReal.coe_sub a b).symm
theorem coe_neg' (a : ℝ) : -(a : EReal) = ((-a : ℝ) : EReal) := (EReal.coe_neg a).symm
theorem coe_max' (a b : ℝ) : max (a : EReal) b = ((max a b : ℝ) : EReal) := (EReal.coe_strictMono.monotone.map_max).symm
theorem zero_coe : (0 : EReal) = ((0 : ℝ) : EReal) := rfl
theorem one_coe : (1 : EReal) = ((1 : ℝ) : EReal) := rfl

/-- Division by a real that is not zero. -/
theorem coe_div' (a : ℝ) {b : ℝ} (h : b ≠ 0) : Ideal.div (a : EReal) (b : EReal) = ((a / b : ℝ) : EReal) := by
  rw [Ideal.div_coe h, ← EReal.coe_mul]; congr 1; ring

/-- The reciprocal square root of a positive real. -/
theorem coe_rsqrt {a : ℝ} (h : 0 < a) : Ideal.rsqrt (a : EReal) = (((Real.sqrt a)⁻¹ : ℝ) : EReal) := by
  rw [Ideal.rsqrt_coe, if_neg (by linarith), if_neg (by linarith)]

/-- The single-precision constant 1e-6 the norms add. -/
def eps : ℝ := 8796093 * (2 : ℝ) ^ (-43 : ℤ)

theorem eps_pos : 0 < eps := by unfold eps; positivity

theorem ofBits_eps : Ideal.ofBits .f32 0x358637BD#32 = (eps : EReal) := by
  unfold eps; simp [Ideal.ofBits, Ideal.ieee, -EReal.coe_mul]
theorem ofBits_1024 : Ideal.ofBits .f32 0x44800000#32 = ((1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_top : Ideal.ofBits .f32 0x7F800000#32 = (⊤ : EReal) := by
  simp [Ideal.ofBits, Ideal.ieee]

/-- What is neither infinity is its real part. -/
theorem coe_of_abs_lt {x : EReal} (h : max x (-x) < ⊤) : x = ((x.toReal : ℝ) : EReal) := by
  induction x using EReal.rec with
  | bot => simp at h
  | top => simp at h
  | coe r => simp

/-! ### The root mean square norm of a row, over the reals -/

/-- The reciprocal root mean square of a row. -/
def rms {n : ℕ} (h : Fin n → ℝ) : ℝ := (Real.sqrt ((∑ k, h k * h k) / n + eps))⁻¹

theorem ms_pos {n : ℕ} (h : Fin n → ℝ) : 0 < (∑ k, h k * h k) / n + eps :=
  add_pos_of_nonneg_of_pos (div_nonneg (Finset.sum_nonneg fun k _ => mul_self_nonneg _) (Nat.cast_nonneg _)) eps_pos

theorem rms_sq {n : ℕ} (h : Fin n → ℝ) : rms h * rms h = ((∑ k, h k * h k) / n + eps)⁻¹ := by
  unfold rms; rw [← mul_inv, Real.mul_self_sqrt (ms_pos h).le]

/-- The gradient of the norm: from the cotangent `d` of the scaled row, `d` already times the gain. -/
def rmsBwd {n : ℕ} (h : Fin n → ℝ) (d : Fin n → ℝ) (q : Fin n) : ℝ :=
  rms h * (d q - h q * rms h * ((∑ k, d k * (h k * rms h)) / n))

end Cert.Reals
-- ==== Proof.Finite.lean ====
/- What a precondition `|a| < ∞` says of an array at the ideal instance. -/
module

public import proofs.«01_k».proof.Proof.Reals

@[expose] public section

namespace Cert.Reals
open Idealize.ShloMosaic Idealize.ShloMosaic.TcCoe Idealize.SL.Sem

/-- Where the comparison of `|a|` with `∞` is one, `a` is a real. -/
theorem real_of_finite {S : Shape} {a b : FVec Ideal S .f32} (h : cmpf .olt (Host.absf a) b = fun _ => 1#1) (hb : ∀ i, b i = ⊤) (i : S.Idx) :
    (a i : EReal) = ((EReal.toReal (a i) : ℝ) : EReal) := by
  have e : BitVec.ofBool (decide (max (a i : EReal) (-(a i)) < ⊤)) = 1#1 := by
    refine Eq.trans ?_ (congrFun h i)
    pointwise [hb]
    rfl
  refine coe_of_abs_lt ?_
  by_contra hn
  rw [decide_eq_false hn] at e
  exact absurd e (by decide)

end Cert.Reals
-- ==== Proof.MlpMath.lean ====
/- The mathematics of the second norm, the squared-ReLU network, the loss and their gradient, row by row over the reals. -/
module

public import proofs.«01_k».proof.Proof.Reals

@[expose] public section

set_option maxRecDepth 16384

noncomputable section

namespace Cert.MlpMath

open Cert.Reals

/-- A row of the call's inputs and the weights. -/
structure Args where
  x : Fin 16384 → Fin 1024 → ℝ
  m : Fin 16384 → Fin 1024 → ℝ
  t : Fin 16384 → Fin 1024 → ℝ
  wo : Fin 1024 → Fin 1024 → ℝ
  g2 : Fin 1024 → ℝ
  w1 : Fin 1024 → Fin 4096 → ℝ
  w2 : Fin 4096 → Fin 1024 → ℝ
  gf : Fin 1024 → ℝ

variable (A : Args) (r : Fin 16384)

/-- The residual stream after the attention block. -/
def h1 (q : Fin 1024) : ℝ := A.x r q + ∑ k, A.m r k * A.wo k q
/-- The normalised row. -/
def hn (q : Fin 1024) : ℝ := h1 A r q * rms (h1 A r) * A.g2 q
/-- The rectified activation. -/
def act (j : Fin 4096) : ℝ := max (∑ k, hn A r k * A.w1 k j) 0
/-- Its square. -/
def ff (j : Fin 4096) : ℝ := act A r j * act A r j
/-- The residual stream after the network. -/
def h2 (q : Fin 1024) : ℝ := h1 A r q + ∑ j, ff A r j * A.w2 j q
/-- The difference to the target. -/
def err (q : Fin 1024) : ℝ := h2 A r q * rms (h2 A r) * A.gf q - A.t r q
/-- The gradient of the residual stream after the network. -/
def dh2 (q : Fin 1024) : ℝ := rmsBwd (h2 A r) (fun q => err A r q * (1 / 1024) * A.gf q) q
/-- The gradient of the network's activation before the rectifier. -/
def da (j : Fin 4096) : ℝ := (∑ q, dh2 A r q * A.w2 j q) * (2 * act A r j)
/-- The gradient of the normalised row. -/
def dhn (k : Fin 1024) : ℝ := ∑ j, da A r j * A.w1 k j
/-- The gradient of the residual stream after the attention block. -/
def dh1 (q : Fin 1024) : ℝ := dh2 A r q + rmsBwd (h1 A r) (fun q => dhn A r q * A.g2 q) q
/-- The gradient of the mixed heads. -/
def dm (k : Fin 1024) : ℝ := ∑ q, dh1 A r q * A.wo k q

end Cert.MlpMath
-- ==== Proof.MlpRefPure.lean ====
/- The reference of the network's forward and backward step, operation by operation over the reals. -/
module

public import proofs.«01_k».proof.Proof.MlpMath
public import proofs.«01_k».proof.Proof.Gen.MlpRefIdeal.Read

@[expose] public section

set_option maxRecDepth 16384

noncomputable section

namespace Cert.MlpRefPure

open Cert.MlpRefIdeal Cert.MlpRefIdeal.Gen Cert.MlpRefIdeal.Read Cert.MlpMath Cert.Reals
open Idealize.ShloMosaic Idealize.ShloMosaic.TcCoe Idealize.SL.Sem

variable (A : Args)

/-- The reference's argument arrays hold the reals `A`. -/
structure Holds (x0 : FVec Ideal S1x16384x1024 .f32) (x1 : FVec Ideal S16384x1024 .f32) (x2 : FVec Ideal S1x16384x1024 .f32)
    (x3 : FVec Ideal S1x1024x1024 .f32) (x4 : FVec Ideal S1x1024 .f32) (x5 : FVec Ideal S1x1024x4096 .f32)
    (x6 : FVec Ideal S1x4096x1024 .f32) (x7 : FVec Ideal S1024 .f32) : Prop where
  x : ∀ r q, x0 (ix3 0 r q) = ((A.x r q : ℝ) : EReal)
  m : ∀ r q, x1 (ix2 r q) = ((A.m r q : ℝ) : EReal)
  t : ∀ r q, x2 (ix3 0 r q) = ((A.t r q : ℝ) : EReal)
  wo : ∀ k q, x3 (ix3 0 k q) = ((A.wo k q : ℝ) : EReal)
  g2 : ∀ q, x4 (ix2 0 q) = ((A.g2 q : ℝ) : EReal)
  w1 : ∀ k j, x5 (ix3 0 k j) = ((A.w1 k j : ℝ) : EReal)
  w2 : ∀ j q, x6 (ix3 0 j q) = ((A.w2 j q : ℝ) : EReal)
  gf : ∀ q, x7 (ix1 q) = ((A.gf q : ℝ) : EReal)

variable {A} {x0 : FVec Ideal S1x16384x1024 .f32} {x1 : FVec Ideal S16384x1024 .f32} {x2 : FVec Ideal S1x16384x1024 .f32}
  {x3 : FVec Ideal S1x1024x1024 .f32} {x4 : FVec Ideal S1x1024 .f32} {x5 : FVec Ideal S1x1024x4096 .f32}
  {x6 : FVec Ideal S1x4096x1024 .f32} {x7 : FVec Ideal S1024 .f32} (H : Holds A x0 x1 x2 x3 x4 x5 x6 x7)
include H

theorem v9 (r : Fin 16384) (q : Fin 1024) : val_main_v9 (F := Ideal) x0 x1 x3 (ix2 r q) = ((h1 A r q : ℝ) : EReal) := by
  pointwise [val_main_v9, val_main_v8, val_main_v0, val_main_v4, H.x, H.m, H.wo]
  simp only [coe_mul', coe_sum, coe_add', h1]

/-- The mean square plus the constant, of the first norm. -/
theorem v16 (r : Fin 16384) : val_main_v16 (F := Ideal) x0 x1 x3 (ix2 r 0)
    = (((∑ k, h1 A r k * h1 A r k) / 1024 + eps : ℝ) : EReal) := by
  pointwise [val_main_v16, val_main_v15, val_main_v14, val_main_v13, val_main_v12, val_main_v11, val_main_v10,
    val_main_cst_1, val_main_cst_2, val_main_cst_3, v9 H]
  simp only [coe_mul', coe_sum, zero_add, ofBits_eps, ofBits_1024]
  rw [coe_div' _ (by norm_num), coe_add']

theorem v17 (r : Fin 16384) : val_main_v17 (F := Ideal) x0 x1 x3 (ix2 r 0) = ((rms (h1 A r) : ℝ) : EReal) := by
  pointwise [val_main_v17, v16 H]
  rw [coe_rsqrt]
  · simp [rms]
  · simpa using ms_pos (h1 A r)

theorem v20 (r : Fin 16384) : val_main_v20 (F := Ideal) x0 x1 x3 (ix2 r 0)
    = ((-(1 / 2) * (rms (h1 A r) * (rms (h1 A r) * rms (h1 A r))) : ℝ) : EReal) := by
  pointwise [val_main_v20, val_main_v19, val_main_v18, val_main_cst_4, v16 H, v17 H]
  rw [coe_div' _ (by simpa using (ms_pos (h1 A r)).ne'), ofBits_neg_half, coe_mul', rms_sq]
  norm_num [div_eq_mul_inv]

theorem v22 (r : Fin 16384) (q : Fin 1024) :
    val_main_v22 (F := Ideal) x0 x1 x3 (ix2 r q) = ((h1 A r q * rms (h1 A r) : ℝ) : EReal) := by
  pointwise [val_main_v22, val_main_v21, v9 H, v17 H]
  simp only [coe_mul']

theorem v25 (r : Fin 16384) (q : Fin 1024) :
    val_main_v25 (F := Ideal) x0 x1 x3 x4 (ix2 r q) = ((hn A r q : ℝ) : EReal) := by
  pointwise [val_main_v25, val_main_v24, val_main_v23, val_main_v1, v22 H, H.g2]
  simp only [coe_mul', hn]

theorem v27 (r : Fin 16384) (j : Fin 4096) :
    val_main_v27 (F := Ideal) x0 x1 x3 x4 x5 (ix2 r j) = ((∑ k, hn A r k * A.w1 k j : ℝ) : EReal) := by
  pointwise [val_main_v27, val_main_v26, val_main_v5, val_main_v2, val_main_cst, v25 H, H.w1]
  simp only [coe_mul', coe_sum, add_zero]

theorem v28 (r : Fin 16384) (j : Fin 4096) :
    val_main_v28 (F := Ideal) x0 x1 x3 x4 x5 (ix2 r j) = ((act A r j : ℝ) : EReal) := by
  pointwise [val_main_v28, val_main_call0_v0, val_main_call0_cst, v27 H]
  simp only [zero_coe, coe_max', act]

theorem v32 (r : Fin 16384) (j : Fin 4096) :
    val_main_v32 (F := Ideal) x0 x1 x3 x4 x5 (ix2 r j) = ((ff A r j : ℝ) : EReal) := by
  pointwise [val_main_v32, v28 H]
  simp only [coe_mul', ff]

theorem v37 (r : Fin 16384) (q : Fin 1024) :
    val_main_v37 (F := Ideal) x0 x1 x3 x4 x5 x6 (ix2 r q) = ((h2 A r q : ℝ) : EReal) := by
  pointwise [val_main_v37, val_main_v36, val_main_v35, val_main_v6, val_main_v3, val_main_cst_0, v9 H, v32 H, H.w2]
  simp only [coe_mul', coe_sum, coe_add', add_zero, h2]

theorem v44 (r : Fin 16384) : val_main_v44 (F := Ideal) x0 x1 x3 x4 x5 x6 (ix2 r 0)
    = (((∑ k, h2 A r k * h2 A r k) / 1024 + eps : ℝ) : EReal) := by
  pointwise [val_main_v44, val_main_v43, val_main_v42, val_main_v41, val_main_v40, val_main_v39, val_main_v38,
    val_main_cst_8, val_main_cst_9, val_main_cst_10, v37 H]
  simp only [coe_mul', coe_sum, zero_add, ofBits_eps, ofBits_1024]
  rw [coe_div' _ (by norm_num), coe_add']

theorem v45 (r : Fin 16384) :
    val_main_v45 (F := Ideal) x0 x1 x3 x4 x5 x6 (ix2 r 0) = ((rms (h2 A r) : ℝ) : EReal) := by
  pointwise [val_main_v45, v44 H]
  rw [coe_rsqrt]
  · simp [rms]
  · simpa using ms_pos (h2 A r)

theorem v48 (r : Fin 16384) : val_main_v48 (F := Ideal) x0 x1 x3 x4 x5 x6 (ix2 r 0)
    = ((-(1 / 2) * (rms (h2 A r) * (rms (h2 A r) * rms (h2 A r))) : ℝ) : EReal) := by
  pointwise [val_main_v48, val_main_v47, val_main_v46, val_main_cst_11, v44 H, v45 H]
  rw [coe_div' _ (by simpa using (ms_pos (h2 A r)).ne'), ofBits_neg_half, coe_mul', rms_sq]
  norm_num [div_eq_mul_inv]

theorem v50 (r : Fin 16384) (q : Fin 1024) :
    val_main_v50 (F := Ideal) x0 x1 x3 x4 x5 x6 (ix2 r q) = ((h2 A r q * rms (h2 A r) : ℝ) : EReal) := by
  pointwise [val_main_v50, val_main_v49, v37 H, v45 H]
  simp only [coe_mul']

theorem v54 (r : Fin 16384) (q : Fin 1024) :
    val_main_v54 (F := Ideal) x0 x1 x2 x3 x4 x5 x6 x7 (ix2 r q) = ((err A r q : ℝ) : EReal) := by
  pointwise [val_main_v54, val_main_v53, val_main_v52, val_main_v51, val_main_v7, v50 H, H.gf, H.t]
  simp only [coe_mul', coe_sub', err]

theorem v121 : val_main_v121 (F := Ideal) x0 x1 x2 x3 x4 x5 x6 x7 (ix2 0 0)
    = ((1 / 2048 * ∑ r, ∑ q, err A r q * err A r q : ℝ) : EReal) := by
  pointwise [val_main_v121, val_main_v62, val_main_v61, val_main_v60, val_main_v59, val_main_v58, val_main_v55,
    val_main_cst_13, val_main_cst_14, val_main_cst_15, val_main_cst_16, v54 H]
  simp only [coe_mul', coe_sum, zero_add, ofBits_1024, ofBits_half]
  simp only [coe_div' _ (show (1024 : ℝ) ≠ 0 by norm_num), coe_sum, coe_mul']
  rw [← Finset.sum_div]; congr 1; ring

theorem v68 (r : Fin 16384) (q : Fin 1024) : val_main_v68 (F := Ideal) x0 x1 x2 x3 x4 x5 x6 x7 (ix2 r q)
    = ((err A r q * (1 / 1024) : ℝ) : EReal) := by
  pointwise [val_main_v68, val_main_v67, val_main_v66, val_main_v65, val_main_v64, val_main_v63, val_main_v57,
    val_main_v56, val_main_cst_12, val_main_cst_17, val_main_cst_18, val_main_cst_19, v54 H]
  simp only [coe_mul', one_coe, ofBits_1024, ofBits_half, ofBits_two]
  rw [coe_div' _ (by norm_num), coe_mul']; congr 1; ring

theorem v73 (r : Fin 16384) (q : Fin 1024) : val_main_v73 (F := Ideal) x0 x1 x2 x3 x4 x5 x6 x7 (ix2 r q)
    = ((err A r q * (1 / 1024) * A.gf q : ℝ) : EReal) := by
  pointwise [val_main_v73, val_main_v72, val_main_v51, v68 H, H.gf]
  simp only [coe_mul']

/-- Half the gradient of the mean square's root, per row. -/
theorem v84 (r : Fin 16384) (q : Fin 1024) : val_main_v84 (F := Ideal) x0 x1 x2 x3 x4 x5 x6 x7 (ix2 r q)
    = (((∑ k, h2 A r k * (err A r k * (1 / 1024) * A.gf k)) *
        (-(1 / 2) * (rms (h2 A r) * (rms (h2 A r) * rms (h2 A r)))) / 1024 : ℝ) : EReal) := by
  pointwise [val_main_v84, val_main_v83, val_main_v82, val_main_v81, val_main_v80, val_main_v77, val_main_v76,
    val_main_v75, val_main_cst_22, val_main_cst_23, val_main_cst_24, v37 H, v73 H, v48 H]
  simp only [coe_mul', coe_sum, zero_add, ofBits_1024]
  rw [Fin.sum_univ_one, v48 H, coe_mul', coe_div' _ (by norm_num)]

/-- The gradient of the norm as the chain rule spells it. -/
theorem rmsBwd_chain {n : ℕ} (h d : Fin n → ℝ) (q : Fin n) (c : ℝ) (hc : c = n) :
    rmsBwd h d q = d q * rms h + h q * ((∑ k, h k * d k) * (-(1 / 2) * (rms h * (rms h * rms h))) / c)
      + (∑ k, h k * d k) * (-(1 / 2) * (rms h * (rms h * rms h))) / c * h q := by
  have hs : ∑ k, d k * (h k * rms h) = rms h * ∑ k, h k * d k := by
    rw [Finset.mul_sum]; exact Finset.sum_congr rfl fun k _ => by ring
  rw [rmsBwd, hs, hc]; ring

theorem v88 (r : Fin 16384) (q : Fin 1024) : val_main_v88 (F := Ideal) x0 x1 x2 x3 x4 x5 x6 x7 (ix2 r q)
    = ((dh2 A r q : ℝ) : EReal) := by
  pointwise [val_main_v88, val_main_v87, val_main_v86, val_main_v85, val_main_v79, val_main_v78, v37 H, v73 H, v45 H, v84 H]
  simp only [coe_mul', coe_add']
  rw [dh2, rmsBwd_chain H _ _ _ 1024 (by norm_num)]

theorem v92 (r : Fin 16384) (j : Fin 4096) : val_main_v92 (F := Ideal) x0 x1 x2 x3 x4 x5 x6 x7 (ix2 r j)
    = ((da A r j : ℝ) : EReal) := by
  pointwise [val_main_v92, val_main_v91, val_main_v90, val_main_v89, val_main_v34, val_main_v33, val_main_v30, val_main_v29,
    val_main_v6, val_main_cst_5, val_main_cst_7, val_main_cst_25, v27 H, v28 H, v88 H, H.w2]
  simp only [coe_mul', coe_sum, ofBits_two, zero_coe, EReal.coe_lt_coe_iff]
  by_cases h : 0 < ∑ k, hn A r k * A.w1 k j
  · simp only [h, if_true, da]
  · simp only [h, if_false, da, act, max_eq_right (not_lt.mp h)]
    simp

theorem v93 (r : Fin 16384) (k : Fin 1024) : val_main_v93 (F := Ideal) x0 x1 x2 x3 x4 x5 x6 x7 (ix2 r k)
    = ((dhn A r k : ℝ) : EReal) := by
  pointwise [val_main_v93, val_main_v5, v92 H, H.w1]
  simp only [coe_mul', coe_sum, dhn]

theorem v98 (r : Fin 16384) (k : Fin 1024) : val_main_v98 (F := Ideal) x0 x1 x2 x3 x4 x5 x6 x7 (ix2 r k)
    = ((dhn A r k * A.g2 k : ℝ) : EReal) := by
  pointwise [val_main_v98, val_main_v97, val_main_v23, val_main_v1, v93 H, H.g2]
  simp only [coe_mul']

theorem v110 (r : Fin 16384) (q : Fin 1024) : val_main_v110 (F := Ideal) x0 x1 x2 x3 x4 x5 x6 x7 (ix2 r q)
    = (((∑ k, h1 A r k * (dhn A r k * A.g2 k)) *
        (-(1 / 2) * (rms (h1 A r) * (rms (h1 A r) * rms (h1 A r)))) / 1024 : ℝ) : EReal) := by
  pointwise [val_main_v110, val_main_v109, val_main_v108, val_main_v107, val_main_v106, val_main_v102, val_main_v101,
    val_main_v100, val_main_cst_28, val_main_cst_29, val_main_cst_30, v9 H, v98 H, v20 H]
  simp only [coe_mul', coe_sum, zero_add, ofBits_1024]
  rw [Fin.sum_univ_one, v20 H, coe_mul', coe_div' _ (by norm_num)]

theorem v114 (r : Fin 16384) (q : Fin 1024) : val_main_v114 (F := Ideal) x0 x1 x2 x3 x4 x5 x6 x7 (ix2 r q)
    = ((dh1 A r q : ℝ) : EReal) := by
  pointwise [val_main_v114, val_main_v113, val_main_v112, val_main_v111, val_main_v105, val_main_v104, val_main_v103,
    v9 H, v17 H, v88 H, v98 H, v110 H]
  simp only [coe_mul', coe_add']
  rw [dh1, rmsBwd_chain H _ _ _ 1024 (by norm_num)]
  congr 1; ring

theorem v116 (r : Fin 16384) (k : Fin 1024) : val_main_v116 (F := Ideal) x0 x1 x2 x3 x4 x5 x6 x7 (ix2 r k)
    = ((dm A r k : ℝ) : EReal) := by
  pointwise [val_main_v116, val_main_v115, val_main_v4, v114 H, H.wo]
  simp only [coe_mul', coe_sum, dm]

theorem v117 (r : Fin 16384) (q : Fin 1024) :
    val_main_v117 (F := Ideal) x0 x1 x3 x4 (ix2 r q) = ((hn A r q : ℝ) : EReal) := by
  pointwise [val_main_v117, v25 H]

theorem v118 (r : Fin 16384) (j : Fin 4096) :
    val_main_v118 (F := Ideal) x0 x1 x3 x4 x5 (ix2 r j) = ((ff A r j : ℝ) : EReal) := by
  pointwise [val_main_v118, v32 H]

theorem v119 (r : Fin 16384) (j : Fin 4096) : val_main_v119 (F := Ideal) x0 x1 x2 x3 x4 x5 x6 x7 (ix2 r j)
    = ((da A r j : ℝ) : EReal) := by
  pointwise [val_main_v119, v92 H]

theorem v120 (r : Fin 16384) (q : Fin 1024) : val_main_v120 (F := Ideal) x0 x1 x2 x3 x4 x5 x6 x7 (ix2 r q)
    = ((dh2 A r q : ℝ) : EReal) := by
  pointwise [val_main_v120, v88 H]

theorem v122 (q : Fin 1024) : val_main_v122 (F := Ideal) x0 x1 x2 x3 x4 x5 x6 x7 (ix2 0 q)
    = ((∑ r, err A r q * (1 / 1024) * (h2 A r q * rms (h2 A r)) : ℝ) : EReal) := by
  pointwise [val_main_v122, val_main_v74, val_main_v71, val_main_v70, val_main_v69, val_main_cst_20, val_main_cst_21,
    v50 H, v68 H]
  simp only [coe_mul', coe_sum, zero_add]
  simp [mul_comm]

theorem v123 (q : Fin 1024) : val_main_v123 (F := Ideal) x0 x1 x2 x3 x4 x5 x6 x7 (ix2 0 q)
    = ((∑ r, dhn A r q * (h1 A r q * rms (h1 A r)) : ℝ) : EReal) := by
  pointwise [val_main_v123, val_main_v99, val_main_v96, val_main_v95, val_main_v94, val_main_cst_26, val_main_cst_27,
    v22 H, v93 H]
  simp only [coe_mul', coe_sum, zero_add]
  simp [mul_comm]

end Cert.MlpRefPure
-- ==== Proof.MlpPure.lean ====
/- What the kernel of the network's forward and backward step stores, over the reals: each payload at an index. -/
module

public import proofs.«01_k».proof.Proof.MlpMath
public import proofs.«01_k».proof.Proof.Gen.MlpKernelIdeal.Skeleton

@[expose] public section

set_option maxRecDepth 16384

noncomputable section

namespace Cert.MlpPure

open Cert.MlpKernelIdeal Cert.MlpKernelIdeal.Gen Cert.MlpMath Cert.Reals
open Idealize.ShloMosaic Idealize.ShloMosaic.TcCoe Idealize.SL.Sem

variable (A : Args) (R : Fin 256 → Fin 16384)

theorem pay8 {v6 : FVec Ideal S256x1024 .f32} {v8 v14 : FVec Ideal S256x512 .bf16} {v10 v16 : FVec Ideal S512x1024 .bf16}
    (h6 : ∀ p q, v6 (ix2 p q) = ((A.x (R p) q : ℝ) : EReal))
    (h8 : ∀ p (k : Fin 512), v8 (ix2 p k) = ((A.m (R p) ⟨k, by omega⟩ : ℝ) : EReal))
    (h10 : ∀ (k : Fin 512) q, v10 (ix2 k q) = ((A.wo ⟨k, by omega⟩ q : ℝ) : EReal))
    (h14 : ∀ p (k : Fin 512), v14 (ix2 p k) = ((A.m (R p) ⟨512 + k, by omega⟩ : ℝ) : EReal))
    (h16 : ∀ (k : Fin 512) q, v16 (ix2 k q) = ((A.wo ⟨512 + k, by omega⟩ q : ℝ) : EReal))
    (p : Fin 256) (q : Fin 1024) :
    k0_pay8 (F := Ideal) v6 v8 v10 v14 v16 (ix2 p q) = ((h1 A (R p) q : ℝ) : EReal) := by
  pointwise [k0_pay8, h6, h8, h10, h14, h16]
  simp only [coe_mul', coe_sum, coe_add', zero_add]
  rw [h1, Fin.sum_univ_two_halves 512 512 rfl]
  congr 1
  exact add_assoc _ _ _

theorem pay9 {v6 : FVec Ideal S256x1024 .f32} {v8 v14 : FVec Ideal S256x512 .bf16} {v10 v16 : FVec Ideal S512x1024 .bf16}
    (h8 : ∀ p q, k0_pay8 (F := Ideal) v6 v8 v10 v14 v16 (ix2 p q) = ((h1 A (R p) q : ℝ) : EReal)) (p : Fin 256) :
    k0_pay9 (F := Ideal) v6 v8 v10 v14 v16 (ix2 p 0) = ((rms (h1 A (R p)) : ℝ) : EReal) := by
  pointwise [k0_pay9, h8]
  simp only [coe_mul', coe_sum, coe_add', ofBits_eps, ofBits_1024]
  rw [coe_div' _ (by norm_num), coe_add', coe_rsqrt]
  · rfl
  · exact ms_pos (h1 A (R p))

theorem pay10 {v6 : FVec Ideal S256x1024 .f32} {v8 v14 : FVec Ideal S256x512 .bf16} {v10 v16 : FVec Ideal S512x1024 .bf16}
    (h8 : ∀ p q, k0_pay8 (F := Ideal) v6 v8 v10 v14 v16 (ix2 p q) = ((h1 A (R p) q : ℝ) : EReal))
    (p : Fin 256) (q : Fin 1024) :
    k0_pay10 (F := Ideal) v6 v8 v10 v14 v16 (ix2 p q) = ((h1 A (R p) q * rms (h1 A (R p)) : ℝ) : EReal) := by
  pointwise [k0_pay10, h8, pay9 A R h8]
  simp only [coe_mul']

theorem pay11 {v3 : FVec Ideal S1x1024 .f32} {v6 : FVec Ideal S256x1024 .f32} {v8 v14 : FVec Ideal S256x512 .bf16}
    {v10 v16 : FVec Ideal S512x1024 .bf16} (h3 : ∀ q, v3 (ix2 0 q) = ((A.g2 q : ℝ) : EReal))
    (h8 : ∀ p q, k0_pay8 (F := Ideal) v6 v8 v10 v14 v16 (ix2 p q) = ((h1 A (R p) q : ℝ) : EReal))
    (p : Fin 256) (q : Fin 1024) :
    k0_pay11 (F := Ideal) v3 v6 v8 v10 v14 v16 (ix2 p q) = ((hn A (R p) q : ℝ) : EReal) := by
  pointwise [k0_pay11, h3, pay10 A R h8]
  simp only [coe_mul', hn]

theorem pay12 {v32 : FVec Ideal S256x1024 .bf16} {v34 : FVec Ideal S4096x1024 .bf16}
    (h32 : ∀ p q, v32 (ix2 p q) = ((hn A (R p) q : ℝ) : EReal)) (h34 : ∀ j k, v34 (ix2 j k) = ((A.w1 k j : ℝ) : EReal))
    (p : Fin 256) (j : Fin 4096) : k0_pay12 (F := Ideal) v32 v34 (ix2 p j) = ((act A (R p) j : ℝ) : EReal) := by
  pointwise [k0_pay12, h32, h34]
  simp only [coe_mul', coe_sum, zero_add, zero_coe, coe_add', coe_max']
  rfl

theorem pay13 {v32 : FVec Ideal S256x1024 .bf16} {v34 : FVec Ideal S4096x1024 .bf16}
    (h12 : ∀ p j, k0_pay12 (F := Ideal) v32 v34 (ix2 p j) = ((act A (R p) j : ℝ) : EReal))
    (p : Fin 256) (j : Fin 4096) : k0_pay13 (F := Ideal) v32 v34 (ix2 p j) = ((ff A (R p) j : ℝ) : EReal) := by
  pointwise [k0_pay13, h12]
  simp only [coe_mul', ff]

theorem pay14 {v19 : FVec Ideal S256x1024 .f32} {v32 : FVec Ideal S256x1024 .bf16} {v34 v42 : FVec Ideal S4096x1024 .bf16}
    (h19 : ∀ p q, v19 (ix2 p q) = ((h1 A (R p) q : ℝ) : EReal))
    (h12 : ∀ p j, k0_pay12 (F := Ideal) v32 v34 (ix2 p j) = ((act A (R p) j : ℝ) : EReal))
    (h42 : ∀ j q, v42 (ix2 j q) = ((A.w2 j q : ℝ) : EReal))
    (p : Fin 256) (q : Fin 1024) : k0_pay14 (F := Ideal) v19 v32 v34 v42 (ix2 p q) = ((h2 A (R p) q : ℝ) : EReal) := by
  pointwise [k0_pay14, h19, h42, pay13 A R h12]
  simp only [coe_mul', coe_sum, zero_add, coe_add', h2]

theorem pay15 {v19 : FVec Ideal S256x1024 .f32} {v32 : FVec Ideal S256x1024 .bf16} {v34 v42 : FVec Ideal S4096x1024 .bf16}
    (h14 : ∀ p q, k0_pay14 (F := Ideal) v19 v32 v34 v42 (ix2 p q) = ((h2 A (R p) q : ℝ) : EReal)) (p : Fin 256) :
    k0_pay15 (F := Ideal) v19 v32 v34 v42 (ix2 p 0) = ((rms (h2 A (R p)) : ℝ) : EReal) := by
  pointwise [k0_pay15, h14]
  simp only [coe_mul', coe_sum, coe_add', ofBits_eps, ofBits_1024]
  rw [coe_div' _ (by norm_num), coe_add', coe_rsqrt]
  · rfl
  · exact ms_pos (h2 A (R p))

theorem pay16 {v19 : FVec Ideal S256x1024 .f32} {v32 : FVec Ideal S256x1024 .bf16} {v34 v42 : FVec Ideal S4096x1024 .bf16}
    (h14 : ∀ p q, k0_pay14 (F := Ideal) v19 v32 v34 v42 (ix2 p q) = ((h2 A (R p) q : ℝ) : EReal)) (p : Fin 256) (q : Fin 1024) :
    k0_pay16 (F := Ideal) v19 v32 v34 v42 (ix2 p q) = ((h2 A (R p) q * rms (h2 A (R p)) : ℝ) : EReal) := by
  pointwise [k0_pay16, h14, pay15 A R h14]
  simp only [coe_mul']

theorem pay17 {v5 : FVec Ideal S1x1024 .f32} {v19 v58 : FVec Ideal S256x1024 .f32} {v32 : FVec Ideal S256x1024 .bf16}
    {v34 v42 : FVec Ideal S4096x1024 .bf16} (h5 : ∀ q, v5 (ix2 0 q) = ((A.gf q : ℝ) : EReal))
    (h58 : ∀ p q, v58 (ix2 p q) = ((A.t (R p) q : ℝ) : EReal))
    (h14 : ∀ p q, k0_pay14 (F := Ideal) v19 v32 v34 v42 (ix2 p q) = ((h2 A (R p) q : ℝ) : EReal)) (p : Fin 256) (q : Fin 1024) :
    k0_pay17 (F := Ideal) v5 v19 v32 v34 v42 v58 (ix2 p q) = ((err A (R p) q : ℝ) : EReal) := by
  pointwise [k0_pay17, h5, h58, pay16 A R h14]
  simp only [coe_mul', coe_sub', err]

theorem pay18 {v5 : FVec Ideal S1x1024 .f32} {v19 v58 : FVec Ideal S256x1024 .f32} {v32 : FVec Ideal S256x1024 .bf16}
    {v34 v42 : FVec Ideal S4096x1024 .bf16} {v61 : FVec Ideal S1x1 .f32}
    (h17 : ∀ p q, k0_pay17 (F := Ideal) v5 v19 v32 v34 v42 v58 (ix2 p q) = ((err A (R p) q : ℝ) : EReal)) :
    k0_pay18 (F := Ideal) v5 v19 v32 v34 v42 v58 v61 (ix2 0 0)
      = v61 (ix2 0 0) + ((1 / 2048 * ∑ p, ∑ q, err A (R p) q * err A (R p) q : ℝ) : EReal) := by
  pointwise [k0_pay18, h17]
  simp only [coe_mul', coe_sum, ofBits_inv2048]

theorem pay19 {v60 : FVec Ideal S256x1024 .f32} (h60 : ∀ p q, v60 (ix2 p q) = ((err A (R p) q : ℝ) : EReal))
    (p : Fin 256) (q : Fin 1024) : k0_pay19 (F := Ideal) v60 (ix2 p q) = ((err A (R p) q * (1 / 1024) : ℝ) : EReal) := by
  pointwise [k0_pay19, h60]
  simp only [coe_mul', ofBits_inv1024]

theorem pay20 {v55 v60 : FVec Ideal S256x1024 .f32} {v74 : FVec Ideal S1x1024 .f32}
    (h55 : ∀ p q, v55 (ix2 p q) = ((h2 A (R p) q * rms (h2 A (R p)) : ℝ) : EReal))
    (h60 : ∀ p q, v60 (ix2 p q) = ((err A (R p) q : ℝ) : EReal)) (q : Fin 1024) :
    k0_pay20 (F := Ideal) v55 v60 v74 (ix2 0 q)
      = v74 (ix2 0 q) + ((∑ p, err A (R p) q * (1 / 1024) * (h2 A (R p) q * rms (h2 A (R p))) : ℝ) : EReal) := by
  pointwise [k0_pay20, h55, pay19 A R h60]
  simp only [coe_mul', coe_sum]

theorem pay21 {v5 : FVec Ideal S1x1024 .f32} {v53 : FVec Ideal S256x1 .f32} {v55 v60 : FVec Ideal S256x1024 .f32}
    (h5 : ∀ q, v5 (ix2 0 q) = ((A.gf q : ℝ) : EReal))
    (h53 : ∀ p, v53 (ix2 p 0) = ((rms (h2 A (R p)) : ℝ) : EReal))
    (h55 : ∀ p q, v55 (ix2 p q) = ((h2 A (R p) q * rms (h2 A (R p)) : ℝ) : EReal))
    (h60 : ∀ p q, v60 (ix2 p q) = ((err A (R p) q : ℝ) : EReal)) (p : Fin 256) (q : Fin 1024) :
    k0_pay21 (F := Ideal) v5 v53 v55 v60 (ix2 p q) = ((dh2 A (R p) q : ℝ) : EReal) := by
  pointwise [k0_pay21, h5, h53, h55, pay19 A R h60]
  simp only [coe_mul', coe_sum, ofBits_1024]
  rw [coe_div' _ (by norm_num), coe_mul', coe_sub', coe_mul']
  simp only [dh2, rmsBwd]
  norm_num

theorem pay23 {v5 : FVec Ideal S1x1024 .f32} {v38 : FVec Ideal S256x4096 .f32} {v53 : FVec Ideal S256x1 .f32}
    {v55 v60 : FVec Ideal S256x1024 .f32} {v95 : FVec Ideal S4096x1024 .bf16}
    (h38 : ∀ p j, v38 (ix2 p j) = ((act A (R p) j : ℝ) : EReal))
    (h21 : ∀ p q, k0_pay21 (F := Ideal) v5 v53 v55 v60 (ix2 p q) = ((dh2 A (R p) q : ℝ) : EReal))
    (h95 : ∀ j q, v95 (ix2 j q) = ((A.w2 j q : ℝ) : EReal)) (p : Fin 256) (j : Fin 4096) :
    k0_pay23 (F := Ideal) v5 v38 v53 v55 v60 v95 (ix2 p j) = ((da A (R p) j : ℝ) : EReal) := by
  pointwise [k0_pay23, k0_pay22, h38, h21, h95]
  simp only [coe_mul', coe_sum, zero_add, ofBits_two, da]

theorem pay24 {v5 : FVec Ideal S1x1024 .f32} {v38 : FVec Ideal S256x4096 .f32} {v53 : FVec Ideal S256x1 .f32}
    {v55 v60 : FVec Ideal S256x1024 .f32} {v95 v103 : FVec Ideal S4096x1024 .bf16}
    (h23 : ∀ p j, k0_pay23 (F := Ideal) v5 v38 v53 v55 v60 v95 (ix2 p j) = ((da A (R p) j : ℝ) : EReal))
    (h103 : ∀ j k, v103 (ix2 j k) = ((A.w1 k j : ℝ) : EReal)) (p : Fin 256) (k : Fin 1024) :
    k0_pay24 (F := Ideal) v5 v38 v53 v55 v60 v95 v103 (ix2 p k) = ((dhn A (R p) k : ℝ) : EReal) := by
  pointwise [k0_pay24, h23, h103]
  simp only [coe_mul', coe_sum, zero_add, dhn]

theorem pay1 {v29 v105 : FVec Ideal S256x1024 .f32} {v106 : FVec Ideal S1x1024 .f32}
    (h29 : ∀ p q, v29 (ix2 p q) = ((h1 A (R p) q * rms (h1 A (R p)) : ℝ) : EReal))
    (h105 : ∀ p q, v105 (ix2 p q) = ((dhn A (R p) q : ℝ) : EReal)) (q : Fin 1024) :
    k0_pay1 (F := Ideal) v29 v105 v106 (ix2 0 q)
      = v106 (ix2 0 q) + ((∑ p, dhn A (R p) q * (h1 A (R p) q * rms (h1 A (R p))) : ℝ) : EReal) := by
  pointwise [k0_pay1, h29, h105]
  simp only [coe_mul', coe_sum]

theorem pay2 {v3 : FVec Ideal S1x1024 .f32} {v27 : FVec Ideal S256x1 .f32} {v29 v92 v105 : FVec Ideal S256x1024 .f32}
    (h3 : ∀ q, v3 (ix2 0 q) = ((A.g2 q : ℝ) : EReal))
    (h27 : ∀ p, v27 (ix2 p 0) = ((rms (h1 A (R p)) : ℝ) : EReal))
    (h29 : ∀ p q, v29 (ix2 p q) = ((h1 A (R p) q * rms (h1 A (R p)) : ℝ) : EReal))
    (h92 : ∀ p q, v92 (ix2 p q) = ((dh2 A (R p) q : ℝ) : EReal))
    (h105 : ∀ p q, v105 (ix2 p q) = ((dhn A (R p) q : ℝ) : EReal)) (p : Fin 256) (q : Fin 1024) :
    k0_pay2 (F := Ideal) v3 v27 v29 v92 v105 (ix2 p q) = ((dh1 A (R p) q : ℝ) : EReal) := by
  pointwise [k0_pay2, h3, h27, h29, h92, h105]
  simp only [coe_mul', coe_sum, ofBits_1024]
  rw [coe_div' _ (by norm_num), coe_mul', coe_sub', coe_mul', coe_add']
  simp only [dh1, rmsBwd]
  norm_num

theorem pay3 {v3 : FVec Ideal S1x1024 .f32} {v27 : FVec Ideal S256x1 .f32} {v29 v92 v105 : FVec Ideal S256x1024 .f32}
    {v128 : FVec Ideal S1024x1024 .bf16}
    (h2 : ∀ p q, k0_pay2 (F := Ideal) v3 v27 v29 v92 v105 (ix2 p q) = ((dh1 A (R p) q : ℝ) : EReal))
    (h128 : ∀ k q, v128 (ix2 k q) = ((A.wo k q : ℝ) : EReal)) (p : Fin 256) (k : Fin 1024) :
    k0_pay3 (F := Ideal) v3 v27 v29 v92 v105 v128 (ix2 p k) = ((dm A (R p) k : ℝ) : EReal) := by
  pointwise [k0_pay3, h2, h128]
  simp only [coe_mul', coe_sum, zero_add, dm]

/-! ### The whole tile, from the loaded blocks -/

/-- The blocks a grid point loads hold the rows `R` of the arguments. -/
structure Loads (v3 v4 : FVec Ideal S1x1024 .f32) (v6 : FVec Ideal S256x1024 .f32) (v8 v14 : FVec Ideal S256x512 .bf16)
    (v10 v16 : FVec Ideal S512x1024 .bf16) (v34 v42 : FVec Ideal S4096x1024 .bf16) (v58 : FVec Ideal S256x1024 .f32) : Prop where
  h3 : ∀ q, v3 (ix2 0 q) = ((A.g2 q : ℝ) : EReal)
  h4 : ∀ q, v4 (ix2 0 q) = ((A.gf q : ℝ) : EReal)
  h6 : ∀ p q, v6 (ix2 p q) = ((A.x (R p) q : ℝ) : EReal)
  h8 : ∀ p (k : Fin 512), v8 (ix2 p k) = ((A.m (R p) ⟨k, by omega⟩ : ℝ) : EReal)
  h10 : ∀ (k : Fin 512) q, v10 (ix2 k q) = ((A.wo ⟨k, by omega⟩ q : ℝ) : EReal)
  h14 : ∀ p (k : Fin 512), v14 (ix2 p k) = ((A.m (R p) ⟨512 + k, by omega⟩ : ℝ) : EReal)
  h16 : ∀ (k : Fin 512) q, v16 (ix2 k q) = ((A.wo ⟨512 + k, by omega⟩ q : ℝ) : EReal)
  h34 : ∀ j k, v34 (ix2 j k) = ((A.w1 k j : ℝ) : EReal)
  h42 : ∀ j q, v42 (ix2 j q) = ((A.w2 j q : ℝ) : EReal)
  h58 : ∀ p q, v58 (ix2 p q) = ((A.t (R p) q : ℝ) : EReal)

section
variable (v3 v4 : FVec Ideal S1x1024 .f32) (v6 : FVec Ideal S256x1024 .f32) (v8 v14 : FVec Ideal S256x512 .bf16)
    (v10 v16 : FVec Ideal S512x1024 .bf16) (v34 v42 : FVec Ideal S4096x1024 .bf16) (v58 : FVec Ideal S256x1024 .f32)

abbrev s5 := k0_pay7 (F := Ideal) v4
abbrev s19 := k0_pay8 (F := Ideal) v6 v8 v10 v14 v16
abbrev s27 := k0_pay9 (F := Ideal) v6 v8 v10 v14 v16
abbrev s29 := k0_pay10 (F := Ideal) v6 v8 v10 v14 v16
abbrev s32 := k0_pay11 (F := Ideal) v3 v6 v8 v10 v14 v16
abbrev s38 := k0_pay12 (F := Ideal) (s32 v3 v6 v8 v14 v10 v16) v34
abbrev s53 := k0_pay15 (F := Ideal) (s19 v6 v8 v14 v10 v16) (s32 v3 v6 v8 v14 v10 v16) v34 v42
abbrev s55 := k0_pay16 (F := Ideal) (s19 v6 v8 v14 v10 v16) (s32 v3 v6 v8 v14 v10 v16) v34 v42
abbrev s60 := k0_pay17 (F := Ideal) (s5 v4) (s19 v6 v8 v14 v10 v16) (s32 v3 v6 v8 v14 v10 v16) v34 v42 v58
abbrev s92 := k0_pay21 (F := Ideal) (s5 v4) (s53 v3 v6 v8 v14 v10 v16 v34 v42) (s55 v3 v6 v8 v14 v10 v16 v34 v42) (s60 v3 v4 v6 v8 v14 v10 v16 v34 v42 v58)
abbrev s105 := k0_pay24 (F := Ideal) (s5 v4) (s38 v3 v6 v8 v14 v10 v16 v34) (s53 v3 v6 v8 v14 v10 v16 v34 v42) (s55 v3 v6 v8 v14 v10 v16 v34 v42) (s60 v3 v4 v6 v8 v14 v10 v16 v34 v42 v58) v42 v34
end

variable {A R} {v3 v4 : FVec Ideal S1x1024 .f32} {v6 : FVec Ideal S256x1024 .f32} {v8 v14 : FVec Ideal S256x512 .bf16}
    {v10 v16 : FVec Ideal S512x1024 .bf16} {v34 v42 : FVec Ideal S4096x1024 .bf16} {v58 : FVec Ideal S256x1024 .f32}
  (L : Loads A R v3 v4 v6 v8 v14 v10 v16 v34 v42 v58)
include L

theorem t5 (q : Fin 1024) : s5 v4 (ix2 0 q) = ((A.gf q : ℝ) : EReal) := by
  pointwise [k0_pay7]; exact L.h4 q

theorem t19 (p : Fin 256) (q : Fin 1024) : s19 v6 v8 v14 v10 v16 (ix2 p q) = ((h1 A (R p) q : ℝ) : EReal) :=
  pay8 A R L.h6 L.h8 L.h10 L.h14 L.h16 p q
theorem t27 (p : Fin 256) : s27 v6 v8 v14 v10 v16 (ix2 p 0) = ((rms (h1 A (R p)) : ℝ) : EReal) := pay9 A R (t19 L) p
theorem t29 (p : Fin 256) (q : Fin 1024) :
    s29 v6 v8 v14 v10 v16 (ix2 p q) = ((h1 A (R p) q * rms (h1 A (R p)) : ℝ) : EReal) := pay10 A R (t19 L) p q
theorem t32 (p : Fin 256) (q : Fin 1024) : s32 v3 v6 v8 v14 v10 v16 (ix2 p q) = ((hn A (R p) q : ℝ) : EReal) :=
  pay11 A R L.h3 (t19 L) p q
theorem t38 (p : Fin 256) (j : Fin 4096) : s38 v3 v6 v8 v14 v10 v16 v34 (ix2 p j) = ((act A (R p) j : ℝ) : EReal) :=
  pay12 A R (t32 L) L.h34 p j
theorem tff (p : Fin 256) (j : Fin 4096) :
    k0_pay13 (F := Ideal) (s32 v3 v6 v8 v14 v10 v16) v34 (ix2 p j) = ((ff A (R p) j : ℝ) : EReal) := pay13 A R (t38 L) p j
theorem th2 (p : Fin 256) (q : Fin 1024) :
    k0_pay14 (F := Ideal) (s19 v6 v8 v14 v10 v16) (s32 v3 v6 v8 v14 v10 v16) v34 v42 (ix2 p q) = ((h2 A (R p) q : ℝ) : EReal) :=
  pay14 A R (t19 L) (t38 L) L.h42 p q
theorem t53 (p : Fin 256) : s53 v3 v6 v8 v14 v10 v16 v34 v42 (ix2 p 0) = ((rms (h2 A (R p)) : ℝ) : EReal) := pay15 A R (th2 L) p
theorem t55 (p : Fin 256) (q : Fin 1024) :
    s55 v3 v6 v8 v14 v10 v16 v34 v42 (ix2 p q) = ((h2 A (R p) q * rms (h2 A (R p)) : ℝ) : EReal) := pay16 A R (th2 L) p q
theorem t60 (p : Fin 256) (q : Fin 1024) : s60 v3 v4 v6 v8 v14 v10 v16 v34 v42 v58 (ix2 p q) = ((err A (R p) q : ℝ) : EReal) :=
  pay17 A R (t5 L) L.h58 (th2 L) p q
theorem t92 (p : Fin 256) (q : Fin 1024) : s92 v3 v4 v6 v8 v14 v10 v16 v34 v42 v58 (ix2 p q) = ((dh2 A (R p) q : ℝ) : EReal) :=
  pay21 A R (t5 L) (t53 L) (t55 L) (t60 L) p q
theorem tdh2 (p : Fin 256) (q : Fin 1024) :
    k0_pay22 (F := Ideal) (s5 v4) (s53 v3 v6 v8 v14 v10 v16 v34 v42) (s55 v3 v6 v8 v14 v10 v16 v34 v42)
      (s60 v3 v4 v6 v8 v14 v10 v16 v34 v42 v58) (ix2 p q) = ((dh2 A (R p) q : ℝ) : EReal) := by
  pointwise [k0_pay22]; exact t92 L p q
theorem tda (p : Fin 256) (j : Fin 4096) :
    k0_pay23 (F := Ideal) (s5 v4) (s38 v3 v6 v8 v14 v10 v16 v34) (s53 v3 v6 v8 v14 v10 v16 v34 v42)
      (s55 v3 v6 v8 v14 v10 v16 v34 v42) (s60 v3 v4 v6 v8 v14 v10 v16 v34 v42 v58) v42 (ix2 p j) = ((da A (R p) j : ℝ) : EReal) :=
  pay23 A R (t38 L) (t92 L) L.h42 p j
theorem t105 (p : Fin 256) (k : Fin 1024) :
    s105 v3 v4 v6 v8 v14 v10 v16 v34 v42 v58 (ix2 p k) = ((dhn A (R p) k : ℝ) : EReal) := pay24 A R (tda L) L.h34 p k
theorem tdh1 (p : Fin 256) (q : Fin 1024) :
    k0_pay2 (F := Ideal) v3 (s27 v6 v8 v14 v10 v16) (s29 v6 v8 v14 v10 v16) (s92 v3 v4 v6 v8 v14 v10 v16 v34 v42 v58)
      (s105 v3 v4 v6 v8 v14 v10 v16 v34 v42 v58) (ix2 p q) = ((dh1 A (R p) q : ℝ) : EReal) :=
  pay2 A R L.h3 (t27 L) (t29 L) (t92 L) (t105 L) p q
theorem tdm {v128 : FVec Ideal S1024x1024 .bf16} (h128 : ∀ k q, v128 (ix2 k q) = ((A.wo k q : ℝ) : EReal)) (p : Fin 256) (k : Fin 1024) :
    k0_pay3 (F := Ideal) v3 (s27 v6 v8 v14 v10 v16) (s29 v6 v8 v14 v10 v16) (s92 v3 v4 v6 v8 v14 v10 v16 v34 v42 v58)
      (s105 v3 v4 v6 v8 v14 v10 v16 v34 v42 v58) v128 (ix2 p k) = ((dm A (R p) k : ℝ) : EReal) :=
  pay3 A R (tdh1 L) h128 p k

/-- What a grid point adds to the loss. -/
theorem tloss (v61 : FVec Ideal S1x1 .f32) :
    k0_pay18 (F := Ideal) (s5 v4) (s19 v6 v8 v14 v10 v16) (s32 v3 v6 v8 v14 v10 v16) v34 v42 v58 v61 (ix2 0 0)
      = v61 (ix2 0 0) + ((1 / 2048 * ∑ p, ∑ q, err A (R p) q * err A (R p) q : ℝ) : EReal) := pay18 A R (t60 L)
/-- What a grid point adds to the final gain's gradient. -/
theorem tdgf (v74 : FVec Ideal S1x1024 .f32) (q : Fin 1024) :
    k0_pay20 (F := Ideal) (s55 v3 v6 v8 v14 v10 v16 v34 v42) (s60 v3 v4 v6 v8 v14 v10 v16 v34 v42 v58) v74 (ix2 0 q)
      = v74 (ix2 0 q) + ((∑ p, err A (R p) q * (1 / 1024) * (h2 A (R p) q * rms (h2 A (R p))) : ℝ) : EReal) :=
  pay20 A R (t55 L) (t60 L) q
/-- What a grid point adds to the second gain's gradient. -/
theorem tdg2 (v106 : FVec Ideal S1x1024 .f32) (q : Fin 1024) :
    k0_pay1 (F := Ideal) (s29 v6 v8 v14 v10 v16) (s105 v3 v4 v6 v8 v14 v10 v16 v34 v42 v58) v106 (ix2 0 q)
      = v106 (ix2 0 q) + ((∑ p, dhn A (R p) q * (h1 A (R p) q * rms (h1 A (R p))) : ℝ) : EReal) :=
  pay1 A R (t29 L) (t105 L) q

end Cert.MlpPure
-- ==== Proof.MlpFinal.lean ====
/- The MLP tail's kernel: what each block of a grid point holds, and what each output array is at the end. -/
module

public import proofs.«01_k».proof.Proof.MlpPure
public import proofs.«01_k».proof.Proof.Gen.MlpKernelIdeal.Value
public import Idealize.ShloMosaic.Lib.Pipeline.ValueKit

@[expose] public section

set_option maxRecDepth 16384

noncomputable section

namespace Cert.MlpFinal

open Cert.MlpKernelIdeal Cert.MlpKernelIdeal.Gen Cert.MlpMath Cert.Reals
open Idealize.ShloMosaic Idealize.ShloMosaic.TcCoe Idealize.SL.Sem
open Idealize.ShloMosaic.Pipeline (Dat)

variable (m : (ℓ : Loc nD τ sig) → Buf (Elt Ideal) ℓ) (c : Dev nD) (A : Args)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![0, 0] ∧ win0_16.index t = ![0, 0] ∧ win0_17.index t = ![0, 0] :=
  (by decide +kernel : ∀ t : Fin grid0.N, _)

/-- The row of the array that row `p` of grid point `t`'s tile is. -/
def row (t : Fin cfg0.N) (p : Fin 256) : Fin 16384 := ⟨256 * t.val + p.val, by have : t.val < 64 := t.isLt; omega⟩

/-- The argument arrays of the kernel's launch hold the reals `A`. -/
structure Holds : Prop where
  x : ∀ r q, (m ((c.tc : Thread nD τ).loc main_arg0) : FVec Ideal S1x16384x1024 .f32) (ix3 0 r q) = ((A.x r q : ℝ) : EReal)
  mx : ∀ r q, (m ((c.tc : Thread nD τ).loc main_arg1) : FVec Ideal S16384x1024 .f32) (ix2 r q) = ((A.m r q : ℝ) : EReal)
  t : ∀ r q, (m ((c.tc : Thread nD τ).loc main_arg2) : FVec Ideal S1x16384x1024 .f32) (ix3 0 r q) = ((A.t r q : ℝ) : EReal)
  wo : ∀ k q, (m ((c.tc : Thread nD τ).loc main_arg3) : FVec Ideal S1x1024x1024 .f32) (ix3 0 k q) = ((A.wo k q : ℝ) : EReal)
  g2 : ∀ q, (m ((c.tc : Thread nD τ).loc main_arg4) : FVec Ideal S1x1024 .f32) (ix2 0 q) = ((A.g2 q : ℝ) : EReal)
  w1 : ∀ k j, (m ((c.tc : Thread nD τ).loc main_arg5) : FVec Ideal S1x1024x4096 .f32) (ix3 0 k j) = ((A.w1 k j : ℝ) : EReal)
  w2 : ∀ j q, (m ((c.tc : Thread nD τ).loc main_arg6) : FVec Ideal S1x4096x1024 .f32) (ix3 0 j q) = ((A.w2 j q : ℝ) : EReal)
  gf : ∀ q, (m ((c.tc : Thread nD τ).loc main_arg7) : FVec Ideal S1024 .f32) (ix1 q) = ((A.gf q : ℝ) : EReal)

variable {m c A} (H : Holds m c A)
include H

theorem blk0 (t : Fin cfg0.N) (p : Fin 256) (q : Fin 1024) :
    (iblk m c 0 t : FVec Ideal S256x1024 .f32) (ix2 p q) = ((A.x (row t p) q : ℝ) : EReal) := by
  have hV : ∀ r q, (V m c main_v0 : FVec Ideal S16384x1024 .f32) (ix2 r q) = ((A.x r q : ℝ) : EReal) := fun r q => by
    entry_read; refine Eq.trans ?_ (H.x r q); pointwise
  rw [← hV]; blk_simp [iblk]; blk_ext [row, idx t]

theorem blk1 (t : Fin cfg0.N) (p : Fin 256) (k : Fin 512) :
    (iblk m c 1 t : FVec Ideal S256x512 .bf16) (ix2 p k) = ((A.m (row t p) ⟨k, by omega⟩ : ℝ) : EReal) := by
  have hV : ∀ r (k : Fin 512), (V m c main_v2 : FVec Ideal S16384x512 .bf16) (ix2 r k) = ((A.m r ⟨k, by omega⟩ : ℝ) : EReal) := fun r k => by
    entry_read; refine Eq.trans ?_ (H.mx r _); pointwise
  rw [← hV]; blk_simp [iblk]; blk_ext [row, idx t]

theorem blk2 (t : Fin cfg0.N) (p : Fin 256) (k : Fin 512) :
    (iblk m c 2 t : FVec Ideal S256x512 .bf16) (ix2 p k) = ((A.m (row t p) ⟨512 + k, by omega⟩ : ℝ) : EReal) := by
  have hV : ∀ r (k : Fin 512), (V m c main_v4 : FVec Ideal S16384x512 .bf16) (ix2 r k) = ((A.m r ⟨512 + k, by omega⟩ : ℝ) : EReal) := fun r k => by
    entry_read; refine Eq.trans ?_ (H.mx r _); pointwise
  rw [← hV]; blk_simp [iblk]; blk_ext [row, idx t]

theorem blk3 (t : Fin cfg0.N) (p : Fin 256) (q : Fin 1024) :
    (iblk m c 3 t : FVec Ideal S256x1024 .f32) (ix2 p q) = ((A.t (row t p) q : ℝ) : EReal) := by
  have hV : ∀ r q, (V m c main_v5 : FVec Ideal S16384x1024 .f32) (ix2 r q) = ((A.t r q : ℝ) : EReal) := fun r q => by
    entry_read; refine Eq.trans ?_ (H.t r q); pointwise
  rw [← hV]; blk_simp [iblk]; blk_ext [row, idx t]

theorem blk4 (t : Fin cfg0.N) (k q : Fin 1024) :
    (iblk m c 4 t : FVec Ideal S1024x1024 .bf16) (ix2 k q) = ((A.wo k q : ℝ) : EReal) := by
  have hV : ∀ r q, (V m c main_v7 : FVec Ideal S1024x1024 .bf16) (ix2 r q) = ((A.wo r q : ℝ) : EReal) := fun r q => by
    entry_read; refine Eq.trans ?_ (H.wo r q); pointwise
  rw [← hV]; blk_simp [iblk]; blk_ext [idx t]

theorem blk5 (t : Fin cfg0.N) (q : Fin 1024) :
    (iblk m c 5 t : FVec Ideal S1x1024 .f32) (ix2 0 q) = ((A.g2 q : ℝ) : EReal) := by
  have hV : ∀ q, (V m c main_arg4 : FVec Ideal S1x1024 .f32) (ix2 0 q) = ((A.g2 q : ℝ) : EReal) := fun q => by
    entry_read; exact H.g2 q
  rw [← hV]; blk_simp [iblk]; blk_ext [idx t]

theorem blk6 (t : Fin cfg0.N) (j : Fin 4096) (k : Fin 1024) :
    (iblk m c 6 t : FVec Ideal S4096x1024 .bf16) (ix2 j k) = ((A.w1 k j : ℝ) : EReal) := by
  have hV : ∀ j k, (V m c main_v10 : FVec Ideal S4096x1024 .bf16) (ix2 j k) = ((A.w1 k j : ℝ) : EReal) := fun j k => by
    entry_read; refine Eq.trans ?_ (H.w1 k j); pointwise
  rw [← hV]; blk_simp [iblk]; blk_ext [idx t]

theorem blk7 (t : Fin cfg0.N) (j : Fin 4096) (k : Fin 1024) :
    (iblk m c 7 t : FVec Ideal S4096x1024 .bf16) (ix2 j k) = ((A.w2 j k : ℝ) : EReal) := by
  have hV : ∀ j k, (V m c main_v12 : FVec Ideal S4096x1024 .bf16) (ix2 j k) = ((A.w2 j k : ℝ) : EReal) := fun j k => by
    entry_read; refine Eq.trans ?_ (H.w2 j k); pointwise
  rw [← hV]; blk_simp [iblk]; blk_ext [idx t]

theorem blk8 (t : Fin cfg0.N) (q : Fin 1024) :
    (iblk m c 8 t : FVec Ideal S1x1024 .f32) (ix2 0 q) = ((A.gf q : ℝ) : EReal) := by
  have hV : ∀ q, (V m c main_v13 : FVec Ideal S1x1024 .f32) (ix2 0 q) = ((A.gf q : ℝ) : EReal) := fun q => by
    entry_read; refine Eq.trans ?_ (H.gf q); pointwise
  rw [← hV]; blk_simp [iblk]; blk_ext [idx t]

/-- The blocks of a grid point, as the tile lemmas take them. -/
theorem loads (t : Fin cfg0.N) {w0 w1 : FVec Ideal S512x1024 .bf16}
    (h0 : ∀ (k : Fin 512) q, w0 (ix2 k q) = (iblk m c 4 t : FVec Ideal S1024x1024 .bf16) (ix2 ⟨k, by omega⟩ q))
    (h1 : ∀ (k : Fin 512) q, w1 (ix2 k q) = (iblk m c 4 t : FVec Ideal S1024x1024 .bf16) (ix2 ⟨512 + k, by omega⟩ q)) :
    MlpPure.Loads A (row t) (iblk m c 5 t) (iblk m c 8 t) (iblk m c 0 t) (iblk m c 1 t) (iblk m c 2 t) w0 w1
      (iblk m c 6 t) (iblk m c 7 t) (iblk m c 3 t) :=
  ⟨blk5 H t, blk8 H t, blk0 H t, blk1 H t, fun k q => (h0 k q).trans (blk4 H t _ _), blk2 H t,
    fun k q => (h1 k q).trans (blk4 H t _ _), blk6 H t, blk7 H t, blk3 H t⟩

theorem tile9 (t : Fin cfg0.N) (p : Fin 256) (q : Fin 1024) :
    (outsAt0 m c t.val t.isLt).1 (ix2 p q) = ((dh1 A (row t p) q : ℝ) : EReal) := by
  by_cases h : t.val % 64 = 0
  · rw [outsAt0_A m c t h]
    frame_out
    refine MlpPure.tdh1 (loads H t (fun k q => ?_) (fun k q => ?_))  p q <;> pointwise
  · rw [outsAt0_B m c t h]
    frame_out
    refine MlpPure.tdh1 (loads H t (fun k q => ?_) (fun k q => ?_))  p q <;> pointwise

theorem final9 : (dats m 0 c).arrAt 9 cfg0.N = fun i : S16384x1024.Idx => ((dh1 A (i 0) (i 1) : ℝ) : EReal) := by
  refine (dats m 0 c).arrAt_eq_of_covers 9 _ (by decide +kernel) fun t _ y => ?_
  blk_simp
  rw [after0_9]
  idx_vars y
  have e : (win0_9.blk t).view.emb (ix2 y0 y1) = ix2 (row t y0) y1 := by blk_ext [row, idx t]
  rw [tile9 H t, e]
  rfl

theorem tile10 (t : Fin cfg0.N) (p : Fin 256) (q : Fin 1024) :
    (outsAt0 m c t.val t.isLt).2.1 (ix2 p q) = ((dm A (row t p) q : ℝ) : EReal) := by
  by_cases h : t.val % 64 = 0
  · rw [outsAt0_A m c t h]
    frame_out
    refine MlpPure.tdm (loads H t (fun k q => ?_) (fun k q => ?_)) (blk4 H t) p q <;> pointwise
  · rw [outsAt0_B m c t h]
    frame_out
    refine MlpPure.tdm (loads H t (fun k q => ?_) (fun k q => ?_)) (blk4 H t) p q <;> pointwise

theorem final10 : (dats m 0 c).arrAt 10 cfg0.N = fun i : S16384x1024.Idx => ((dm A (i 0) (i 1) : ℝ) : EReal) := by
  refine (dats m 0 c).arrAt_eq_of_covers 10 _ (by decide +kernel) fun t _ y => ?_
  blk_simp
  rw [after0_10]
  idx_vars y
  have e : (win0_10.blk t).view.emb (ix2 y0 y1) = ix2 (row t y0) y1 := by blk_ext [row, idx t]
  rw [tile10 H t, e]
  rfl

theorem tile11 (t : Fin cfg0.N) (p : Fin 256) (q : Fin 1024) :
    (outsAt0 m c t.val t.isLt).2.2.1 (ix2 p q) = ((hn A (row t p) q : ℝ) : EReal) := by
  by_cases h : t.val % 64 = 0
  · rw [outsAt0_A m c t h]
    frame_out
    refine MlpPure.t32 (loads H t (fun k q => ?_) (fun k q => ?_))  p q <;> pointwise
  · rw [outsAt0_B m c t h]
    frame_out
    refine MlpPure.t32 (loads H t (fun k q => ?_) (fun k q => ?_))  p q <;> pointwise

theorem final11 : (dats m 0 c).arrAt 11 cfg0.N = fun i : S16384x1024.Idx => ((hn A (i 0) (i 1) : ℝ) : EReal) := by
  refine (dats m 0 c).arrAt_eq_of_covers 11 _ (by decide +kernel) fun t _ y => ?_
  blk_simp
  rw [after0_11]
  idx_vars y
  have e : (win0_11.blk t).view.emb (ix2 y0 y1) = ix2 (row t y0) y1 := by blk_ext [row, idx t]
  rw [tile11 H t, e]
  rfl

theorem tile12 (t : Fin cfg0.N) (p : Fin 256) (q : Fin 4096) :
    (outsAt0 m c t.val t.isLt).2.2.2.1 (ix2 p q) = ((ff A (row t p) q : ℝ) : EReal) := by
  by_cases h : t.val % 64 = 0
  · rw [outsAt0_A m c t h]
    frame_out
    refine MlpPure.tff (loads H t (fun k q => ?_) (fun k q => ?_))  p q <;> pointwise
  · rw [outsAt0_B m c t h]
    frame_out
    refine MlpPure.tff (loads H t (fun k q => ?_) (fun k q => ?_))  p q <;> pointwise

theorem final12 : (dats m 0 c).arrAt 12 cfg0.N = fun i : S16384x4096.Idx => ((ff A (i 0) (i 1) : ℝ) : EReal) := by
  refine (dats m 0 c).arrAt_eq_of_covers 12 _ (by decide +kernel) fun t _ y => ?_
  blk_simp
  rw [after0_12]
  idx_vars y
  have e : (win0_12.blk t).view.emb (ix2 y0 y1) = ix2 (row t y0) y1 := by blk_ext [row, idx t]
  rw [tile12 H t, e]
  rfl

theorem tile13 (t : Fin cfg0.N) (p : Fin 256) (q : Fin 4096) :
    (outsAt0 m c t.val t.isLt).2.2.2.2.1 (ix2 p q) = ((da A (row t p) q : ℝ) : EReal) := by
  by_cases h : t.val % 64 = 0
  · rw [outsAt0_A m c t h]
    frame_out
    refine MlpPure.tda (loads H t (fun k q => ?_) (fun k q => ?_))  p q <;> pointwise
  · rw [outsAt0_B m c t h]
    frame_out
    refine MlpPure.tda (loads H t (fun k q => ?_) (fun k q => ?_))  p q <;> pointwise

theorem final13 : (dats m 0 c).arrAt 13 cfg0.N = fun i : S16384x4096.Idx => ((da A (i 0) (i 1) : ℝ) : EReal) := by
  refine (dats m 0 c).arrAt_eq_of_covers 13 _ (by decide +kernel) fun t _ y => ?_
  blk_simp
  rw [after0_13]
  idx_vars y
  have e : (win0_13.blk t).view.emb (ix2 y0 y1) = ix2 (row t y0) y1 := by blk_ext [row, idx t]
  rw [tile13 H t, e]
  rfl

theorem tile14 (t : Fin cfg0.N) (p : Fin 256) (q : Fin 1024) :
    (outsAt0 m c t.val t.isLt).2.2.2.2.2.1 (ix2 p q) = ((dh2 A (row t p) q : ℝ) : EReal) := by
  by_cases h : t.val % 64 = 0
  · rw [outsAt0_A m c t h]
    frame_out
    refine MlpPure.tdh2 (loads H t (fun k q => ?_) (fun k q => ?_))  p q <;> pointwise
  · rw [outsAt0_B m c t h]
    frame_out
    refine MlpPure.tdh2 (loads H t (fun k q => ?_) (fun k q => ?_))  p q <;> pointwise

theorem final14 : (dats m 0 c).arrAt 14 cfg0.N = fun i : S16384x1024.Idx => ((dh2 A (i 0) (i 1) : ℝ) : EReal) := by
  refine (dats m 0 c).arrAt_eq_of_covers 14 _ (by decide +kernel) fun t _ y => ?_
  blk_simp
  rw [after0_14]
  idx_vars y
  have e : (win0_14.blk t).view.emb (ix2 y0 y1) = ix2 (row t y0) y1 := by blk_ext [row, idx t]
  rw [tile14 H t, e]
  rfl

omit H in
/-- The 64 points' 256 rows are the 16384 rows. -/
theorem sum_rows (f : Fin 16384 → ℝ) :
    ∑ s : Fin 64, ((∑ p : Fin 256, f ⟨256 * s + p, by omega⟩ : ℝ) : EReal) = ((∑ r, f r : ℝ) : EReal) := by
  rw [Fin.sum_univ_tiles 64 256 rfl f, coe_sum]
  simp only [mul_comm]

omit H in
theorem row_run (t : Fin cfg0.N) (s : Fin 64) (h : 64 * (t.val / 64) + s.val < cfg0.N) :
    row ⟨64 * (t.val / 64) + s.val, h⟩ = fun p => ⟨256 * s + p, by omega⟩ := by
  have ht : t.val < 64 := t.isLt
  have : t.val / 64 = 0 := by omega
  funext p; ext; simp [row, this]

omit H in
theorem sum_run (t : Fin cfg0.N) (h : ∀ s : Fin 64, 64 * (t.val / 64) + s.val < cfg0.N) (f : Fin 16384 → ℝ) :
    ∑ s : Fin 64, ((∑ p : Fin 256, f (row ⟨64 * (t.val / 64) + s.val, h s⟩ p) : ℝ) : EReal) = ((∑ r, f r : ℝ) : EReal) := by
  simp only [row_run]
  exact sum_rows f

omit H in
theorem sum_run_mul (t : Fin cfg0.N) (h : ∀ s : Fin 64, 64 * (t.val / 64) + s.val < cfg0.N) (a : ℝ) (f : Fin 16384 → ℝ) :
    ∑ s : Fin 64, ((a * ∑ p : Fin 256, f (row ⟨64 * (t.val / 64) + s.val, h s⟩ p) : ℝ) : EReal) = ((a * ∑ r, f r : ℝ) : EReal) := by
  simp only [Finset.mul_sum]
  exact sum_run t h (fun r => a * f r)

theorem final15 : (dats m 0 c).arrAt 15 cfg0.N = fun _ : S1x1.Idx => ((1 / 2048 * ∑ r, ∑ q, err A r q * err A r q : ℝ) : EReal) := by
  refine (dats m 0 c).arrAt_eq_of_covers 15 _ (by decide +kernel) fun t hf y => ?_
  blk_simp
  rw [after0_15]
  rw [Pipeline.eq_sum_fin_of_reset_step_apply_of_flush (fun n h => (outsAt0 m c n h).2.2.2.2.2.2.1) 64 (fun _ => 0)
    (fun t j => ((1 / 2048 * ∑ p, ∑ q, err A (row t p) q * err A (row t p) q : ℝ) : EReal))
    (fun t h j => by
      rw [outsAt0_A m c t h]
      frame_out
      idx_vars j
      obtain rfl : j0 = 0 := Subsingleton.elim _ _
      obtain rfl : j1 = 0 := Subsingleton.elim _ _
      refine (MlpPure.tloss (loads H t (fun k q => ?_) (fun k q => ?_)) _).trans ?_
      · pointwise
      · pointwise
      · pointwise [k0_pay4])
    (fun t h j => by
      rw [outsAt0_B m c t h]
      frame_out
      idx_vars j
      obtain rfl : j0 = 0 := Subsingleton.elim _ _
      obtain rfl : j1 = 0 := Subsingleton.elim _ _
      refine (MlpPure.tloss (loads H t (fun k q => ?_) (fun k q => ?_)) _) <;> pointwise) t ((flush0_15 t).mp hf) _, zero_add]
  exact sum_run_mul t (fun s => Pipeline.run_point_lt_of_flush (J := 64) t ((flush0_15 t).mp hf) s) (1 / 2048) (fun r => ∑ q, err A r q * err A r q)

theorem final16 : (dats m 0 c).arrAt 16 cfg0.N = fun j : S1x1024.Idx => ((∑ r, err A (r) (j 1) * (1 / 1024) * (h2 A (r) (j 1) * rms (h2 A (r))) : ℝ) : EReal) := by
  refine (dats m 0 c).arrAt_eq_of_covers 16 _ (by decide +kernel) fun t hf y => ?_
  blk_simp
  rw [after0_16]
  rw [Pipeline.eq_sum_fin_of_reset_step_apply_of_flush (fun n h => (outsAt0 m c n h).2.2.2.2.2.2.2.1) 64 (fun _ => 0)
    (fun t j => ((∑ p, err A (row t p) (j 1) * (1 / 1024) * (h2 A (row t p) (j 1) * rms (h2 A (row t p))) : ℝ) : EReal))
    (fun t h j => by
      rw [outsAt0_A m c t h]
      frame_out
      idx_vars j
      obtain rfl : j0 = 0 := Subsingleton.elim _ _
      refine (MlpPure.tdgf (loads H t (fun k q => ?_) (fun k q => ?_)) _ _).trans ?_
      · pointwise
      · pointwise
      · pointwise [k0_pay5])
    (fun t h j => by
      rw [outsAt0_B m c t h]
      frame_out
      idx_vars j
      obtain rfl : j0 = 0 := Subsingleton.elim _ _
      refine (MlpPure.tdgf (loads H t (fun k q => ?_) (fun k q => ?_)) _ _) <;> pointwise) t ((flush0_16 t).mp hf) _, zero_add]
  idx_vars y
  have e : (win0_16.blk t).view.emb (ix2 y0 y1) = ix2 y0 y1 := by blk_ext [idx t]
  rw [e]
  exact sum_run t (fun s => Pipeline.run_point_lt_of_flush (J := 64) t ((flush0_16 t).mp hf) s) (fun r => err A r y1 * (1 / 1024) * (h2 A r y1 * rms (h2 A r)))

theorem final17 : (dats m 0 c).arrAt 17 cfg0.N = fun j : S1x1024.Idx => ((∑ r, dhn A (r) (j 1) * (h1 A (r) (j 1) * rms (h1 A (r))) : ℝ) : EReal) := by
  refine (dats m 0 c).arrAt_eq_of_covers 17 _ (by decide +kernel) fun t hf y => ?_
  blk_simp
  rw [after0_17]
  rw [Pipeline.eq_sum_fin_of_reset_step_apply_of_flush (fun n h => (outsAt0 m c n h).2.2.2.2.2.2.2.2) 64 (fun _ => 0)
    (fun t j => ((∑ p, dhn A (row t p) (j 1) * (h1 A (row t p) (j 1) * rms (h1 A (row t p))) : ℝ) : EReal))
    (fun t h j => by
      rw [outsAt0_A m c t h]
      frame_out
      idx_vars j
      obtain rfl : j0 = 0 := Subsingleton.elim _ _
      refine (MlpPure.tdg2 (loads H t (fun k q => ?_) (fun k q => ?_)) _ _).trans ?_
      · pointwise
      · pointwise
      · pointwise [k0_pay6])
    (fun t h j => by
      rw [outsAt0_B m c t h]
      frame_out
      idx_vars j
      obtain rfl : j0 = 0 := Subsingleton.elim _ _
      refine (MlpPure.tdg2 (loads H t (fun k q => ?_) (fun k q => ?_)) _ _) <;> pointwise) t ((flush0_17 t).mp hf) _, zero_add]
  idx_vars y
  have e : (win0_17.blk t).view.emb (ix2 y0 y1) = ix2 y0 y1 := by blk_ext [idx t]
  rw [e]
  exact sum_run t (fun s => Pipeline.run_point_lt_of_flush (J := 64) t ((flush0_17 t).mp hf) s) (fun r => dhn A r y1 * (h1 A r y1 * rms (h1 A r)))
end Cert.MlpFinal
-- ==== Proof.MlpClaim.lean ====
/- The value claim of the MLP tail: from finite arguments both programs end with the real-number
    gradients of `MlpMath`, whose arguments are the arrays' real values. -/
module

public import proofs.«01_k».proof.Defs
public import proofs.«01_k».proof.Proof.Finite
public import proofs.«01_k».proof.Proof.MlpRefPure
public import proofs.«01_k».proof.Proof.MlpFinal
public import proofs.«01_k».proof.Proof.Gen.MlpRefIdeal.Run

@[expose] public section
noncomputable section

namespace Cert.MlpClaim
open Idealize.ShloMosaic Idealize.ShloMosaic.TcCoe Idealize.SL.Sem
open Cert.Reals Cert.MlpMath
open Cert.MlpKernelIdeal (nD τ sig main_arg0 main_arg1 main_arg2 main_arg3 main_arg4 main_arg5 main_arg6 main_arg7)

variable (m : (ℓ : Loc nD τ sig) → Buf (Elt Ideal) ℓ) (c : Dev nD)

/-- The real values of the arguments. -/
def args : Args where
  x r q := EReal.toReal ((m ((c.tc : Thread nD τ).loc main_arg0) : FVec Ideal Cert.MlpKernelIdeal.S1x16384x1024 .f32) (ix3 0 r q))
  m r q := EReal.toReal ((m ((c.tc : Thread nD τ).loc main_arg1) : FVec Ideal Cert.MlpKernelIdeal.S16384x1024 .f32) (ix2 r q))
  t r q := EReal.toReal ((m ((c.tc : Thread nD τ).loc main_arg2) : FVec Ideal Cert.MlpKernelIdeal.S1x16384x1024 .f32) (ix3 0 r q))
  wo k q := EReal.toReal ((m ((c.tc : Thread nD τ).loc main_arg3) : FVec Ideal Cert.MlpKernelIdeal.S1x1024x1024 .f32) (ix3 0 k q))
  g2 q := EReal.toReal ((m ((c.tc : Thread nD τ).loc main_arg4) : FVec Ideal Cert.MlpKernelIdeal.S1x1024 .f32) (ix2 0 q))
  w1 k j := EReal.toReal ((m ((c.tc : Thread nD τ).loc main_arg5) : FVec Ideal Cert.MlpKernelIdeal.S1x1024x4096 .f32) (ix3 0 k j))
  w2 j q := EReal.toReal ((m ((c.tc : Thread nD τ).loc main_arg6) : FVec Ideal Cert.MlpKernelIdeal.S1x4096x1024 .f32) (ix3 0 j q))
  gf q := EReal.toReal ((m ((c.tc : Thread nD τ).loc main_arg7) : FVec Ideal Cert.MlpKernelIdeal.S1024 .f32) (ix1 q))

variable {m c} [Cert.Pre_finite_mlp.Facts]

theorem holds (hp : Pre_MlpKernelIdeal_finite_mlp m) (c : Dev nD) : MlpFinal.Holds m c (args m c) where
  x r q := real_of_finite (hp c).1 (fun _ => by pointwise [ofBits_top]) _
  mx r q := real_of_finite (hp c).2.1 (fun _ => by pointwise [ofBits_top]) _
  t r q := real_of_finite (hp c).2.2.1 (fun _ => by pointwise [ofBits_top]) _
  wo r q := real_of_finite (hp c).2.2.2.1 (fun _ => by pointwise [ofBits_top]) _
  g2 q := real_of_finite (hp c).2.2.2.2.1 (fun _ => by pointwise [ofBits_top]) _
  w1 r q := real_of_finite (hp c).2.2.2.2.2.1 (fun _ => by pointwise [ofBits_top]) _
  w2 r q := real_of_finite (hp c).2.2.2.2.2.2.1 (fun _ => by pointwise [ofBits_top]) _
  gf q := real_of_finite (hp c).2.2.2.2.2.2.2 (fun _ => by pointwise [ofBits_top]) _

theorem algebraic [hk : Cert.MlpKernelIdeal.Facts] [hr : Cert.MlpRefIdeal.Facts] :
    algebraic_MlpKernelIdeal_MlpRefIdeal_pre_finite_mlp := by
  intro m g m' g' hp ha
  refine ⟨fun c i => ((dh1 (args m c) (i 0) (i 1) : ℝ) : EReal), fun c i => ((dm (args m c) (i 0) (i 1) : ℝ) : EReal),
    fun c i => ((hn (args m c) (i 0) (i 1) : ℝ) : EReal), fun c i => ((ff (args m c) (i 0) (i 1) : ℝ) : EReal),
    fun c i => ((da (args m c) (i 0) (i 1) : ℝ) : EReal), fun c i => ((dh2 (args m c) (i 0) (i 1) : ℝ) : EReal),
    fun c _ => ((1 / 2048 * ∑ r, ∑ q, err (args m c) r q * err (args m c) r q : ℝ) : EReal),
    fun c j => ((∑ r, err (args m c) r (j 1) * (1 / 1024) * (h2 (args m c) r (j 1) * rms (h2 (args m c) r)) : ℝ) : EReal),
    fun c j => ((∑ r, dhn (args m c) r (j 1) * (h1 (args m c) r (j 1) * rms (h1 (args m c) r)) : ℝ) : EReal), ?_, ?_⟩
  · refine (θ_run _ _ _).mono (fun r h c => ?_) (Cert.MlpKernelIdeal.Value.run_blocks m g)
    have H := holds hp c
    have h := h c
    rw [MlpFinal.final9 H, MlpFinal.final10 H, MlpFinal.final11 H, MlpFinal.final12 H, MlpFinal.final13 H, MlpFinal.final14 H,
      MlpFinal.final15 H, MlpFinal.final16 H, MlpFinal.final17 H] at h
    exact h
  · refine (θ_run _ _ _).mono (fun r h c => ?_) (Cert.MlpRefIdeal.Value.run m' g')
    obtain ⟨a0, a1, a2, a3, a4, a5, a6, a7⟩ := ha c
    have H := holds hp c
    have R : MlpRefPure.Holds (args m c) _ _ _ _ _ _ _ _ :=
      ⟨fun r q => (congrFun a0 _).trans (H.x r q), fun r q => (congrFun a1 _).trans (H.mx r q), fun r q => (congrFun a2 _).trans (H.t r q),
       fun r q => (congrFun a3 _).trans (H.wo r q), fun q => (congrFun a4 _).trans (H.g2 q), fun r q => (congrFun a5 _).trans (H.w1 r q),
       fun r q => (congrFun a6 _).trans (H.w2 r q), fun q => (congrFun a7 _).trans (H.gf q)⟩
    obtain ⟨r0, r1, r2, r3, r4, r5, r6, r7, r8, rest⟩ := h c
    refine ⟨r0.trans ((Cert.MlpRefIdeal.Read.val_main_v114_eq _).trans (funext fun i => ?_)), r1.trans ((Cert.MlpRefIdeal.Read.val_main_v116_eq _).trans (funext fun i => ?_)),
      r2.trans ((Cert.MlpRefIdeal.Read.val_main_v117_eq _).trans (funext fun i => ?_)), r3.trans ((Cert.MlpRefIdeal.Read.val_main_v118_eq _).trans (funext fun i => ?_)),
      r4.trans ((Cert.MlpRefIdeal.Read.val_main_v119_eq _).trans (funext fun i => ?_)), r5.trans ((Cert.MlpRefIdeal.Read.val_main_v120_eq _).trans (funext fun i => ?_)),
      r6.trans ((Cert.MlpRefIdeal.Read.val_main_v121_eq _).trans (funext fun i => ?_)), r7.trans ((Cert.MlpRefIdeal.Read.val_main_v122_eq _).trans (funext fun i => ?_)),
      r8.trans ((Cert.MlpRefIdeal.Read.val_main_v123_eq _).trans (funext fun i => ?_)), rest⟩
    · idx_vars i; exact MlpRefPure.v114 R i0 i1
    · idx_vars i; exact MlpRefPure.v116 R i0 i1
    · idx_vars i; exact MlpRefPure.v117 R i0 i1
    · idx_vars i; exact MlpRefPure.v118 R i0 i1
    · idx_vars i; exact MlpRefPure.v119 R i0 i1
    · idx_vars i; exact MlpRefPure.v120 R i0 i1
    · idx_vars i
      obtain rfl : i0 = 0 := Subsingleton.elim _ _
      obtain rfl : i1 = 0 := Subsingleton.elim _ _
      exact MlpRefPure.v121 R
    · idx_vars i; obtain rfl : i0 = 0 := Subsingleton.elim _ _; exact MlpRefPure.v122 R i1
    · idx_vars i; obtain rfl : i0 = 0 := Subsingleton.elim _ _; exact MlpRefPure.v123 R i1

end Cert.MlpClaim
-- ==== Proof.GlaMath.lean ====
/- The mathematics of the gated linear attention and its gradient over the reals: positions and channels are natural
   numbers, the log decay enters by its running sum, and the chunks of 64 positions the kernel works in are ranges. -/
module

public import proofs.«01_k».proof.Proof.Reals

@[expose] public section

set_option maxRecDepth 16384

noncomputable section

namespace Cert.GlaMath

open Cert.Reals Finset

/-- The projection, the decay gate's weight and bias, the norm's gain and the cotangent of the mixed heads. -/
structure Args where
  p : ℕ → ℕ → ℝ
  w : ℕ → ℕ → ℝ
  bg : ℕ → ℝ
  gn : ℕ → ℝ
  dm : ℕ → ℕ → ℝ

/-- The columns of `f` from `b` on. -/
def hd (b : ℕ) (f : ℕ → ℕ → ℝ) : ℕ → ℕ → ℝ := fun t j => f t (b + j)

/-- The logistic function. -/
def sig (x : ℝ) : ℝ := (1 + Real.exp (-x))⁻¹

variable (A : Args)

/-! ### The inputs of the recurrence -/

def qr (t k : ℕ) : ℝ := A.p t k
def q (t k : ℕ) : ℝ := A.p t k * (1 / 8)
def K (t k : ℕ) : ℝ := A.p t (256 + k)
def v (t j : ℕ) : ℝ := A.p t (512 + j)
def g (t j : ℕ) : ℝ := A.p t (1024 + j)
/-- The low rank columns of the decay gate, padded with zeros; its weight likewise. -/
def z (t r : ℕ) : ℝ := if r < 16 then A.p t (1536 + r) else 0
def wz (r k : ℕ) : ℝ := if r < 16 then A.w r k else 0
/-- The decay's logit. -/
def al (t k : ℕ) : ℝ := ∑ r ∈ range 128, z A t r * wz A r k + A.bg k
/-- The log decay. -/
def la (t k : ℕ) : ℝ := (min (al A t k) 0 - Real.log (1 + Real.exp (-|al A t k|))) * (1 / 16)
/-- The log decay of the positions before `n`. -/
def P (k n : ℕ) : ℝ := ∑ s ∈ range n, la A s k
/-- The decay of position `s`'s contribution up to position `t`. -/
def dec (k t s : ℕ) : ℝ := Real.exp (P A k (t + 1) - P A k (s + 1))
/-- The first position of a position's chunk. -/
def c0 (t : ℕ) : ℕ := t / 64 * 64

/-! ### Decays within a chunk -/

def bl (t k : ℕ) : ℝ := P A k (t + 1) - P A k (c0 t)
def bt (t k : ℕ) : ℝ := P A k (c0 t + 64) - P A k (c0 t)
def bm (t k : ℕ) : ℝ := P A k (c0 t + 32) - P A k (c0 t)
def eb (t k : ℕ) : ℝ := Real.exp (bl A t k)
def ebm (t k : ℕ) : ℝ := Real.exp (bl A t k - bm A t k)
def emb (t k : ℕ) : ℝ := Real.exp (bm A t k - bl A t k)
def elb (t k : ℕ) : ℝ := Real.exp (bt A t k - bl A t k)
def ebl (t k : ℕ) : ℝ := Real.exp (bt A t k)
def qem (t k : ℕ) : ℝ := q A t k * ebm A t k
def kem (t k : ℕ) : ℝ := K A t k * emb A t k
def qe (t k : ℕ) : ℝ := q A t k * eb A t k
def kd (t k : ℕ) : ℝ := K A t k * elb A t k

/-! ### The forward output and the gradient of the gate and the norm -/

/-- The weight of position `s` in position `t`'s output, for the head of column `j`. -/
def U (t s j : ℕ) : ℝ := ∑ d ∈ range 64, q A t (64 * (j / 128) + d) * K A s (64 * (j / 128) + d) * dec A (64 * (j / 128) + d) t s
def o (t j : ℕ) : ℝ := ∑ s ∈ range (t + 1), U A t s j * v A s j
/-- The reciprocal root mean square of the head whose columns start at `b`. -/
def rr (b t : ℕ) : ℝ := (Real.sqrt ((∑ j ∈ range 128, o A t (b + j) * o A t (b + j)) / 128 + eps))⁻¹
def oh (t j : ℕ) : ℝ := o A t j * rr A (j / 128 * 128) t
def sg (t j : ℕ) : ℝ := sig (g A t j)
def don (t j : ℕ) : ℝ := A.dm t j * (g A t j * sg A t j)
def dg (t j : ℕ) : ℝ := A.dm t j * (oh A t j * A.gn (j % 128)) * (sg A t j * (1 + g A t j * (1 - sg A t j)))
/-- The gradient of the recurrence's output. -/
def dO (t j : ℕ) : ℝ := rr A (j / 128 * 128) t * (don A t j * A.gn (j % 128)
  - oh A t j * ((∑ l ∈ range 128, don A t (j / 128 * 128 + l) * A.gn l * oh A t (j / 128 * 128 + l)) / 128))

/-! ### The gradient of the recurrence -/

/-- The gradient of the score of positions `t` and `s` in the head whose value columns start at `b`. -/
def Wh (b t s : ℕ) : ℝ := ∑ j ∈ range 128, dO A t (b + j) * v A s (b + j)
def W (t s k : ℕ) : ℝ := Wh A (128 * (k / 64)) t s
def dq (t k : ℕ) : ℝ := ∑ s ∈ range (t + 1), W A t s k * (K A s k * dec A k t s)
def dqIn (t k : ℕ) : ℝ := ∑ s ∈ Ico (c0 t) (t + 1), W A t s k * (K A s k * dec A k t s)
def dqX (t k : ℕ) : ℝ := ∑ s ∈ range (c0 t), W A t s k * (K A s k * dec A k t s)
def dk (s k : ℕ) : ℝ := ∑ t ∈ Ico s 16384, W A t s k * (q A t k * dec A k t s)
def dkIn (s k : ℕ) : ℝ := ∑ t ∈ Ico s (c0 s + 64), W A t s k * (q A t k * dec A k t s)
def dkX (s k : ℕ) : ℝ := ∑ t ∈ Ico (c0 s + 64) 16384, W A t s k * (q A t k * dec A k t s)
def dv (s j : ℕ) : ℝ := ∑ t ∈ Ico s 16384, U A t s j * dO A t j
def dvIn (s j : ℕ) : ℝ := ∑ t ∈ Ico s (c0 s + 64), U A t s j * dO A t j
def dvX (s j : ℕ) : ℝ := ∑ t ∈ Ico (c0 s + 64) 16384, U A t s j * dO A t j
/-- The heads' parts of `dqIn` and `dkIn`, before the decay from the chunk's middle. -/
def hm (h k : ℕ) : ℝ := if k / 64 = h then 1 else 0
def dqH (h t k : ℕ) : ℝ := hm h k * ∑ s ∈ Ico (c0 t) (t + 1), Wh A (128 * h) t s * kem A s k
def dkH (h s k : ℕ) : ℝ := hm h k * ∑ t ∈ Ico s (c0 s + 64), Wh A (128 * h) t s * qem A t k
/-- The state before position `n`, zero outside the heads' blocks, and its gradient. -/
def St (n j k : ℕ) : ℝ := if j / 128 = k / 64 then ∑ s ∈ range n, v A s j * (K A s k * Real.exp (P A k n - P A k (s + 1))) else 0
def Dn (n j k : ℕ) : ℝ := if j / 128 = k / 64 then ∑ t ∈ Ico n 16384, dO A t j * (q A t k * Real.exp (P A k (t + 1) - P A k n)) else 0
def db (t k : ℕ) : ℝ := q A t k * dq A t k - K A t k * dk A t k
def dla (s k : ℕ) : ℝ := ∑ t ∈ Ico s 16384, db A t k
/-- The part of `dla` from the chunks after the position's own. -/
def last (s k : ℕ) : ℝ := ∑ t ∈ Ico (c0 s + 64) 16384, db A t k
def dal (t k : ℕ) : ℝ := dla A t k * (1 / 16) * sig (0 - al A t k)
def dz (t r : ℕ) : ℝ := ∑ k ∈ range 256, dal A t k * wz A r k

/-! ### The results -/

/-- The packed gradient of the projection. -/
def out (t j : ℕ) : ℝ :=
  if j < 256 then dq A t j * (1 / 8) else if j < 512 then dk A t (j - 256) else if j < 1024 then dv A t (j - 512)
  else if j < 1536 then dg A t (j - 1024) else dz A t (j - 1536)
def dwg (r k : ℕ) : ℝ := ∑ t ∈ range 16384, z A t r * dal A t k
def dbg (k : ℕ) : ℝ := ∑ t ∈ range 16384, dal A t k
def dgn (j : ℕ) : ℝ := ∑ t ∈ range 16384, ∑ h ∈ range 4, don A t (128 * h + j) * oh A t (128 * h + j)

/-! ### Sums over part of a block of 256 positions -/

theorem sum_block (r a b : ℕ) (hb : b ≤ 256) (G : ℕ → ℝ) {p : ℕ → Prop} [DecidablePred p] (hp : ∀ i < 256, (p i ↔ a ≤ i ∧ i < b)) :
    ∑ i : Fin 256, (if p i then G (r + i) else 0) = ∑ s ∈ Ico (r + a) (r + b), G s := by
  rw [Fin.sum_univ_eq_sum_range (fun i => if p i then G (r + i) else 0), ← sum_filter]
  have : (range 256).filter p = Ico a b := by
    ext i; simp only [mem_filter, mem_range, mem_Ico]
    exact ⟨fun h => (hp i h.1).1 h.2, fun h => ⟨by omega, (hp i (by omega)).2 h⟩⟩
  rw [this, sum_Ico_add (fun s => G s) a b r]
  simp only [add_comm]

/-- The positions of `i`'s chunk up to `i`. -/
theorem sum_upto {r : ℕ} (hr : r % 64 = 0) (i : Fin 256) (G : ℕ → ℝ) :
    ∑ l : Fin 256, (if (i : ℕ) / 64 = (l : ℕ) / 64 ∧ (l : ℕ) ≤ i then G (r + l) else 0) = ∑ s ∈ Ico (c0 (r + i)) (r + i + 1), G s := by
  rw [sum_block r ((i : ℕ) / 64 * 64) (i + 1) (by omega) G (p := fun l => (i : ℕ) / 64 = l / 64 ∧ l ≤ i) (fun l hl => by omega)]
  congr 2; unfold c0; omega
/-- The positions of `i`'s chunk from `i` on. -/
theorem sum_from {r : ℕ} (hr : r % 64 = 0) (i : Fin 256) (G : ℕ → ℝ) :
    ∑ l : Fin 256, (if (i : ℕ) / 64 = (l : ℕ) / 64 ∧ (i : ℕ) ≤ l then G (r + l) else 0) = ∑ s ∈ Ico (r + i) (c0 (r + i) + 64), G s := by
  rw [sum_block r i ((i : ℕ) / 64 * 64 + 64) (by omega) G (p := fun l => (i : ℕ) / 64 = l / 64 ∧ (i : ℕ) ≤ l) (fun l hl => by omega)]
  congr 2; unfold c0; omega
/-- The positions of `i`'s chunk. -/
theorem sum_chunk {r : ℕ} (hr : r % 64 = 0) (i : Fin 256) (G : ℕ → ℝ) :
    ∑ l : Fin 256, (if (i : ℕ) / 64 = (l : ℕ) / 64 then G (r + l) else 0) = ∑ s ∈ Ico (c0 (r + i)) (c0 (r + i) + 64), G s := by
  rw [sum_block r ((i : ℕ) / 64 * 64) ((i : ℕ) / 64 * 64 + 64) (by omega) G (p := fun l => (i : ℕ) / 64 = l / 64) (fun l hl => by omega)]
  unfold c0; congr 2 <;> omega
/-- The first half of `i`'s chunk. -/
theorem sum_half {r : ℕ} (hr : r % 64 = 0) (i : Fin 256) (G : ℕ → ℝ) :
    ∑ l : Fin 256, (if (i : ℕ) / 64 = (l : ℕ) / 64 ∧ (l : ℕ) % 64 < 32 then G (r + l) else 0)
      = ∑ s ∈ Ico (c0 (r + i)) (c0 (r + i) + 32), G s := by
  rw [sum_block r ((i : ℕ) / 64 * 64) ((i : ℕ) / 64 * 64 + 32) (by omega) G (p := fun l => (i : ℕ) / 64 = l / 64 ∧ l % 64 < 32)
    (fun l hl => by omega)]
  unfold c0; congr 2 <;> omega

theorem sum_la {a b : ℕ} (h : a ≤ b) (k : ℕ) : ∑ s ∈ Ico a b, la A s k = P A k b - P A k a := sum_Ico_eq_sub _ h

theorem c0_le (t : ℕ) : c0 t ≤ t := by unfold c0; omega
theorem c0_lt (t : ℕ) : t < c0 t + 64 := by unfold c0; omega
/-- Positions of one chunk have one first position. -/
theorem c0_of {r i : ℕ} (hr : r % 64 = 0) (hi : i < 64) : c0 (r + i) = r := by unfold c0; omega
theorem c0_mem {t s : ℕ} (h : c0 t ≤ s) (h' : s < c0 t + 64) : c0 s = c0 t := by unfold c0 at *; omega

/-! ### The parts of a gradient add up -/

theorem dqIn_add (t k : ℕ) : dqIn A t k + dqX A t k = dq A t k := by
  unfold dqIn dqX dq
  rw [add_comm, range_eq_Ico, range_eq_Ico]
  exact sum_Ico_consecutive _ (by omega) (by have := c0_le t; omega)
theorem dkIn_add {s : ℕ} (hs : s < 16384) (k : ℕ) : dkIn A s k + dkX A s k = dk A s k :=
  sum_Ico_consecutive _ (by have := c0_lt s; omega) (by unfold c0; omega)
theorem dvIn_add {s : ℕ} (hs : s < 16384) (j : ℕ) : dvIn A s j + dvX A s j = dv A s j :=
  sum_Ico_consecutive _ (by have := c0_lt s; omega) (by unfold c0; omega)
theorem dla_split {s : ℕ} (hs : s < 16384) (k : ℕ) : ∑ t ∈ Ico s (c0 s + 64), db A t k + last A s k = dla A s k :=
  sum_Ico_consecutive _ (by have := c0_lt s; omega) (by unfold c0; omega)

/-- Decays between positions of one chunk, by way of its middle. -/
theorem ebm_emb {t s : ℕ} (h : c0 s = c0 t) (k : ℕ) : emb A s k * ebm A t k = dec A k t s := by
  unfold emb ebm dec bl bm; rw [← Real.exp_add, h]; congr 1; ring

theorem dqH_sum (t k : ℕ) (hk : k < 256) :
    (0 + dqH A 0 t k + dqH A 1 t k + dqH A 2 t k + dqH A 3 t k) * ebm A t k = dqIn A t k := by
  have key : ∀ h, k / 64 = h → (∑ s ∈ Ico (c0 t) (t + 1), Wh A (128 * h) t s * kem A s k) * ebm A t k = dqIn A t k := by
    intro h hh; unfold dqIn W; rw [sum_mul, hh]
    refine sum_congr rfl fun s hs => ?_
    have hs := mem_Ico.1 hs
    rw [← ebm_emb A (t := t) (s := s) (c0_mem hs.1 (by have := c0_lt t; omega)), kem]; ring
  unfold dqH hm
  obtain h | h | h | h : k / 64 = 0 ∨ k / 64 = 1 ∨ k / 64 = 2 ∨ k / 64 = 3 := by omega
  all_goals rw [h]; simp [-mul_eq_mul_right_iff]; simpa using key _ h
theorem dkH_sum (s k : ℕ) (hk : k < 256) :
    (0 + dkH A 0 s k + dkH A 1 s k + dkH A 2 s k + dkH A 3 s k) * emb A s k = dkIn A s k := by
  have key : ∀ h, k / 64 = h → (∑ t ∈ Ico s (c0 s + 64), Wh A (128 * h) t s * qem A t k) * emb A s k = dkIn A s k := by
    intro h hh; unfold dkIn W; rw [sum_mul, hh]
    refine sum_congr rfl fun t ht => ?_
    have ht := mem_Ico.1 ht
    rw [← ebm_emb A (t := t) (s := s) (c0_mem (by have := c0_le s; omega) ht.2).symm, qem]; ring
  unfold dkH hm
  obtain h | h | h | h : k / 64 = 0 ∨ k / 64 = 1 ∨ k / 64 = 2 ∨ k / 64 = 3 := by omega
  all_goals rw [h]; simp [-mul_eq_mul_right_iff]; simpa using key _ h

/-- A sum over all key channels masked to one head is the sum over the head's. -/
theorem sum_head {h : ℕ} (hh : h < 4) (G : ℕ → ℝ) : ∑ l : Fin 256, G l * hm h l = ∑ d ∈ range 64, G (64 * h + d) := by
  have := sum_block 0 (64 * h) (64 * h + 64) (by omega) G (p := fun l => l / 64 = h) (fun l hl => by omega)
  simp only [zero_add] at this
  rw [sum_Ico_eq_sum_range, Nat.add_sub_cancel_left] at this
  rw [← this]
  refine sum_congr rfl fun l _ => ?_
  unfold hm; split <;> simp

/-- The scores of one chunk, by way of its middle. -/
theorem U_mid {t s : ℕ} (h : c0 s = c0 t) (j : ℕ) (hj : j < 512) : ∑ l : Fin 256, kem A s l * (qem A t l * hm (j / 128) l) = U A t s j := by
  have := sum_head (h := j / 128) (by omega) (fun l => kem A s l * qem A t l)
  simp only [mul_assoc] at this ⊢
  rw [this]; unfold U
  refine sum_congr rfl fun d _ => ?_
  rw [← ebm_emb A h, kem, qem]; ring

/-! ### The carried gradient of the state -/

/-- A sum over all value columns masked to the head of key channel `k`. -/
theorem sum_vcols {k : ℕ} (hk : k < 256) (G : ℕ → ℝ) : ∑ j : Fin 512, (if (j : ℕ) / 128 = k / 64 then G j else 0)
    = ∑ l ∈ range 128, G (128 * (k / 64) + l) := by
  rw [Fin.sum_univ_eq_sum_range (fun j => if j / 128 = k / 64 then G j else 0), ← sum_filter]
  have : (range 512).filter (fun j => j / 128 = k / 64) = Ico (128 * (k / 64)) (128 * (k / 64) + 128) := by
    ext i; simp only [mem_filter, mem_range, mem_Ico]; omega
  rw [this, sum_Ico_eq_sum_range, Nat.add_sub_cancel_left]
theorem sum_kcols {j : ℕ} (hj : j < 512) (G : ℕ → ℝ) : ∑ k : Fin 256, (if j / 128 = (k : ℕ) / 64 then G k else 0)
    = ∑ d ∈ range 64, G (64 * (j / 128) + d) := by
  have := sum_head (h := j / 128) (by omega) G
  rw [← this]
  refine sum_congr rfl fun l _ => ?_
  unfold hm; simp only [eq_comm]; split <;> simp

theorem dkX_eq {r s k : ℕ} (hs : c0 s = r) (hk : k < 256) :
    (∑ j : Fin 512, v A s j * Dn A (r + 64) j k) * elb A s k = dkX A s k := by
  rw [show ∑ j : Fin 512, v A s j * Dn A (r + 64) j k = _ from (sum_congr rfl fun j _ => by unfold Dn; split <;> simp).trans (sum_vcols hk (fun j => v A s j * ∑ t ∈ Ico (r + 64) 16384, dO A t j * (q A t k * Real.exp (P A k (t + 1) - P A k (r + 64)))))]; unfold dkX W Wh; rw [hs]
  simp only [mul_sum, sum_mul]
  rw [sum_comm]
  refine sum_congr rfl fun t _ => sum_congr rfl fun l _ => ?_
  have e : Real.exp (P A k (t + 1) - P A k (r + 64)) * elb A s k = dec A k t s := by
    unfold elb dec bt bl; rw [hs, ← Real.exp_add]; congr 1; ring
  rw [← e]; ring

theorem dqX_eq {r t k : ℕ} (ht : c0 t = r) (hk : k < 256) :
    (∑ j : Fin 512, dO A t j * St A r j k) * eb A t k = dqX A t k := by
  rw [show ∑ j : Fin 512, dO A t j * St A r j k = _ from (sum_congr rfl fun j _ => by unfold St; split <;> simp).trans (sum_vcols hk (fun j => dO A t j * ∑ s ∈ range r, v A s j * (K A s k * Real.exp (P A k r - P A k (s + 1)))))]; unfold dqX W Wh; rw [ht]
  simp only [mul_sum, sum_mul]
  rw [sum_comm]
  refine sum_congr rfl fun s _ => sum_congr rfl fun l _ => ?_
  have e : Real.exp (P A k r - P A k (s + 1)) * eb A t k = dec A k t s := by
    unfold eb dec bl; rw [ht, ← Real.exp_add]; congr 1; ring
  rw [← e]; ring

theorem dvX_eq {r s j : ℕ} (hs : c0 s = r) (hj : j < 512) : ∑ k : Fin 256, kd A s k * Dn A (r + 64) j k = dvX A s j := by
  rw [show ∑ k : Fin 256, kd A s k * Dn A (r + 64) j k = _ from (sum_congr rfl fun j _ => by unfold Dn; split <;> simp).trans (sum_kcols hj (fun k => kd A s k * ∑ t ∈ Ico (r + 64) 16384, dO A t j * (q A t k * Real.exp (P A k (t + 1) - P A k (r + 64)))))]; unfold dvX U; rw [hs]
  simp only [mul_sum, sum_mul]
  rw [sum_comm]
  refine sum_congr rfl fun t _ => sum_congr rfl fun d _ => ?_
  generalize 64 * (j / 128) + d = k
  have e : Real.exp (P A k (t + 1) - P A k (r + 64)) * elb A s k = dec A k t s := by
    unfold elb dec bt bl; rw [hs, ← Real.exp_add]; congr 1; ring
  rw [← e, kd]; ring

/-- One chunk's step of the gradient of the state. -/
theorem Dn_step {r j k : ℕ} (hr : r % 64 = 0) (hr' : r + 64 ≤ 16384) :
    Dn A (r + 64) j k * ebl A r k + (if j / 128 = k / 64 then ∑ i : Fin 64, dO A (r + i) j * qe A (r + i) k else 0) = Dn A r j k := by
  unfold Dn; split
  · rw [← sum_Ico_consecutive _ (Nat.le_add_right r 64) hr', add_comm]
    congr 1
    · rw [sum_Ico_eq_sum_range, Nat.add_sub_cancel_left, Fin.sum_univ_eq_sum_range (fun i => dO A (r + i) j * qe A (r + i) k)]
      refine sum_congr rfl fun i hi => ?_
      rw [qe, eb, bl, c0_of hr (mem_range.1 hi)]
    · rw [sum_mul]
      refine sum_congr rfl fun t _ => ?_
      have e : Real.exp (P A k (t + 1) - P A k (r + 64)) * ebl A r k = Real.exp (P A k (t + 1) - P A k r) := by
        unfold ebl bt; rw [show c0 r = r from c0_of (i := 0) hr (by omega), ← Real.exp_add]; congr 1; ring
      rw [← e]; ring
  · simp

theorem Dn_end (j k : ℕ) : Dn A 16384 j k = 0 := by unfold Dn; simp

/-- The contribution of positions `s ≤ t` to the gradient of the running sum. -/
def pair (t s k : ℕ) : ℝ := W A t s k * q A t k * K A s k * dec A k t s

theorem q_dq (t k : ℕ) : q A t k * dq A t k = ∑ s ∈ range (t + 1), pair A t s k := by
  unfold dq pair; rw [mul_sum]; refine sum_congr rfl fun s _ => by ring
theorem K_dk (s k : ℕ) : K A s k * dk A s k = ∑ t ∈ Ico s 16384, pair A t s k := by
  unfold dk pair; rw [mul_sum]; refine sum_congr rfl fun s _ => by ring

/-- The gradient of the log decay after position `n`: the pairs on both sides of it. -/
theorem sum_db {n : ℕ} (hn : n ≤ 16384) (k : ℕ) :
    ∑ t ∈ Ico n 16384, db A t k = ∑ t ∈ Ico n 16384, ∑ s ∈ range n, pair A t s k := by
  unfold db; simp only [q_dq, K_dk, sum_sub_distrib]
  have h1 : ∑ t ∈ Ico n 16384, ∑ s ∈ range (t + 1), pair A t s k
      = ∑ t ∈ Ico n 16384, ∑ s ∈ range n, pair A t s k + ∑ t ∈ Ico n 16384, ∑ s ∈ Ico n (t + 1), pair A t s k := by
    rw [← sum_add_distrib]
    refine sum_congr rfl fun t ht => ?_
    rw [range_eq_Ico, range_eq_Ico]
    exact (sum_Ico_consecutive _ (Nat.zero_le n) (by have := (mem_Ico.1 ht).1; omega)).symm
  have h2 : ∑ t ∈ Ico n 16384, ∑ s ∈ Ico n (t + 1), pair A t s k = ∑ s ∈ Ico n 16384, ∑ t ∈ Ico s 16384, pair A t s k := by
    refine sum_comm' fun t s => ?_
    simp only [mem_Ico]; omega
  rw [h1, h2]; ring

theorem last_eq {r k : ℕ} (hr : r % 64 = 0) (hr' : r + 64 ≤ 16384) (hk : k < 256) :
    ∑ i : Fin 64, K A (r + i) k * dkX A (r + i) k + ebl A r k * ∑ j : Fin 512, St A r j k * Dn A (r + 64) j k = last A r k := by
  have hc : c0 r = r := c0_of (i := 0) hr (by omega)
  unfold last; rw [hc, sum_db A hr', sum_comm, range_eq_Ico, ← sum_Ico_consecutive _ (Nat.zero_le r) (Nat.le_add_right r 64), add_comm]
  congr 1
  · rw [show ∑ j : Fin 512, St A r j k * Dn A (r + 64) j k = _ from (sum_congr rfl fun j _ => by unfold St Dn; split <;> simp).trans (sum_vcols hk (fun j => (∑ s ∈ range r, v A s j * (K A s k * Real.exp (P A k r - P A k (s + 1)))) *
        ∑ t ∈ Ico (r + 64) 16384, dO A t j * (q A t k * Real.exp (P A k (t + 1) - P A k (r + 64)))))]; simp only [sum_mul, mul_sum]
    rw [← range_eq_Ico]
    refine (sum_congr rfl fun l _ => sum_comm).trans (sum_comm.trans (sum_congr rfl fun s _ => sum_comm.trans (sum_congr rfl fun t _ => ?_)))
    unfold pair W Wh; simp only [sum_mul]
    refine sum_congr rfl fun l _ => ?_
    have e : ebl A r k * Real.exp (P A k r - P A k (s + 1)) * Real.exp (P A k (t + 1) - P A k (r + 64)) = dec A k t s := by
      unfold ebl bt dec; rw [hc, ← Real.exp_add, ← Real.exp_add]; congr 1; ring
    rw [← e]; ring
  · rw [sum_Ico_eq_sum_range, Nat.add_sub_cancel_left, Fin.sum_univ_eq_sum_range (fun i => K A (r + i) k * dkX A (r + i) k)]
    refine sum_congr rfl fun i hi => ?_
    unfold dkX pair; rw [c0_of hr (mem_range.1 hi), mul_sum]
    refine sum_congr rfl fun t _ => by ring

theorem last_of {r i : ℕ} (hr : r % 64 = 0) (hi : i < 64) (k : ℕ) : last A (r + i) k = last A r k := by
  unfold last; rw [c0_of hr hi, show c0 r = r from c0_of (i := 0) hr (by omega)]

end Cert.GlaMath

end
end
-- ==== Proof.GlaPure.lean ====
/- What one operation or a few of the attention's backward kernel leave, over the reals: each value is the block, from
   some row on, of a function of position and channel, and each lemma says which one. -/
module

public import proofs.«01_k».proof.Proof.GlaMath
public import proofs.«01_k».proof.Proof.Gen.GlaKernelIdeal.Skeleton

@[expose] public section

set_option maxRecDepth 16384

noncomputable section

namespace Cert.GlaPure

open Cert.GlaKernelIdeal Cert.GlaKernelIdeal.Gen Cert.GlaMath Cert.Reals
open Idealize.ShloMosaic Idealize.ShloMosaic.TcCoe Idealize.SL.Sem

/-- The rows of `f` from `r` on. -/
def blk {n m : ℕ} {φ : FTy} (r : ℕ) (f : ℕ → ℕ → ℝ) : FVec Ideal ⟨2, ![n, m]⟩ φ :=
  fun i => ((f (r + (i 0).val) (i 1).val : ℝ) : EReal)
/-- A single row. -/
def row {m : ℕ} {φ : FTy} (f : ℕ → ℝ) : FVec Ideal ⟨2, ![1, m]⟩ φ := fun i => ((f (i 1).val : ℝ) : EReal)

theorem blk_apply {n m : ℕ} {φ : FTy} (r : ℕ) (f : ℕ → ℕ → ℝ) (p : Fin n) (q : Fin m) :
    blk (φ := φ) r f (ix2 p q) = ((f (r + p) q : ℝ) : EReal) := rfl
theorem row_apply {m : ℕ} {φ : FTy} (f : ℕ → ℝ) (p : Fin 1) (q : Fin m) : row (φ := φ) f (ix2 p q) = ((f q : ℝ) : EReal) := rfl

theorem ext2 {n m : ℕ} {α : Type} {x y : (⟨2, ![n, m]⟩ : Shape).Idx → α} (h : ∀ p q, x (ix2 p q) = y (ix2 p q)) : x = y := by
  funext i
  have e : i = ix2 (i 0) (i 1) := by funext a; match a with | ⟨0, _⟩ => rfl | ⟨1, _⟩ => rfl
  rw [e]; exact h _ _

/-- Matrices of two axes, one constant everywhere, and the zero a product starts from. -/
abbrev V (n m : ℕ) (φ : FTy) := FVec Ideal ⟨2, ![n, m]⟩ φ
abbrev bc (S : Shape) (b : BitVec 32) : FVec Ideal S .f32 := broadcast S (FloatOps.ofBits .f32 b)
abbrev z0 (S : Shape) : FVec Ideal S .f32 := constant S .f32 0x00000000#32

theorem coe_congr {a b : ℝ} (h : a = b) : (a : EReal) = b := h ▸ rfl
theorem coe_ite' (c : Prop) [Decidable c] (a : ℝ) : (if c then (a : EReal) else 0) = ((if c then a else 0 : ℝ) : EReal) := by
  split <;> rfl
theorem coe_min' (a b : ℝ) : min (a : EReal) b = ((min a b : ℝ) : EReal) := (EReal.coe_strictMono.monotone.map_min).symm
theorem coe_abs (a : ℝ) : max (a : EReal) (-(a : EReal)) = ((|a| : ℝ) : EReal) := by rw [coe_neg', coe_max']; rfl
theorem coe_log {a : ℝ} (h : 0 < a) : Ideal.log (a : EReal) = ((Real.log a : ℝ) : EReal) := by
  rw [Ideal.log_coe, if_neg (by linarith)]
theorem sub_coe_zero (a : ℝ) : (0 : EReal) - a = ((0 - a : ℝ) : EReal) := by rw [zero_coe, coe_sub']
theorem one_add_coe (a : ℝ) : (1 : EReal) + a = ((1 + a : ℝ) : EReal) := by rw [one_coe, coe_add']
theorem one_sub_coe (a : ℝ) : (1 : EReal) - a = ((1 - a : ℝ) : EReal) := by rw [one_coe, coe_sub']

theorem ofBits_128 : Ideal.ofBits .f32 0x43000000#32 = ((128 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_16th : Ideal.ofBits .f32 0x3D800000#32 = ((1 / 16 : ℝ) : EReal) := by
  simp [Ideal.ofBits, Ideal.ieee, -EReal.coe_mul]; norm_num

/-! ### The masks -/

theorem shr6 : ∀ i : Fin 512, IntOp.shrsi .vector (BitVec.ofNat 32 i) 6#32 = BitVec.ofNat 32 (i / 64) := by decide +kernel
theorem shr7 : ∀ i : Fin 512, IntOp.shrsi .vector (BitVec.ofNat 32 i) 7#32 = BitVec.ofNat 32 (i / 128) := by decide +kernel
theorem and63 : ∀ i : Fin 512, IntOp.andi (BitVec.ofNat 32 i) 63#32 = BitVec.ofNat 32 (i % 64) := by decide +kernel
theorem toInt_small {a : ℕ} (ha : a < 1024) : (BitVec.ofNat 32 a).toInt = a := by
  rw [BitVec.toInt_ofNat', Int.bmod_eq_of_le] <;> omega
theorem cmp_eq {a b : ℕ} (ha : a < 1024) (hb : b < 1024) :
    IntOp.cmpi .eq (BitVec.ofNat 32 a) (BitVec.ofNat 32 b) = if a = b then 1#1 else 0#1 := by
  have : BitVec.ofNat 32 a = BitVec.ofNat 32 b ↔ a = b := by
    rw [← BitVec.toInt_inj, toInt_small ha, toInt_small hb]; omega
  show BitVec.ofBool (BitVec.ofNat 32 a == BitVec.ofNat 32 b) = _
  by_cases h : a = b
  · simp [h]
  · rw [if_neg h, show (BitVec.ofNat 32 a == BitVec.ofNat 32 b) = false from beq_false_of_ne (fun e => h (this.1 e))]; rfl
theorem cmp_slt {a b : ℕ} (ha : a < 1024) (hb : b < 1024) :
    IntOp.cmpi .slt (BitVec.ofNat 32 a) (BitVec.ofNat 32 b) = if a < b then 1#1 else 0#1 := by
  by_cases h : a < b <;> simp [IntOp.cmpi, BitVec.slt, toInt_small ha, toInt_small hb, h]
theorem cmp_sle {a b : ℕ} (ha : a < 1024) (hb : b < 1024) :
    IntOp.cmpi .sle (BitVec.ofNat 32 a) (BitVec.ofNat 32 b) = if a ≤ b then 1#1 else 0#1 := by
  by_cases h : a ≤ b <;> simp [IntOp.cmpi, BitVec.sle, toInt_small ha, toInt_small hb, h]
theorem cmp_sge {a b : ℕ} (ha : a < 1024) (hb : b < 1024) :
    IntOp.cmpi .sge (BitVec.ofNat 32 a) (BitVec.ofNat 32 b) = if b ≤ a then 1#1 else 0#1 := by
  by_cases h : b ≤ a <;> simp [IntOp.cmpi, BitVec.sle, toInt_small ha, toInt_small hb, h]
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]
theorem sit_ite (φ : FTy) (p : Prop) [Decidable p] :
    (FloatOps.sitofp φ (BitVec.setWidth 32 (if p then 1#1 else 0#1)) : Ideal φ) = ((if p then 1 else 0 : ℝ) : EReal) := by
  split
  · show ((((BitVec.setWidth 32 1#1).toInt : ℤ) : ℝ) : EReal) = _
    rw [show (BitVec.setWidth 32 1#1).toInt = 1 from by decide]; norm_num
  · show ((((BitVec.setWidth 32 0#1).toInt : ℤ) : ℝ) : EReal) = _
    rw [show (BitVec.setWidth 32 0#1).toInt = 0 from by decide]; norm_num
theorem sel_ite {α : Type} (p : Prop) [Decidable p] (a b : α) : Scalar.select (if p then 1#1 else 0#1) a b = if p then a else b := by
  by_cases h : p <;> simp [h, Scalar.select]

theorem div6 (i : Fin 256) : IntOp.shrsi .vector (BitVec.ofNat 32 i) 6#32 = BitVec.ofNat 32 (i / 64) := shr6 ⟨i, by omega⟩

theorem m52 (p q : Fin 256) : k0_pay52 (ix2 p q) = if (p : ℕ) / 64 = (q : ℕ) / 64 then 1#1 else 0#1 := by
  pointwise [k0_pay52, div6]; exact cmp_eq (by omega) (by omega)
theorem m53 (p q : Fin 256) : k0_pay53 (ix2 p q) = if (p : ℕ) / 64 = (q : ℕ) / 64 ∧ (q : ℕ) ≤ p then 1#1 else 0#1 := by
  pointwise [k0_pay53, m52]; rw [cmp_sge (by omega) (by omega), andi_ite]
theorem m54 (p q : Fin 256) : k0_pay54 (ix2 p q) = if (p : ℕ) / 64 = (q : ℕ) / 64 ∧ (p : ℕ) ≤ q then 1#1 else 0#1 := by
  pointwise [k0_pay54, m52]; rw [cmp_sle (by omega) (by omega), andi_ite]
theorem m55 (p q : Fin 256) : k0_pay55 (F := Ideal) (ix2 p q) = ((if (p : ℕ) / 64 = (q : ℕ) / 64 ∧ (q : ℕ) ≤ p then 1 else 0 : ℝ) : EReal) := by
  pointwise [k0_pay55, m53]; exact sit_ite _ _
theorem m56 (p q : Fin 256) : k0_pay56 (F := Ideal) (ix2 p q) = ((if (p : ℕ) / 64 = (q : ℕ) / 64 ∧ (p : ℕ) ≤ q then 1 else 0 : ℝ) : EReal) := by
  pointwise [k0_pay56, m54]; exact sit_ite _ _
theorem m57 (p q : Fin 256) : k0_pay57 (F := Ideal) (ix2 p q) = ((if (p : ℕ) / 64 = (q : ℕ) / 64 then 1 else 0 : ℝ) : EReal) := by
  pointwise [k0_pay57, m52]; exact sit_ite _ _
theorem m58 (p q : Fin 256) : k0_pay58 (F := Ideal) (ix2 p q)
    = ((if (p : ℕ) / 64 = (q : ℕ) / 64 ∧ (q : ℕ) % 64 < 32 then 1 else 0 : ℝ) : EReal) := by
  pointwise [k0_pay58, m52]
  rw [show IntOp.andi (BitVec.ofNat 32 q) 63#32 = BitVec.ofNat 32 (q % 64) from and63 ⟨q, by omega⟩, cmp_slt (by omega) (by omega), andi_ite]
  exact sit_ite _ _
theorem m59 (p : Fin 512) (q : Fin 256) : k0_pay59 (ix2 p q) = if (p : ℕ) / 128 = (q : ℕ) / 64 then 1#1 else 0#1 := by
  pointwise [k0_pay59, div6, shr7]; exact cmp_eq (by omega) (by omega)

theorem r60 : k0_pay60 (F := Ideal) = row (hm 0) := by
  refine ext2 fun p q => ?_
  pointwise [k0_pay60, row_apply]
  rw [show (0#32 : BitVec 32) = BitVec.ofNat 32 0 from rfl, cmp_sge (by omega) (by omega), cmp_slt (by omega) (by omega), andi_ite, sit_ite]
  refine coe_congr ?_; unfold hm; congr 1; apply propext; omega
theorem r61 : k0_pay61 (F := Ideal) (iota .tc S1x256 32 (@List.cons (Fin 2) (1 : Fin S1x256.rank) (@List.nil (Fin 2))) iota_S1x256_d1_w32) = row (hm 1) := by
  refine ext2 fun p q => ?_
  pointwise [k0_pay61, row_apply]
  rw [cmp_sge (by omega) (by omega), cmp_slt (by omega) (by omega), andi_ite, sit_ite]
  refine coe_congr ?_; unfold hm; congr 1; apply propext; omega
theorem r62 : k0_pay62 (F := Ideal) (iota .tc S1x256 32 (@List.cons (Fin 2) (1 : Fin S1x256.rank) (@List.nil (Fin 2))) iota_S1x256_d1_w32) = row (hm 2) := by
  refine ext2 fun p q => ?_
  pointwise [k0_pay62, row_apply]
  rw [cmp_sge (by omega) (by omega), cmp_slt (by omega) (by omega), andi_ite, sit_ite]
  refine coe_congr ?_; unfold hm; congr 1; apply propext; omega
theorem r63 : k0_pay63 (F := Ideal) (iota .tc S1x256 32 (@List.cons (Fin 2) (1 : Fin S1x256.rank) (@List.nil (Fin 2))) iota_S1x256_d1_w32) = row (hm 3) := by
  refine ext2 fun p q => ?_
  pointwise [k0_pay63, row_apply]
  rw [cmp_sge (by omega) (by omega), cmp_slt (by omega) (by omega), andi_ite, sit_ite]
  refine coe_congr ?_; unfold hm; congr 1; apply propext; omega

/-! ### Loads, slices and casts -/

variable (f : ℕ → ℕ → ℝ) (r : ℕ)

theorem tr {n m : ℕ} (h : FTy.bf16.bits < FTy.f32.bits) : truncf .bf16 (blk r f : V n m .f32) h = blk r f := rfl
theorem ex {n m : ℕ} (h : FTy.bf16.bits < FTy.f32.bits) : extf .f32 (blk r f : V n m .bf16) h = blk r f := rfl
theorem slice {n n' m o : ℕ} (φ : FTy) (h) : extractStridedSlice ⟨2, ![n', m]⟩ ![o, 0] (blk r f : V n m φ) h = blk (r + o) f := by
  refine ext2 fun p q => ?_
  show ((f (r + (o + p)) (0 + q) : ℝ) : EReal) = ((f (r + o + p) q : ℝ) : EReal)
  rw [add_assoc, zero_add]
theorem ldW_bf16 {n n' m a : ℕ} (inb) :
    View.ld (Val := Elt Ideal) (e' := .bf16) (blk r f : V n m .bf16) (Rect.unit (s := ⟨2, ![n, m]⟩) ![a, 0] ![n', m] inb) = (blk (r + a) f : V n' m .bf16) := by
  refine ext2 fun p q => ?_
  show ((f (r + (a + 1 * p)) (0 + 1 * q) : ℝ) : EReal) = ((f (r + a + p) q : ℝ) : EReal)
  rw [one_mul, one_mul, add_assoc, zero_add]
theorem ldH_bf16 {n n' a b : ℕ} (inb) :
    View.ld (Val := Elt Ideal) (e' := .bf16) (blk r f : V n 512 .bf16) (Rect.unit (s := ⟨2, ![n, 512]⟩) ![a, b] ![n', 128] inb)
      = (blk (r + a) (hd b f) : V n' 128 .bf16) := by
  refine ext2 fun p q => ?_
  show ((f (r + (a + 1 * p)) (b + 1 * q) : ℝ) : EReal) = ((f (r + a + p) (b + q) : ℝ) : EReal)
  rw [one_mul, one_mul, add_assoc]
theorem ldW_f32 {n n' m a : ℕ} (inb) :
    View.ld (Val := Elt Ideal) (e' := .f32) (blk r f : V n m .f32) (Rect.unit (s := ⟨2, ![n, m]⟩) ![a, 0] ![n', m] inb) = (blk (r + a) f : V n' m .f32) := by
  refine ext2 fun p q => ?_
  show ((f (r + (a + 1 * p)) (0 + 1 * q) : ℝ) : EReal) = ((f (r + a + p) q : ℝ) : EReal)
  rw [one_mul, one_mul, add_assoc, zero_add]
theorem ldH_f32 {n n' a b : ℕ} (inb) :
    View.ld (Val := Elt Ideal) (e' := .f32) (blk r f : V n 512 .f32) (Rect.unit (s := ⟨2, ![n, 512]⟩) ![a, b] ![n', 128] inb)
      = (blk (r + a) (hd b f) : V n' 128 .f32) := by
  refine ext2 fun p q => ?_
  show ((f (r + (a + 1 * p)) (b + 1 * q) : ℝ) : EReal) = ((f (r + a + p) (b + q) : ℝ) : EReal)
  rw [one_mul, one_mul, add_assoc]
/-- Four blocks of 64 rows one below the other. -/
def cat4 (a b c d : V 64 256 .f32) : V 256 256 .f32 :=
  concatenate S256x256 0 [⟨S64x256, a⟩, ⟨S64x256, b⟩, ⟨S64x256, c⟩, ⟨S64x256, d⟩] concatenates_S64x256_S64x256_S64x256_S64x256_S256x256_d0
theorem cat4_of (a b c d : V 64 256 .f32) : concatenate S256x256 0 [⟨S64x256, a⟩, ⟨S64x256, b⟩, ⟨S64x256, c⟩, ⟨S64x256, d⟩]
    concatenates_S64x256_S64x256_S64x256_S64x256_S256x256_d0 = cat4 a b c d := rfl
theorem cat {r1 r2 r3 : ℕ} (h1 : r1 = r + 64) (h2 : r2 = r + 128) (h3 : r3 = r + 192) :
    cat4 (blk r f) (blk r1 f) (blk r2 f) (blk r3 f) = (blk r f : V 256 256 .f32) := by
  subst h1 h2 h3
  refine ext2 fun p q => ?_
  pointwise [cat4, blk_apply]
  split
  · rfl
  split
  · rw [show r + 64 + (↑p - 64) = r + (p : ℕ) by omega]
  split
  · rw [show r + 128 + (↑p - 64 - 64) = r + (p : ℕ) by omega]
  · rw [show r + 192 + (↑p - 64 - 64 - 64) = r + (p : ℕ) by omega]

/-! ### The gate and the norm, a head's 128 columns from `b` on -/

variable (A : Args) {r} {b : ℕ}

/-- The norm's factor as a column. -/
def rrc (b : ℕ) : ℕ → ℕ → ℝ := fun t _ => rr A b t

theorem rms_pos (t : ℕ) : 0 < (∑ j ∈ Finset.range 128, o A t (b + j) * o A t (b + j)) / 128 + eps :=
  add_pos_of_nonneg_of_pos (div_nonneg (Finset.sum_nonneg fun k _ => mul_self_nonneg _) (by norm_num)) eps_pos

theorem e_rr (h1) (h2 : (0x00000000#32 : BitVec 32) = 0x00000000#32) : rsqrt (addf (divf (shapeCast S512x1 (multiReduction .add (@List.cons (Fin 2) (1 : Fin S512x128.rank) (@List.nil (Fin 2))) S512 (mulf (blk r (hd b (o A)) : V 512 128 .f32)
      (blk r (hd b (o A)))) 0x00000000#32 reduces_S512x128_S512 h1 h2) shapeCasts_S512_S512x1) (bc S512x1 0x43000000#32))
      (bc S512x1 0x358637BD#32)) = (blk r (rrc A b) : V 512 1 .f32) := by
  refine ext2 fun p q => ?_
  pointwise [blk_apply, hd, rrc]
  simp only [coe_mul', coe_sum, ofBits_eps, ofBits_128]
  rw [coe_div' _ (by norm_num), coe_add', Fin.sum_univ_eq_sum_range (fun j => o A (r + p) (b + j) * o A (r + p) (b + j)), coe_rsqrt (rms_pos A (r + p))]
  rfl
theorem e_oh (h : b % 128 = 0) : mulf (blk r (hd b (o A))) (broadcastTo S512x128 (blk r (rrc A b) : V 512 1 .f32) broadcasts_S512x1_S512x128)
    = (blk r (hd b (oh A)) : V 512 128 .f32) := by
  refine ext2 fun p q => ?_
  pointwise [blk_apply, hd, rrc]
  rw [coe_mul', oh, show (b + (q : ℕ)) / 128 * 128 = b by omega]
theorem e_sg : logistic (blk r (hd b (g A)) : V 512 128 .f32) = blk r (hd b (sg A)) := by
  refine ext2 fun p q => ?_
  pointwise [blk_apply, Ideal.logistic_coe]
  rfl
theorem e_don : mulf (blk r (hd b A.dm)) (mulf (blk r (hd b (g A))) (blk r (hd b (sg A)))) = (blk r (hd b (don A)) : V 512 128 .f32) := by
  refine ext2 fun p q => ?_
  pointwise [blk_apply, hd]
  simp only [coe_mul']; rfl
theorem e_dg (h : b % 128 = 0) : mulf (mulf (blk r (hd b A.dm)) (mulf (blk r (hd b (oh A))) (broadcastTo S512x128 (row A.gn : V 1 128 .f32) broadcasts_S1x128_S512x128)))
      (mulf (blk r (hd b (sg A))) (addf (bc S512x128 0x3F800000#32) (mulf (blk r (hd b (g A))) (subf (bc S512x128 0x3F800000#32) (blk r (hd b (sg A)))))))
    = (blk r (hd b (dg A)) : V 512 128 .f32) := by
  refine ext2 fun p q => ?_
  pointwise [blk_apply, hd, row_apply]
  simp only [coe_mul', one_sub_coe, one_add_coe]
  rw [dg, show (b + (q : ℕ)) % 128 = q by omega]
/-- One head's terms of the norm gain's gradient in one column. -/
def dgnT (r b j : ℕ) : ℝ := ∑ i ∈ Finset.range 512, don A (r + i) (b + j) * oh A (r + i) (b + j)
theorem e_dgn (h1) (h2 : (0x00000000#32 : BitVec 32) = 0x00000000#32) (x : V 1 128 .f32) : addf x (shapeCast S1x128 (multiReduction .add (@List.cons (Fin 2) (0 : Fin S512x128.rank) (@List.nil (Fin 2))) S128 (mulf (blk r (hd b (don A)) : V 512 128 .f32) (blk r (hd b (oh A))))
      0x00000000#32 reduces_S512x128_S128 h1 h2) shapeCasts_S128_S1x128) = addf x (row (dgnT A r b)) := by
  congr 1
  refine ext2 fun p q => ?_
  pointwise [blk_apply, hd, row_apply]
  simp only [coe_mul', coe_sum]
  rw [dgnT, Fin.sum_univ_eq_sum_range (fun i => don A (r + i) (b + q) * oh A (r + i) (b + q))]
theorem e_do (h : b % 128 = 0) (h1) (h2 : (0x00000000#32 : BitVec 32) = 0x00000000#32) : mulf (broadcastTo S512x128 (blk r (rrc A b) : V 512 1 .f32) broadcasts_S512x1_S512x128)
      (subf (mulf (blk r (hd b (don A))) (broadcastTo S512x128 (row A.gn : V 1 128 .f32) broadcasts_S1x128_S512x128))
        (mulf (blk r (hd b (oh A))) (broadcastTo S512x128 (divf (shapeCast S512x1 (multiReduction .add (@List.cons (Fin 2) (1 : Fin S512x128.rank) (@List.nil (Fin 2))) S512
          (mulf (mulf (blk r (hd b (don A)) : V 512 128 .f32) (broadcastTo S512x128 (row A.gn : V 1 128 .f32) broadcasts_S1x128_S512x128)) (blk r (hd b (oh A))))
          0x00000000#32 reduces_S512x128_S512 h1 h2) shapeCasts_S512_S512x1) (bc S512x1 0x43000000#32)) broadcasts_S512x1_S512x128)))
    = (blk r (hd b (dO A)) : V 512 128 .f32) := by
  refine ext2 fun p q => ?_
  pointwise [blk_apply, hd, row_apply, rrc]
  simp only [coe_mul', coe_sum, ofBits_128]
  rw [coe_div' _ (by norm_num)]
  simp only [coe_mul', coe_sub']
  rw [dO, show (b + (q : ℕ)) % 128 = q by omega, show (b + (q : ℕ)) / 128 * 128 = b by omega,
    Fin.sum_univ_eq_sum_range (fun l => don A (r + p) (b + l) * A.gn l * oh A (r + p) (b + l))]

/-! ### The decay, 256 rows -/

theorem d_al : addf (matmul dot_S256x128_S128x256_S256x256_1_0_0_1_n_n none (blk r (z A) : V 256 128 .bf16) (blk 0 (wz A) : V 128 256 .bf16) (z0 S256x256))
      (broadcastTo S256x256 (row A.bg : V 1 256 .f32) broadcasts_S1x256_S256x256) = (blk r (al A) : V 256 256 .f32) := by
  refine ext2 fun p q => ?_
  pointwise [blk_apply, row_apply]
  simp only [coe_mul', coe_sum, coe_add', zero_add]
  rw [al, Fin.sum_univ_eq_sum_range (fun l => z A (r + p) l * wz A l q)]
theorem d_la : mulf (subf (minimumf (blk r (al A)) (bc S256x256 0x00000000#32)) (log (addf (bc S256x256 0x3F800000#32) (exp (subf (bc S256x256 0x00000000#32) (absf (blk r (al A))))))))
      (bc S256x256 0x3D800000#32) = (blk r (la A) : V 256 256 .f32) := by
  refine ext2 fun p q => ?_
  pointwise [blk_apply]
  simp only [coe_abs, sub_coe_zero, Ideal.exp_coe, one_add_coe, ofBits_16th]
  have e : (FloatOps.absf (F := Ideal) (φ := .f32) ((al A (r + p) q : ℝ) : EReal) : EReal) = ((|al A (r + p) q| : ℝ) : EReal) := by
    show max ((al A (r + p) q : ℝ) : EReal) (-((al A (r + p) q : ℝ) : EReal)) = _
    exact coe_abs _
  rw [e]
  simp only [sub_coe_zero, Ideal.exp_coe, one_add_coe]
  rw [coe_log (by positivity), zero_coe, coe_min', coe_sub', coe_mul', la, zero_sub]
theorem d_zz : subf (blk r f) (blk r f) = (blk r (fun _ _ => 0) : V 256 256 .f32) := by
  refine ext2 fun p q => ?_
  pointwise [blk_apply]
  rw [coe_sub', sub_self]
theorem mulZ (x : V 256 256 .bf16) : matmul dot_S256x256_S256x256_S256x256_1_0_0_1_n_n none x (blk r (fun _ _ => 0) : V 256 256 .bf16) (z0 S256x256) = blk 0 (fun _ _ => 0) := by
  refine ext2 fun p q => ?_
  pointwise [blk_apply]
  simp
theorem addZ {n m : ℕ} (x : V n m .f32) : addf x (blk 0 (fun _ _ => 0)) = x := by
  refine ext2 fun p q => ?_
  pointwise [blk_apply]
  simp
theorem d_bl (h : r % 64 = 0) : matmul dot_S256x256_S256x256_S256x256_1_0_0_1_n_n none (k0_pay55 (F := Ideal)) (blk r (la A) : V 256 256 .bf16) (z0 S256x256)
    = (blk r (bl A) : V 256 256 .f32) := by
  refine ext2 fun p q => ?_
  pointwise [blk_apply, m55]
  simp only [coe_mul', coe_sum, ite_mul, one_mul, zero_mul]
  rw [sum_upto h p (fun s => la A s q), sum_la A (by have := c0_le (r + p); omega)]; rfl
theorem d_bt (h : r % 64 = 0) : matmul dot_S256x256_S256x256_S256x256_1_0_0_1_n_n none (k0_pay57 (F := Ideal)) (blk r (la A) : V 256 256 .bf16) (z0 S256x256)
    = (blk r (bt A) : V 256 256 .f32) := by
  refine ext2 fun p q => ?_
  pointwise [blk_apply, m57]
  simp only [coe_mul', coe_sum, ite_mul, one_mul, zero_mul]
  rw [sum_chunk h p (fun s => la A s q), sum_la A (by omega)]; rfl
theorem d_bm (h : r % 64 = 0) : matmul dot_S256x256_S256x256_S256x256_1_0_0_1_n_n none (k0_pay58 (F := Ideal)) (blk r (la A) : V 256 256 .bf16) (z0 S256x256)
    = (blk r (bm A) : V 256 256 .f32) := by
  refine ext2 fun p q => ?_
  pointwise [blk_apply, m58]
  simp only [coe_mul', coe_sum, ite_mul, one_mul, zero_mul]
  rw [sum_half h p (fun s => la A s q), sum_la A (by omega)]; rfl
theorem d_eb : exp (blk r (bl A)) = (blk r (eb A) : V 256 256 .f32) := rfl
theorem d_ebl : exp (blk r (bt A)) = (blk r (ebl A) : V 256 256 .f32) := rfl
theorem d_ebm : exp (subf (blk r (bl A)) (blk r (bm A))) = (blk r (ebm A) : V 256 256 .f32) := by
  refine ext2 fun p q => ?_
  pointwise [blk_apply]; rw [coe_sub']; rfl
theorem d_emb : exp (subf (blk r (bm A)) (blk r (bl A))) = (blk r (emb A) : V 256 256 .f32) := by
  refine ext2 fun p q => ?_
  pointwise [blk_apply]; rw [coe_sub']; rfl
theorem d_elb : exp (subf (blk r (bt A)) (blk r (bl A))) = (blk r (elb A) : V 256 256 .f32) := by
  refine ext2 fun p q => ?_
  pointwise [blk_apply]; rw [coe_sub']; rfl
theorem d_q : mulf (blk r (qr A)) (bc S256x256 0x3E000000#32) = (blk r (q A) : V 256 256 .f32) := by
  refine ext2 fun p q => ?_
  pointwise [blk_apply, ofBits_eighth]; rw [coe_mul']; rfl
theorem d_qem : mulf (blk r (q A)) (blk r (ebm A)) = (blk r (qem A) : V 256 256 .f32) := by
  refine ext2 fun p q => ?_
  pointwise [blk_apply]; rw [coe_mul']; rfl
theorem d_kem : mulf (blk r (K A)) (blk r (emb A)) = (blk r (kem A) : V 256 256 .f32) := by
  refine ext2 fun p q => ?_
  pointwise [blk_apply]; rw [coe_mul']; rfl
theorem d_qe : mulf (blk r (q A)) (blk r (eb A)) = (blk r (qe A) : V 256 256 .f32) := by
  refine ext2 fun p q => ?_
  pointwise [blk_apply]; rw [coe_mul']; rfl
theorem d_kd : mulf (blk r (K A)) (blk r (elb A)) = (blk r (kd A) : V 256 256 .f32) := by
  refine ext2 fun p q => ?_
  pointwise [blk_apply]; rw [coe_mul']; rfl

/-! ### Within a chunk, one head -/

theorem i_dq (h : ℕ) (hb : b = 128 * h) (hr : r % 64 = 0) : mulf (broadcastTo S256x256 (row (hm h) : V 1 256 .f32) broadcasts_S1x256_S256x256)
      (matmul dot_S256x256_S256x256_S256x256_1_0_0_1_n_n none (truncf .bf16 (select k0_pay53 (matmul dot_S256x128_S256x128_S256x256_1_1_0_0_n_n none
        (blk r (hd b (dO A)) : V 256 128 .bf16) (blk r (hd b (v A)) : V 256 128 .bf16) (z0 S256x256)) (bc S256x256 0x00000000#32)) bitsLt_bf16_f32)
        (blk r (kem A) : V 256 256 .bf16) (z0 S256x256)) = (blk r (dqH A h) : V 256 256 .f32) := by
  subst hb
  refine ext2 fun p q => ?_
  pointwise [blk_apply, row_apply, hd, m53, sel_ite]
  simp only [coe_mul', coe_sum, zero_add, coe_ite', ite_mul, zero_mul,
    fun s : ℕ => Fin.sum_univ_eq_sum_range (fun x => dO A (r + p) (128 * h + x) * v A s (128 * h + x)) 128]
  rw [sum_upto hr p (fun s => (∑ x ∈ Finset.range 128, dO A (r + p) (128 * h + x) * v A s (128 * h + x)) * kem A s q)]
  rfl
theorem i_dk (h : ℕ) (hb : b = 128 * h) (hr : r % 64 = 0) : mulf (broadcastTo S256x256 (row (hm h) : V 1 256 .f32) broadcasts_S1x256_S256x256)
      (matmul dot_S256x256_S256x256_S256x256_1_0_0_1_n_n none (truncf .bf16 (select k0_pay54 (matmul dot_S256x128_S256x128_S256x256_1_1_0_0_n_n none
        (blk r (hd b (v A)) : V 256 128 .bf16) (blk r (hd b (dO A)) : V 256 128 .bf16) (z0 S256x256)) (bc S256x256 0x00000000#32)) bitsLt_bf16_f32)
        (blk r (qem A) : V 256 256 .bf16) (z0 S256x256)) = (blk r (dkH A h) : V 256 256 .f32) := by
  subst hb
  refine ext2 fun p q => ?_
  pointwise [blk_apply, row_apply, hd, m54, sel_ite]
  simp only [coe_mul', coe_sum, zero_add, coe_ite', ite_mul, zero_mul,
    fun s : ℕ => Fin.sum_univ_eq_sum_range (fun x => v A (r + p) (128 * h + x) * dO A s (128 * h + x)) 128]
  rw [sum_from hr p (fun s => (∑ x ∈ Finset.range 128, v A (r + p) (128 * h + x) * dO A s (128 * h + x)) * qem A s q)]
  simp only [mul_comm (v A _ _)]
  rfl
theorem i_dv (h : ℕ) (hb : b = 128 * h) (h4 : h < 4) (hr : r % 64 = 0) :
    matmul dot_S256x256_S256x128_S256x128_1_0_0_1_n_n none (truncf .bf16 (select k0_pay54 (matmul dot_S256x256_S256x256_S256x256_1_1_0_0_n_n none
        (blk r (kem A) : V 256 256 .bf16) (truncf .bf16 (mulf (blk r (qem A)) (broadcastTo S256x256 (row (hm h) : V 1 256 .f32) broadcasts_S1x256_S256x256)) bitsLt_bf16_f32)
        (z0 S256x256)) (bc S256x256 0x00000000#32)) bitsLt_bf16_f32)
      (blk r (hd b (dO A)) : V 256 128 .bf16) (z0 S256x128) = (blk r (hd b (dvIn A)) : V 256 128 .f32) := by
  subst hb
  refine ext2 fun p q => ?_
  pointwise [blk_apply, row_apply, hd, m54, sel_ite]
  simp only [coe_mul', coe_sum, zero_add, coe_ite', ite_mul, zero_mul]
  rw [sum_from hr p (fun s => (∑ x : Fin 256, kem A (r + p) x * (qem A s x * hm h x)) * dO A s (128 * h + q))]
  unfold dvIn
  refine coe_congr (Finset.sum_congr rfl fun t ht => ?_)
  have ht := Finset.mem_Ico.1 ht
  rw [← U_mid A (t := t) (s := r + p) (c0_mem (by have := c0_le (r + p); omega) ht.2).symm (128 * h + q) (by omega), show (128 * h + (q : ℕ)) / 128 = h by omega]
theorem i_dqs : mulf (addf (addf (addf (addf (bc S256x256 0x00000000#32) (blk r (dqH A 0))) (blk r (dqH A 1))) (blk r (dqH A 2))) (blk r (dqH A 3)))
      (blk r (ebm A)) = (blk r (dqIn A) : V 256 256 .f32) := by
  refine ext2 fun p q => ?_
  pointwise [blk_apply]
  simp only [coe_mul', coe_add', zero_coe]
  exact coe_congr (by simpa using dqH_sum A (r + p) q q.isLt)
theorem i_dks : mulf (addf (addf (addf (addf (bc S256x256 0x00000000#32) (blk r (dkH A 0))) (blk r (dkH A 1))) (blk r (dkH A 2))) (blk r (dkH A 3)))
      (blk r (emb A)) = (blk r (dkIn A) : V 256 256 .f32) := by
  refine ext2 fun p q => ?_
  pointwise [blk_apply]
  simp only [coe_mul', coe_add', zero_coe]
  exact coe_congr (by simpa using dkH_sum A (r + p) q q.isLt)

/-! ### Across chunks, the 64 rows of one chunk -/

theorem c_dk {r1 : ℕ} (h1 : r1 = r + 64) (hr : r % 64 = 0) : mulf (matmul dot_S64x512_S512x256_S64x256_1_0_0_1_n_n none (blk r (v A) : V 64 512 .bf16)
      (blk 0 (Dn A r1) : V 512 256 .bf16) (z0 S64x256)) (blk r (elb A)) = (blk r (dkX A) : V 64 256 .f32) := by
  subst h1
  refine ext2 fun p q => ?_
  pointwise [blk_apply]
  simp only [coe_mul', coe_sum, zero_add]
  exact coe_congr (dkX_eq A (c0_of hr p.isLt) q.isLt)
theorem c_dq {r1 : ℕ} (h1 : r1 = r) (hr : r % 64 = 0) : mulf (matmul dot_S64x512_S512x256_S64x256_1_0_0_1_n_n none (blk r (dO A) : V 64 512 .bf16)
      (blk 0 (St A r1) : V 512 256 .bf16) (z0 S64x256)) (blk r (eb A)) = (blk r (dqX A) : V 64 256 .f32) := by
  subst h1
  refine ext2 fun p q => ?_
  pointwise [blk_apply]
  simp only [coe_mul', coe_sum, zero_add]
  exact coe_congr (dqX_eq A (c0_of hr p.isLt) q.isLt)
theorem c_last {r1 r2 r3 : ℕ} (h1) (h2 : (0x00000000#32 : BitVec 32) = 0x00000000#32) (e1 : r1 = r) (e2 : r2 = r) (e3 : r3 = r + 64) (hr : r % 64 = 0) (hr' : r + 64 ≤ 16384) :
    addf (shapeCast S1x256 (multiReduction .add (@List.cons (Fin 2) (0 : Fin S64x256.rank) (@List.nil (Fin 2))) S256 (mulf (blk r (K A) : V 64 256 .f32) (blk r (dkX A))) 0x00000000#32 reduces_S64x256_S256 h1 h2)
        shapeCasts_S256_S1x256)
      (mulf (blk r1 (ebl A) : V 1 256 .f32) (shapeCast S1x256 (multiReduction .add (@List.cons (Fin 2) (0 : Fin S512x256.rank) (@List.nil (Fin 2))) S256 (mulf (blk 0 (St A r2) : V 512 256 .f32) (blk 0 (Dn A r3))) 0x00000000#32
        reduces_S512x256_S256 h1 h2) shapeCasts_S256_S1x256)) = (row (last A r) : V 1 256 .f32) := by
  subst e1 e2 e3
  refine ext2 fun p q => ?_
  pointwise [blk_apply, row_apply]
  simp only [coe_mul', coe_sum, coe_add', zero_add]
  exact coe_congr (last_eq A hr hr' q.isLt)
theorem c_lastB (hr : r % 64 = 0) : broadcastTo S64x256 (row (last A r) : V 1 256 .f32) broadcasts_S1x256_S64x256 = blk r (last A) := by
  refine ext2 fun p q => ?_
  pointwise [blk_apply, row_apply]
  rw [last_of A hr p.isLt]
theorem c_dv {r1 : ℕ} (h1 : r1 = r + 64) (hr : r % 64 = 0) (hr' : r + 64 ≤ 16384) : addf (blk r (dvIn A)) (matmul dot_S64x256_S512x256_S64x512_1_1_0_0_n_n none
      (blk r (kd A) : V 64 256 .bf16) (blk 0 (Dn A r1) : V 512 256 .bf16) (z0 S64x512)) = (blk r (dv A) : V 64 512 .f32) := by
  subst h1
  refine ext2 fun p q => ?_
  pointwise [blk_apply]
  simp only [coe_mul', coe_sum, coe_add', zero_add]
  rw [dvX_eq A (c0_of hr p.isLt) q.isLt, dvIn_add A (by omega)]
theorem c_D {r1 r2 : ℕ} (h1 : r1 = r + 64) (h2 : r2 = r) (hr : r % 64 = 0) (hr' : r + 64 ≤ 16384) :
    addf (mulf (blk 0 (Dn A r1)) (broadcastTo S512x256 (blk r (ebl A) : V 1 256 .f32) broadcasts_S1x256_S512x256))
      (select k0_pay59 (matmul dot_S64x512_S64x256_S512x256_0_0_1_1_n_n none (blk r2 (dO A) : V 64 512 .bf16) (blk r2 (qe A) : V 64 256 .bf16) (z0 S512x256))
        (bc S512x256 0x00000000#32)) = (blk 0 (Dn A r) : V 512 256 .f32) := by
  subst h1 h2
  refine ext2 fun p q => ?_
  pointwise [blk_apply, row_apply, m59, sel_ite]
  simp only [coe_mul', coe_sum, zero_add, coe_ite', coe_add']
  exact coe_congr (Dn_step A hr hr')

/-! ### The gradients of 256 rows -/

theorem f_dq : addf (blk r (dqIn A)) (blk r (dqX A)) = (blk r (dq A) : V 256 256 .f32) := by
  refine ext2 fun p q => ?_
  pointwise [blk_apply]
  rw [coe_add', dqIn_add]
theorem f_dk (hr : r + 256 ≤ 16384) : addf (blk r (dkIn A)) (blk r (dkX A)) = (blk r (dk A) : V 256 256 .f32) := by
  refine ext2 fun p q => ?_
  pointwise [blk_apply]
  rw [coe_add', dkIn_add A (by omega)]
/-- The queries' gradient before the scale. -/
def dq8 (t k : ℕ) : ℝ := dq A t k * (1 / 8)
theorem f_dq8 : mulf (blk r (dq A)) (bc S256x256 0x3E000000#32) = (blk r (dq8 A) : V 256 256 .f32) := by
  refine ext2 fun p q => ?_
  pointwise [blk_apply, ofBits_eighth]; rw [coe_mul']; rfl
theorem f_db : subf (mulf (blk r (q A)) (blk r (dq A))) (mulf (blk r (K A)) (blk r (dk A))) = (blk r (db A) : V 256 256 .f32) := by
  refine ext2 fun p q => ?_
  pointwise [blk_apply]; simp only [coe_mul', coe_sub']; rfl
theorem f_dla (hr : r % 64 = 0) (hr' : r + 256 ≤ 16384) : addf (matmul dot_S256x256_S256x256_S256x256_1_0_0_1_n_n none (k0_pay56 (F := Ideal))
      (blk r (db A) : V 256 256 .bf16) (z0 S256x256)) (blk r (last A)) = (blk r (dla A) : V 256 256 .f32) := by
  refine ext2 fun p q => ?_
  pointwise [blk_apply, m56]
  simp only [coe_mul', coe_sum, coe_add', ite_mul, one_mul, zero_mul]
  rw [sum_from hr p (fun s => db A s q), dla_split A (by omega)]
theorem f_dal : mulf (mulf (blk r (dla A)) (bc S256x256 0x3D800000#32)) (logistic (subf (bc S256x256 0x00000000#32) (blk r (al A)))) = (blk r (dal A) : V 256 256 .f32) := by
  refine ext2 fun p q => ?_
  pointwise [blk_apply]
  simp only [ofBits_16th, sub_coe_zero, Ideal.logistic_coe, coe_mul']
  rfl
theorem f_dz : matmul dot_S256x256_S128x256_S256x128_1_1_0_0_n_n none (blk r (dal A) : V 256 256 .bf16) (blk 0 (wz A) : V 128 256 .bf16) (z0 S256x128)
    = (blk r (dz A) : V 256 128 .f32) := by
  refine ext2 fun p q => ?_
  pointwise [blk_apply]
  simp only [coe_mul', coe_sum, zero_add]
  rw [dz, Fin.sum_univ_eq_sum_range (fun k => dal A (r + p) k * wz A q k)]
/-- 256 positions' terms of the decay gate's gradients. -/
def dwgT (r i k : ℕ) : ℝ := ∑ t ∈ Finset.range 256, z A (r + t) i * dal A (r + t) k
def dbgT (r k : ℕ) : ℝ := ∑ t ∈ Finset.range 256, dal A (r + t) k
theorem f_dwg : matmul dot_S256x128_S256x256_S128x256_0_0_1_1_n_n none (blk r (z A) : V 256 128 .bf16) (blk r (dal A) : V 256 256 .bf16) (z0 S128x256)
    = (blk 0 (dwgT A r) : V 128 256 .f32) := by
  refine ext2 fun p q => ?_
  pointwise [blk_apply]
  simp only [coe_mul', coe_sum, zero_add]
  rw [dwgT, Fin.sum_univ_eq_sum_range (fun t => z A (r + t) p * dal A (r + t) q)]
theorem f_dbg (h1) (h2 : (0x00000000#32 : BitVec 32) = 0x00000000#32) : shapeCast S1x256 (multiReduction .add (@List.cons (Fin 2) (0 : Fin S256x256.rank) (@List.nil (Fin 2))) S256 (blk r (dal A) : V 256 256 .f32) 0x00000000#32 reduces_S256x256_S256 h1 h2)
    shapeCasts_S256_S1x256 = (row (dbgT A r) : V 1 256 .f32) := by
  refine ext2 fun p q => ?_
  pointwise [blk_apply, row_apply]
  simp only [coe_sum]
  rw [dbgT, Fin.sum_univ_eq_sum_range (fun t => dal A (r + t) q)]

/-! ### Reads of what several stores have left -/

theorem canon2 {Val : EltTy → Type} [∀ e, Nonempty (Val e)] {e : EltTy} {n m h w a c : ℕ} (inb) (x : (⟨2, ![h, w]⟩ : Shape).Idx → Val e)
    (L : List (View.Piece Val ⟨2, ![n, m]⟩ e)) (y0 : Fin n) (y1 : Fin m) :
    View.canon ((⟨Rect.unit (s := ⟨2, ![n, m]⟩) ![a, c] ![h, w] inb, x⟩ : View.Piece Val ⟨2, ![n, m]⟩ e) :: L) (ix2 y0 y1)
      = if hh : (a ≤ (y0 : ℕ) ∧ (y0 : ℕ) < a + h) ∧ c ≤ (y1 : ℕ) ∧ (y1 : ℕ) < c + w then x (ix2 ⟨y0 - a, by omega⟩ ⟨y1 - c, by omega⟩)
        else View.canon L (ix2 y0 y1) := by
  split
  · rename_i hh
    have e : (Rect.unit (s := ⟨2, ![n, m]⟩) ![a, c] ![h, w] inb).emb (ix2 ⟨y0 - a, by omega⟩ ⟨y1 - c, by omega⟩) = ix2 y0 y1 := by
      funext i
      match i with
      | ⟨0, _⟩ => exact Fin.ext (show a + 1 * (y0 - a) = (y0 : ℕ) by omega)
      | ⟨1, _⟩ => exact Fin.ext (show c + 1 * (y1 - c) = (y1 : ℕ) by omega)
    rw [← e]; exact View.canon_cons_emb _ _ _ _
  · rename_i hh
    refine View.canon_cons_of_not_mem _ _ fun hm => hh ?_
    have hm : ix2 y0 y1 ∈ (Rect.unit (s := ⟨2, ![n, m]⟩) ![a, c] ![h, w] inb).set := hm
    rw [Rect.mem_set_unit] at hm
    exact ⟨hm 0, hm 1⟩

theorem read4W {h h' o a : ℕ} {κ : Kind} {sp : Space} (w : View sig κ sp ⟨2, ![512, 512]⟩ .f32) (i0 i1 i2 i3 i4)
    (L : List (View.Piece (Elt Ideal) ⟨2, ![512, 512]⟩ .f32)) (ho : a ≤ o) (hh : o + h' ≤ a + h) :
    w.readCov (Val := Elt Ideal) (⟨Rect.unit (s := ⟨2, ![512, 512]⟩) ![a, 384] ![h, 128] i0, (blk r (hd 384 f) : V h 128 .f32)⟩
      :: ⟨Rect.unit (s := ⟨2, ![512, 512]⟩) ![a, 256] ![h, 128] i1, (blk r (hd 256 f) : V h 128 .f32)⟩
      :: ⟨Rect.unit (s := ⟨2, ![512, 512]⟩) ![a, 128] ![h, 128] i2, (blk r (hd 128 f) : V h 128 .f32)⟩
      :: ⟨Rect.unit (s := ⟨2, ![512, 512]⟩) ![a, 0] ![h, 128] i3, (blk r (hd 0 f) : V h 128 .f32)⟩ :: L)
      (Rect.unit (s := ⟨2, ![512, 512]⟩) ![o, 0] ![h', 512] i4).toLoadRect = (blk (r + (o - a)) f : V h' 512 .f32) := by
  rw [View.readCov_eq_canon']
  refine ext2 fun p q => ?_
  have hb : o + h' ≤ 512 := i4 0
  have e : (Rect.unit (s := ⟨2, ![512, 512]⟩) ![o, 0] ![h', 512] i4).toLoadRect.idx (ix2 p q) = ix2 ⟨o + p, by omega⟩ q := by
    funext i
    match i with
    | ⟨0, _⟩ => exact Fin.ext (show o + 1 * p = o + (p : ℕ) by omega)
    | ⟨1, _⟩ => exact Fin.ext (show 0 + 1 * q = (q : ℕ) by omega)
  show View.canon _ ((Rect.unit (s := ⟨2, ![512, 512]⟩) ![o, 0] ![h', 512] i4).toLoadRect.idx (ix2 p q)) = _
  rw [e, canon2, canon2, canon2, canon2]
  have key : ∀ c : ℕ, c ≤ q → (blk r (hd c f) : V h 128 .f32) = blk r (hd c f) →
      ((f (r + (o + p - a)) (c + (q - c)) : ℝ) : EReal) = ((f (r + (o - a) + p) q : ℝ) : EReal) := fun c hc _ => by
    rw [show r + (o + (p : ℕ) - a) = r + (o - a) + p by omega, show c + ((q : ℕ) - c) = q by omega]
  split_ifs with h0 h1 h2 h3
  · exact key 384 (by simp at h0; omega) rfl
  · exact key 256 (by simp at h1; omega) rfl
  · exact key 128 (by simp at h2; omega) rfl
  · exact key 0 (by omega) rfl
  · exfalso; simp only [not_and, not_lt] at h0 h1 h2 h3; have := p.isLt; have := q.isLt; simp at *; omega
theorem read4H {h h' o c a : ℕ} {κ : Kind} {sp : Space} (w : View sig κ sp ⟨2, ![512, 512]⟩ .f32) (i0 i1 i2 i3 i4)
    (L : List (View.Piece (Elt Ideal) ⟨2, ![512, 512]⟩ .f32)) (ho : a ≤ o) (hh : o + h' ≤ a + h) :
    w.readCov (Val := Elt Ideal) (⟨Rect.unit (s := ⟨2, ![512, 512]⟩) ![a, 384] ![h, 128] i0, (blk r (hd 384 f) : V h 128 .f32)⟩
      :: ⟨Rect.unit (s := ⟨2, ![512, 512]⟩) ![a, 256] ![h, 128] i1, (blk r (hd 256 f) : V h 128 .f32)⟩
      :: ⟨Rect.unit (s := ⟨2, ![512, 512]⟩) ![a, 128] ![h, 128] i2, (blk r (hd 128 f) : V h 128 .f32)⟩
      :: ⟨Rect.unit (s := ⟨2, ![512, 512]⟩) ![a, 0] ![h, 128] i3, (blk r (hd 0 f) : V h 128 .f32)⟩ :: L)
      (Rect.unit (s := ⟨2, ![512, 512]⟩) ![o, c] ![h', 128] i4).toLoadRect = (blk (r + (o - a)) (hd c f) : V h' 128 .f32) := by
  rw [View.readCov_eq_canon']
  refine ext2 fun p q => ?_
  have hb : o + h' ≤ 512 := i4 0
  have hc : c + 128 ≤ 512 := i4 1
  have e : (Rect.unit (s := ⟨2, ![512, 512]⟩) ![o, c] ![h', 128] i4).toLoadRect.idx (ix2 p q) = ix2 ⟨o + p, by omega⟩ ⟨c + q, by omega⟩ := by
    funext i
    match i with
    | ⟨0, _⟩ => exact Fin.ext (show o + 1 * p = o + (p : ℕ) by omega)
    | ⟨1, _⟩ => exact Fin.ext (show c + 1 * q = c + (q : ℕ) by omega)
  show View.canon _ ((Rect.unit (s := ⟨2, ![512, 512]⟩) ![o, c] ![h', 128] i4).toLoadRect.idx (ix2 p q)) = _
  rw [e, canon2, canon2, canon2, canon2]
  have key : ∀ b : ℕ, b ≤ c + q → (blk r (hd b f) : V h 128 .f32) = blk r (hd b f) →
      ((f (r + (o + p - a)) (b + (c + q - b)) : ℝ) : EReal) = ((f (r + (o - a) + p) (c + q) : ℝ) : EReal) := fun b hb _ => by
    rw [show r + (o + (p : ℕ) - a) = r + (o - a) + p by omega, show b + (c + (q : ℕ) - b) = c + q by omega]
  split_ifs with h0 h1 h2 h3
  · exact key 384 (by simp at h0; omega) rfl
  · exact key 256 (by simp at h1; omega) rfl
  · exact key 128 (by simp at h2; omega) rfl
  · exact key 0 (by omega) rfl
  · exfalso; simp only [not_and, not_lt] at h0 h1 h2 h3; have := p.isLt; have := q.isLt; simp at *; omega

/-- Eight states of the recurrence, 64 positions apart from `r` on. -/
def stk (A : Args) (r : ℕ) : FVec Ideal ⟨3, ![8, 512, 256]⟩ .bf16 := fun i => ((St A (r + 64 * (i 0).val) (i 1).val (i 2).val : ℝ) : EReal)
theorem ld_stk (A : Args) (r j : ℕ) (inb) : shapeCast (s := S1x512x256) S512x256 (View.ld (Val := Elt Ideal) (e' := .bf16) (stk A r)
      (Rect.unit (s := S8x512x256) ![j, 0, 0] ![1, 512, 256] inb)) shapeCasts_S1x512x256_S512x256 = (blk 0 (St A (r + 64 * j)) : V 512 256 .bf16) := by
  refine ext2 fun p q => ?_
  refine (shapeCast_dropUnit_apply ![512, 256] _ _ _).trans ?_
  show ((St A (r + 64 * (j + 1 * 0)) (0 + 1 * p) (0 + 1 * q) : ℝ) : EReal) = ((St A (r + 64 * j) (0 + p) q : ℝ) : EReal)
  simp only [mul_zero, add_zero, zero_add, one_mul]

end Cert.GlaPure

end
end
-- ==== Proof.GlaRefPure.lean ====
/- The reference of the attention's backward step, operation by operation over the reals. -/
module
public import proofs.«01_k».proof.Proof.GlaPure
public import proofs.«01_k».proof.Proof.Gen.GlaRefIdeal.Read
@[expose] public section
set_option maxRecDepth 16384

noncomputable section

namespace Cert.GlaRefPure

open Cert.GlaRefIdeal Cert.GlaRefIdeal.Gen Cert.GlaRefIdeal.Read Cert.GlaMath Cert.Reals Finset
open Idealize.ShloMosaic Idealize.ShloMosaic.TcCoe Idealize.SL.Sem

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The positions of a window along the first axis alone. -/
def winE (n : ℕ) : (⟨3, ![n, 1, 1]⟩ : Shape).Idx ≃ Fin n where
  toFun i := i 0
  invFun k := ix3 k 0 0
  left_inv i := by funext a; match a with
    | ⟨0, _⟩ => rfl
    | ⟨1, _⟩ => exact Subsingleton.elim (α := Fin 1) _ _
    | ⟨2, _⟩ => exact Subsingleton.elim (α := Fin 1) _ _
  right_inv k := rfl

theorem windowAdd (l hi : ℕ) (h : (S16384x4x64).ReduceWindows ![16384, 1, 1] ![1, 1, 1] ![l, 0, 0] ![hi, 0, 0] S16384x4x64)
    (x : FVec Ideal S16384x4x64 .f32) (t : Fin 16384) (a : Fin 4) (d : Fin 64) :
    Ideal.hostReduceWindowAdd ![16384, 1, 1] ![1, 1, 1] ![l, 0, 0] ![hi, 0, 0] h x 0 (ix3 t a d)
      = ∑ k : Fin 16384, if hk : l ≤ t.val + k.val ∧ t.val + k.val - l < 16384 then x (ix3 ⟨t.val + k.val - l, hk.2⟩ a d) else 0 := by
  have key : ∀ (i : (⟨3, ![16384, 1, 1]⟩ : Shape).Idx)
      (D : Decidable (∀ b : Fin 3, (![l, 0, 0] : Fin 3 → ℕ) b ≤ (ix3 t a d b).val * (![1, 1, 1] : Fin 3 → ℕ) b + (i b).val
          ∧ (ix3 t a d b).val * (![1, 1, 1] : Fin 3 → ℕ) b + (i b).val - (![l, 0, 0] : Fin 3 → ℕ) b < (![16384, 4, 64] : Fin 3 → ℕ) b)),
      (@dite EReal _ D (fun hin => x (fun b => ⟨(ix3 t a d b).val * (![1, 1, 1] : Fin 3 → ℕ) b + (i b).val - (![l, 0, 0] : Fin 3 → ℕ) b, (hin b).2⟩))
        fun _ => 0)
      = if hk : l ≤ t.val + (i 0).val ∧ t.val + (i 0).val - l < 16384 then x (ix3 ⟨t.val + (i 0).val - l, hk.2⟩ a d) else 0 := by
    intro i D
    have h1 : (i 1).val = 0 := by have := (i 1).isLt; exact Nat.lt_one_iff.mp this
    have h2 : (i 2).val = 0 := by have := (i 2).isLt; exact Nat.lt_one_iff.mp this
    have ha := a.isLt
    have hd := d.isLt
    by_cases hk : l ≤ t.val + (i 0).val ∧ t.val + (i 0).val - l < 16384
    · have hall : ∀ b : Fin 3, (![l, 0, 0] : Fin 3 → ℕ) b ≤ (ix3 t a d b).val * (![1, 1, 1] : Fin 3 → ℕ) b + (i b).val
          ∧ (ix3 t a d b).val * (![1, 1, 1] : Fin 3 → ℕ) b + (i b).val - (![l, 0, 0] : Fin 3 → ℕ) b < (![16384, 4, 64] : Fin 3 → ℕ) b := by
        intro b
        match b with
        | ⟨0, _⟩ => exact ⟨by show l ≤ t.val * 1 + (i 0).val; omega, by show t.val * 1 + (i 0).val - l < 16384; omega⟩
        | ⟨1, _⟩ => exact ⟨Nat.zero_le _, by show a.val * 1 + (i 1).val - 0 < 4; omega⟩
        | ⟨2, _⟩ => exact ⟨Nat.zero_le _, by show d.val * 1 + (i 2).val - 0 < 64; omega⟩
      rw [dif_pos hk]
      refine (dif_pos hall).trans (congrArg x ?_)
      funext b; apply Fin.ext
      match b with
      | ⟨0, _⟩ => show t.val * 1 + (i 0).val - l = t.val + (i 0).val - l; omega
      | ⟨1, _⟩ => show a.val * 1 + (i 1).val - 0 = a.val; omega
      | ⟨2, _⟩ => show d.val * 1 + (i 2).val - 0 = d.val; omega
    · rw [dif_neg hk]
      refine dif_neg fun hall => hk ?_
      have h0 := hall 0
      have e1 : l ≤ t.val * 1 + (i 0).val := h0.1
      have e2 : t.val * 1 + (i 0).val - l < 16384 := h0.2
      exact ⟨by omega, by omega⟩
  unfold Ideal.hostReduceWindowAdd Host.reduceWindow
  dsimp only
  rw [foldl_add, zero_add, ← List.ofFn_eq_map, List.sum_ofFn]
  refine Fintype.sum_equiv ((Shape.rowMajor ⟨3, ![16384, 1, 1]⟩).symm.trans (winE 16384)) _ _ fun n => key ((Shape.rowMajor ⟨3, ![16384, 1, 1]⟩).symm n) _

/-- The running sum along the first axis, up to and with each position. -/
theorem cumsum {h : (S16384x4x64).ReduceWindows ![16384, 1, 1] ![1, 1, 1] ![16383, 0, 0] ![0, 0, 0] S16384x4x64}
    {x : FVec Ideal S16384x4x64 .f32} (f : ℕ → ℝ) (t : Fin 16384) (a : Fin 4) (d : Fin 64) (hx : ∀ s : Fin 16384, x (ix3 s a d) = ((f s : ℝ) : EReal)) :
    Ideal.hostReduceWindowAdd ![16384, 1, 1] ![1, 1, 1] ![16383, 0, 0] ![0, 0, 0] h x 0 (ix3 t a d) = ((∑ s ∈ range (t + 1), f s : ℝ) : EReal) := by
  rw [windowAdd]
  have e : ∀ k : Fin 16384, (if hk : 16383 ≤ t.val + k.val ∧ t.val + k.val - 16383 < 16384 then x (ix3 ⟨t.val + k.val - 16383, hk.2⟩ a d) else 0)
      = ((if 16383 ≤ t.val + k.val then f (t.val + k.val - 16383) else 0 : ℝ) : EReal) := by
    intro k
    by_cases hk : 16383 ≤ t.val + k.val
    · rw [dif_pos ⟨hk, by omega⟩, if_pos hk, hx]
    · rw [dif_neg (fun h => hk h.1), if_neg hk]; rfl
  simp only [e]
  rw [coe_sum]
  refine GlaPure.coe_congr ?_
  rw [Fin.sum_univ_eq_sum_range (fun k => if 16383 ≤ t.val + k then f (t.val + k - 16383) else 0), ← sum_filter]
  refine sum_bij' (fun k _ => t.val + k - 16383) (fun s _ => s + 16383 - t.val) ?_ ?_ ?_ ?_ ?_ <;>
    intro k hk <;> simp only [mem_filter, mem_range] at * <;> first | omega | rfl

/-- The running sum from each position on. -/
theorem revcumsum {h : (S16384x4x64).ReduceWindows ![16384, 1, 1] ![1, 1, 1] ![0, 0, 0] ![16383, 0, 0] S16384x4x64}
    {x : FVec Ideal S16384x4x64 .f32} (f : ℕ → ℝ) (t : Fin 16384) (a : Fin 4) (d : Fin 64) (hx : ∀ s : Fin 16384, x (ix3 s a d) = ((f s : ℝ) : EReal)) :
    Ideal.hostReduceWindowAdd ![16384, 1, 1] ![1, 1, 1] ![0, 0, 0] ![16383, 0, 0] h x 0 (ix3 t a d) = ((∑ s ∈ Ico (t : ℕ) 16384, f s : ℝ) : EReal) := by
  rw [windowAdd]
  have e : ∀ k : Fin 16384, (if hk : 0 ≤ t.val + k.val ∧ t.val + k.val - 0 < 16384 then x (ix3 ⟨t.val + k.val - 0, hk.2⟩ a d) else 0)
      = ((if t.val + k.val < 16384 then f (t.val + k.val) else 0 : ℝ) : EReal) := by
    intro k
    by_cases hk : t.val + k.val < 16384
    · rw [dif_pos ⟨Nat.zero_le _, by omega⟩, if_pos hk, hx]; rfl
    · rw [dif_neg (fun h => hk h.2), if_neg hk]; rfl
  simp only [e]
  rw [coe_sum]
  refine GlaPure.coe_congr ?_
  rw [Fin.sum_univ_eq_sum_range (fun k => if t.val + k < 16384 then f (t.val + k) else 0), ← sum_filter]
  refine sum_bij' (fun k _ => t.val + k) (fun s _ => s - t.val) ?_ ?_ ?_ ?_ ?_ <;>
    intro k hk <;> simp only [mem_filter, mem_range, mem_Ico] at * <;> first | omega | rfl

/-- A sum over the first two axes. -/
theorem reduce01 {n0 n1 n2 : ℕ} (h : (⟨3, ![n0, n1, n2]⟩ : Shape).ReducesTo [0, 1] ⟨1, ![n2]⟩)
    (x : (⟨3, ![n0, n1, n2]⟩ : Shape).Idx → EReal) (b : EReal) (j : Fin n2) :
    Ideal.hostReduceAdd h x b (ix1 j) = b + ∑ t : Fin n0, ∑ a : Fin n1, x (ix3 t a j) := by
  unfold Ideal.hostReduceAdd
  refine congrArg (b + ·) ?_
  rw [← Fintype.sum_prod_type' (fun t a => x (ix3 t a j))]
  refine (sum_bij (fun (p : Fin n0 × Fin n1) _ => ix3 p.1 p.2 j) ?_ ?_ ?_ ?_).symm
  · intro p _
    simp only [mem_filter, mem_univ, true_and]
    funext b; apply Fin.ext
    match b with
    | ⟨0, _⟩ => rfl
  · intro p _ q _ e
    exact Prod.ext (congrFun e 0) (congrFun e 1)
  · intro i hi
    simp only [mem_filter, mem_univ, true_and] at hi
    refine ⟨(i 0, i 1), mem_univ _, ?_⟩
    funext b; apply Fin.ext
    match b with
    | ⟨0, _⟩ => rfl
    | ⟨1, _⟩ => rfl
    | ⟨2, _⟩ => exact (congrArg Fin.val (congrFun hi 0)).symm
  · intro p _; rfl

/-- The softplus and its derivative. -/
theorem softplus (x : ℝ) : max x 0 + Real.log (1 + Real.exp (-|x|)) = Real.log (1 + Real.exp x) := by
  rcases le_total 0 x with h | h
  · rw [max_eq_left h, abs_of_nonneg h]
    have e : 1 + Real.exp x = Real.exp x * (1 + Real.exp (-x)) := by rw [mul_add, ← Real.exp_add]; simp; ring
    rw [e, Real.log_mul (Real.exp_pos _).ne' (by positivity), Real.log_exp]
  · rw [max_eq_right h, abs_of_nonpos h, neg_neg, zero_add]
theorem exp_softplus (x : ℝ) : Real.exp (x - (max x 0 + Real.log (1 + Real.exp (-|x|)))) = GlaMath.sig x := by
  rw [softplus, Real.exp_sub, Real.exp_log (by positivity), GlaMath.sig, Real.exp_neg]
  have := Real.exp_pos x
  field_simp
  ring

theorem ofBits_16 : Ideal.ofBits .f32 0x41800000#32 = ((16 : ℝ) : EReal) := by
  simp [Ideal.ofBits, Ideal.ieee, -EReal.coe_mul]; norm_num
theorem ofBits_bot : Ideal.ofBits .f32 0xFF800000#32 = (⊥ : EReal) := by
  simp [Ideal.ofBits, Ideal.ieee]
theorem sum_rank (A : Args) (t k : ℕ) : ∑ r : Fin 16, z A t r * A.w r k = ∑ r ∈ range 128, z A t r * wz A r k := by
  rw [Fin.sum_univ_eq_sum_range (fun r => z A t r * A.w r k)]
  have e : ∑ r ∈ range 16, z A t r * wz A r k = ∑ r ∈ range 128, z A t r * wz A r k :=
    sum_subset (fun x hx => by simp only [mem_range] at *; omega) fun r _ hr => by rw [z, if_neg (by simpa using hr), zero_mul]
  rw [← e]
  refine sum_congr rfl fun r hr => ?_
  rw [wz, if_pos (mem_range.1 hr)]
theorem la_eq (A : Args) (t k : ℕ) : la A t k = -Real.log (1 + Real.exp (-al A t k)) / 16 := by
  have h := softplus (-al A t k)
  rw [abs_neg] at h
  rw [← h, la, show max (-al A t k) 0 = - min (al A t k) 0 from by rw [← neg_zero, max_neg_neg]; simp]
  ring
theorem toInt_pos {a : ℕ} (ha : a < 16384) : (BitVec.ofNat 32 a).toInt = a := by
  rw [BitVec.toInt_ofNat', Int.bmod_eq_of_le] <;> omega
theorem absf_coe (a : ℝ) : FloatOps.absf (F := Ideal) (φ := .f32) ((a : ℝ) : EReal) = ((|a| : ℝ) : EReal) := GlaPure.coe_abs a
theorem sum_le_ite (t : Fin 16384) (f : ℕ → ℝ) : ∑ s : Fin 16384, (if s ≤ t then f s else 0) = ∑ s ∈ range (t + 1), f s := by
  simp only [Fin.le_def]
  rw [Fin.sum_univ_eq_sum_range (fun s => if s ≤ t.val then f s else 0), ← sum_filter]
  refine sum_congr ?_ fun _ _ => rfl
  ext i; simp only [mem_filter, mem_range]; omega
theorem sum_ge_ite (t : Fin 16384) (f : ℕ → ℝ) : ∑ s : Fin 16384, (if t ≤ s then f s else 0) = ∑ s ∈ Ico (t : ℕ) 16384, f s := by
  simp only [Fin.le_def]
  rw [Fin.sum_univ_eq_sum_range (fun s => if t.val ≤ s then f s else 0), ← sum_filter]
  refine sum_congr ?_ fun _ _ => rfl
  ext i; simp only [mem_filter, mem_range, mem_Ico]; omega
/-- The score's head is its column's. -/
theorem U_head (A : Args) (t s : ℕ) (h j : ℕ) (hj : j < 128) : U A t s (h * 128 + j) = U A t s (h * 128) := by
  unfold U; rw [show (h * 128 + j) / 128 = h * 128 / 128 from by omega]
theorem tril_ite (t s : Fin 16384) :
    Scalar.select (IntOp.cmpi CmpIPredicate.sge (IntOp.addi (BitVec.ofNat 32 t) 0#32) (BitVec.ofNat 32 s)) 1#1 0#1 = if s ≤ t then 1#1 else 0#1 := by
  rw [show IntOp.addi (BitVec.ofNat 32 t) 0#32 = BitVec.ofNat 32 t from BitVec.add_zero _]
  by_cases h : s ≤ t <;> simp [IntOp.cmpi, BitVec.sle, toInt_pos t.isLt, toInt_pos s.isLt, h, Scalar.select]
theorem ms_pos' (A : Args) (b t : ℕ) : 0 < (∑ j ∈ range 128, o A t (b + j) * o A t (b + j)) / 128 + eps :=
  add_pos_of_nonneg_of_pos (div_nonneg (sum_nonneg fun k _ => mul_self_nonneg _) (by norm_num)) eps_pos
theorem rr_sq (A : Args) (b t : ℕ) : rr A b t * rr A b t = ((∑ j ∈ range 128, o A t (b + j) * o A t (b + j)) / 128 + eps)⁻¹ := by
  unfold rr; rw [← mul_inv, Real.mul_self_sqrt (ms_pos' A b t).le]
theorem W_head (A : Args) (t s h d : ℕ) (hd : d < 64) : W A t s (h * 64 + d) = Wh A (h * 128) t s := by
  unfold W; rw [show 128 * ((h * 64 + d) / 64) = h * 128 from by omega]
theorem sit_zero : (FloatOps.sitofp (F := Ideal) FTy.f32 0#32 : EReal) = ((0 : ℝ) : EReal) := by
  show (((0#32).toInt : ℝ) : EReal) = _
  simp
theorem head_base (h : ℕ) {j : ℕ} (hj : j < 128) : (h * 128 + j) / 128 * 128 = h * 128 := by omega
theorem head_col (h : ℕ) {j : ℕ} (hj : j < 128) : (h * 128 + j) % 128 = j := by omega

variable (A : Args)
/-- The argument arrays hold the reals `A`. -/
structure Holds (x0 : FVec Ideal S16384x2576 .f32) (x1 : FVec Ideal S1x16x256 .f32) (x2 : FVec Ideal S1x256 .f32)
    (x3 : FVec Ideal S1x128 .f32) (x4 : FVec Ideal S16384x1024 .f32) : Prop where
  p : ∀ (t : Fin 16384) (j : Fin 2576), x0 (ix2 t j) = ((A.p t j : ℝ) : EReal)
  w : ∀ (r : Fin 16) (k : Fin 256), x1 (ix3 0 r k) = ((A.w r k : ℝ) : EReal)
  bg : ∀ k : Fin 256, x2 (ix2 0 k) = ((A.bg k : ℝ) : EReal)
  gn : ∀ j : Fin 128, x3 (ix2 0 j) = ((A.gn j : ℝ) : EReal)
  dm : ∀ (t : Fin 16384) (j : Fin 1024), x4 (ix2 t j) = ((A.dm t j : ℝ) : EReal)
variable {A} {x0 : FVec Ideal S16384x2576 .f32} {x1 : FVec Ideal S1x16x256 .f32} {x2 : FVec Ideal S1x256 .f32}
  {x3 : FVec Ideal S1x128 .f32} {x4 : FVec Ideal S16384x1024 .f32} (H : Holds A x0 x1 x2 x3 x4)

/-! ### The forward values -/

section
include H

theorem v7 (t : Fin 16384) (h : Fin 4) (d : Fin 64) : val_main_v7 (F := Ideal) x0 (ix3 t h d) = ((q A t (h * 64 + d) : ℝ) : EReal) := by
  pointwise [val_main_v7, val_main_v5, val_main_v4, val_main_v0, val_main_v6, val_main_cst, H.p]
  rw [GlaPure.ofBits_eighth, coe_mul']; rfl
theorem v9 (t : Fin 16384) (h : Fin 4) (d : Fin 64) : val_main_v9 (F := Ideal) x0 (ix3 t h d) = ((K A t (h * 64 + d) : ℝ) : EReal) := by
  pointwise [val_main_v9, val_main_v8, val_main_v0, H.p]
  rfl
theorem v11 (t : Fin 16384) (h : Fin 4) (j : Fin 128) : val_main_v11 (F := Ideal) x0 (ix3 t h j) = ((v A t (h * 128 + j) : ℝ) : EReal) := by
  pointwise [val_main_v11, val_main_v10, val_main_v0, H.p]
  rfl
theorem v12 (t : Fin 16384) (r : Fin 16) : val_main_v12 (F := Ideal) x0 (ix2 t r) = ((z A t r : ℝ) : EReal) := by
  pointwise [val_main_v12, val_main_v0, H.p]
  rw [z, if_pos r.isLt]
theorem v16 (t : Fin 16384) (k : Fin 256) : val_main_v16 (F := Ideal) x0 x1 x2 (ix2 t k) = ((al A t k : ℝ) : EReal) := by
  pointwise [val_main_v16, val_main_v13, val_main_v15, val_main_v14, val_main_v1, val_main_v2, v12 H, H.w, H.bg]
  simp only [coe_mul', coe_sum, coe_add']
  refine GlaPure.coe_congr ?_
  rw [al, ← sum_rank]
theorem v17 (t : Fin 16384) (k : Fin 256) : val_main_call0_v1_0 (F := Ideal) x0 x1 x2 (ix2 t k) = ((Real.log (1 + Real.exp (-al A t k)) : ℝ) : EReal) := by
  pointwise [val_main_call0_v1_0, val_main_call0_call0_v4, val_main_call0_call0_v11, val_main_call0_call0_v10, val_main_call0_call0_v9, val_main_call0_call0_v8,
    val_main_call0_call0_v7, val_main_call0_call0_v6, val_main_call0_call0_v5, val_main_call0_call0_v3, val_main_call0_call0_v2, val_main_call0_call0_v1, val_main_call0_call0_v0,
    val_main_call0_v0, val_main_call0_call0_cst, v16 H]
  rw [if_neg (by simp), coe_neg', absf_coe, coe_neg', Ideal.exp_coe, Ideal.log1p, GlaPure.one_add_coe,
    GlaPure.coe_log (by have := Real.exp_pos (-|-al A t k|); linarith), zero_coe, coe_max', coe_add', softplus]
theorem v19 (t : Fin 16384) (k : Fin 256) : val_main_v19 (F := Ideal) x0 x1 x2 (ix2 t k) = ((la A t k : ℝ) : EReal) := by
  pointwise [val_main_v19, val_main_v18, val_main_cst_0, val_main_v17_0, v17 H]
  rw [ofBits_16, coe_neg', coe_div' _ (by norm_num), la_eq]
theorem v20 (t : Fin 16384) (h : Fin 4) (d : Fin 64) : val_main_v20 (F := Ideal) x0 x1 x2 (ix3 t h d) = ((la A t (h * 64 + d) : ℝ) : EReal) := by
  pointwise [val_main_v20, v19 H]
theorem v21 (t : Fin 16384) (h : Fin 4) (d : Fin 64) : val_main_v21 (F := Ideal) x0 x1 x2 (ix3 t h d) = ((P A (h * 64 + d) (t + 1) : ℝ) : EReal) := by
  unfold val_main_v21 Host.reduceWindowAdd
  rw [Ideal.hostReduceWindowAdd_def, show val_main_call1_call0_v0 (F := Ideal) (Shape.Idx.first h_S_) = (0 : EReal) from by
    pointwise [val_main_call1_call0_v0, val_main_call1_call0_cst]]
  exact cumsum (fun s => la A s (h * 64 + d)) t h d fun s => v20 H s h d
end
theorem v30_1 (t s : Fin 16384) (h : Fin 4) (d : Fin 64) : val_main_v30_1 (F := Ideal) (ix4 t s h d) = if s ≤ t then 1#1 else 0#1 := by
  pointwise [val_main_v30_1, val_main_v24, val_main_v23, val_main_call2_v4, val_main_call2_v2, val_main_call2_v3, val_main_call2_v0, val_main_call2_v1,
    val_main_call2_v5, val_main_v22, val_main_c, val_main_call2_c, val_main_call2_c_0]
  exact tril_ite t s
section
include H
theorem v31 (t s : Fin 16384) (h : Fin 4) (d : Fin 64) :
    val_main_v31 (F := Ideal) x0 x1 x2 (ix4 t s h d) = ((if s ≤ t then dec A (h * 64 + d) t s else 0 : ℝ) : EReal) := by
  pointwise [val_main_v31, val_main_v30_0, val_main_v29, val_main_v28, val_main_v27, val_main_v26, val_main_v25, v30_1, v21 H, val_main_call3_v2,
    val_main_call3_v0, val_main_cst_1]
  rw [GlaPure.sel_ite, show (id (constant S_ FTy.f32 4286578688#32) ix0 : Ideal .f32) = (⊥ : EReal) from ofBits_bot, coe_sub']
  by_cases hs : s ≤ t
  · rw [if_pos hs, if_pos hs, Ideal.exp_coe]; rfl
  · rw [if_neg hs, if_neg hs]; exact Ideal.exp_bot
theorem v36 (t s : Fin 16384) (h : Fin 4) (d : Fin 64) :
    val_main_v36 (F := Ideal) x0 (ix4 t s h d) = ((q A t (h * 64 + d) * K A s (h * 64 + d) : ℝ) : EReal) := by
  pointwise [val_main_v36, val_main_v35, val_main_v34, val_main_v33, val_main_v32, v7 H, v9 H]
  rw [coe_mul']
theorem v38 (t s : Fin 16384) (h : Fin 4) :
    val_main_v38 (F := Ideal) x0 x1 x2 (ix3 t s h) = ((if s ≤ t then U A t s (h * 128) else 0 : ℝ) : EReal) := by
  pointwise [val_main_v38, val_main_v37, val_main_cst_2, v36 H, v31 H]
  simp only [coe_mul', coe_sum]
  refine GlaPure.coe_congr ?_
  by_cases hs : s ≤ t
  · simp only [if_pos hs]
    rw [U, Fin.sum_univ_eq_sum_range (fun d => q A t (h * 64 + d) * K A s (h * 64 + d) * dec A (h * 64 + d) t s), Nat.mul_div_cancel _ (by norm_num), mul_comm 64]
  · simp [if_neg hs]
theorem v40 (t : Fin 16384) (h : Fin 4) (j : Fin 128) :
    val_main_v40 (F := Ideal) x0 x1 x2 (ix3 t h j) = ((o A t (h * 128 + j) : ℝ) : EReal) := by
  pointwise [val_main_v40, val_main_v39, v11 H, v38 H]
  simp only [coe_mul', coe_sum]
  refine GlaPure.coe_congr ?_
  simp only [mul_ite, mul_zero]
  rw [sum_le_ite t (fun s => v A s (h * 128 + j) * U A t s (h * 128)), o]
  exact sum_congr rfl fun s _ => by rw [U_head A t s h j j.isLt, mul_comm]

/-! ### The norm and the gate -/

theorem v47 (t : Fin 16384) (h : Fin 4) (u : Fin 1) : val_main_v47 (F := Ideal) x0 x1 x2 (ix3 t h u)
    = (((∑ j ∈ range 128, o A t (h * 128 + j) * o A t (h * 128 + j)) / 128 + eps : ℝ) : EReal) := by
  pointwise [val_main_v47, val_main_v46, val_main_v45, val_main_v44, val_main_v43, val_main_v42, val_main_v41, val_main_cst_3, val_main_cst_4,
    val_main_cst_5, v40 H]
  simp only [coe_mul', coe_sum, GlaPure.ofBits_128, ofBits_eps]
  rw [coe_div' _ (by norm_num), coe_add', Fin.sum_univ_eq_sum_range (fun j => o A t (h * 128 + j) * o A t (h * 128 + j))]
theorem v48 (t : Fin 16384) (h : Fin 4) (u : Fin 1) : val_main_v48 (F := Ideal) x0 x1 x2 (ix3 t h u) = ((rr A (h * 128) t : ℝ) : EReal) := by
  pointwise [val_main_v48, v47 H]
  rw [coe_rsqrt (ms_pos' A _ t)]; rfl
theorem v51 (t : Fin 16384) (h : Fin 4) (u : Fin 1) : val_main_v51 (F := Ideal) x0 x1 x2 (ix3 t h u)
    = ((-(1 / 2) * (rr A (h * 128) t * (rr A (h * 128) t * rr A (h * 128) t)) : ℝ) : EReal) := by
  pointwise [val_main_v51, val_main_v50, val_main_v49, val_main_cst_6, v47 H, v48 H]
  rw [coe_div' _ (ms_pos' A _ t).ne', ofBits_neg_half, coe_mul', rr_sq]
  norm_num [div_eq_mul_inv]
theorem v53 (t : Fin 16384) (h : Fin 4) (j : Fin 128) : val_main_v53 (F := Ideal) x0 x1 x2 (ix3 t h j) = ((oh A t (h * 128 + j) : ℝ) : EReal) := by
  pointwise [val_main_v53, val_main_v52, v40 H, v48 H]
  rw [coe_mul', oh, head_base h j.isLt]
theorem v57 (t : Fin 16384) (j : Fin 512) : val_main_v57 (F := Ideal) x0 x1 x2 x3 (ix2 t j) = ((oh A t j * A.gn (j % 128) : ℝ) : EReal) := by
  pointwise [val_main_v57, val_main_v56, val_main_v55, val_main_v54, val_main_v3, v53 H, H.gn]
  rw [coe_mul', Nat.div_add_mod']
theorem v58 (t : Fin 16384) (j : Fin 512) : val_main_v58 (F := Ideal) x0 (ix2 t j) = ((g A t j : ℝ) : EReal) := by
  pointwise [val_main_v58, val_main_v0, H.p]
  rfl
theorem v59_2 (t : Fin 16384) (j : Fin 512) : val_main_v59_2 (F := Ideal) x0 (ix2 t j) = ((sg A t j : ℝ) : EReal) := by
  pointwise [val_main_v59_2, val_main_call4_v0, val_main_call4_v1, val_main_call4_v2, val_main_call4_v3, val_main_call4_v4, val_main_call4_cst, val_main_call4_cst_0, v58 H]
  rw [coe_neg', Ideal.exp_coe, GlaPure.one_add_coe, one_coe, coe_div' _ (by positivity), sg, GlaMath.sig, one_div]
theorem v59_1 (t : Fin 16384) (j : Fin 512) : val_main_v59_1 (F := Ideal) x0 (ix2 t j) = ((sg A t j * (1 - sg A t j) : ℝ) : EReal) := by
  pointwise [val_main_v59_1, val_main_call4_v7, val_main_call4_v6, val_main_call4_cst_1, v59_2 H]
  rw [GlaPure.one_sub_coe, coe_mul']
theorem v59_0 (t : Fin 16384) (j : Fin 512) : val_main_v59_0 (F := Ideal) x0 (ix2 t j) = ((g A t j * sg A t j : ℝ) : EReal) := by
  pointwise [val_main_v59_0, v58 H, v59_2 H]
  rw [coe_mul']
theorem v61 (t : Fin 16384) (j : Fin 512) : val_main_v61 (F := Ideal) x4 (ix2 t j) = ((A.dm t j : ℝ) : EReal) := by
  pointwise [val_main_v61, H.dm]
theorem v64 (t : Fin 16384) (j : Fin 512) : val_main_v64 (F := Ideal) x0 x1 x2 x3 x4 (ix2 t j) = ((dg A t j : ℝ) : EReal) := by
  pointwise [val_main_v64, val_main_call5_v1, val_main_call5_v2, val_main_call5_v0, val_main_v62, v57 H, v58 H, v59_1 H, v59_2 H, v61 H]
  simp only [coe_mul', coe_add']
  refine GlaPure.coe_congr ?_
  unfold dg; ring
theorem v66 (t : Fin 16384) (h : Fin 4) (j : Fin 128) : val_main_v66 (F := Ideal) x0 x4 (ix3 t h j) = ((don A t (h * 128 + j) : ℝ) : EReal) := by
  pointwise [val_main_v66, val_main_v63, v59_0 H, v61 H]
  rw [coe_mul']; rfl
theorem v72 (j : Fin 128) : val_main_v72 (F := Ideal) x0 x1 x2 x4 (ix1 j) = ((dgn A j : ℝ) : EReal) := by
  pointwise [val_main_v72, val_main_v69, val_main_v68, val_main_cst_8, val_main_cst_9]
  rw [reduce01]
  simp only [Fin.sum_univ_one, Fin.isValue]
  pointwise [Host.reduceAdd, Ideal.hostReduceAdd_def]
  rw [reduce01]
  pointwise [val_main_v67, v53 H, v66 H]
  simp only [coe_mul', coe_sum]
  rw [dgn, ← Fin.sum_univ_eq_sum_range (fun t => ∑ h ∈ range 4, don A t (128 * h + j) * oh A t (128 * h + j))]
  refine GlaPure.coe_congr (sum_congr rfl fun t _ => ?_)
  rw [← Fin.sum_univ_eq_sum_range (fun h => don A t (128 * h + j) * oh A t (128 * h + j))]
  exact sum_congr rfl fun h _ => by rw [mul_comm, mul_comm 128]
theorem v71 (t : Fin 16384) (h : Fin 4) (j : Fin 128) : val_main_v71 (F := Ideal) x0 x3 x4 (ix3 t h j) = ((don A t (h * 128 + j) * A.gn j : ℝ) : EReal) := by
  pointwise [val_main_v71, val_main_v70, val_main_v54, val_main_v3, v66 H, H.gn]
  rw [coe_mul']
theorem v81 (t : Fin 16384) (h : Fin 4) : val_main_v81 (F := Ideal) x0 x1 x2 x3 x4 (ix2 t h)
    = ((-(1 / 2) * (rr A (h * 128) t * (rr A (h * 128) t * rr A (h * 128) t))
        * (∑ l ∈ range 128, o A t (h * 128 + l) * (don A t (h * 128 + l) * A.gn l)) / 128 : ℝ) : EReal) := by
  pointwise [val_main_v81, val_main_v80, val_main_v79, val_main_v78, val_main_v75, val_main_v74, val_main_v73, val_main_cst_10, val_main_cst_11,
    val_main_cst_12, v40 H, v71 H]
  simp only [Fin.sum_univ_one]
  pointwise [v51 H]
  simp only [coe_mul', coe_sum, GlaPure.ofBits_128]
  rw [coe_div' _ (by norm_num), Fin.sum_univ_eq_sum_range (fun l => o A t (h * 128 + l) * (don A t (h * 128 + l) * A.gn l)), mul_comm]
theorem v86 (t : Fin 16384) (h : Fin 4) (j : Fin 128) : val_main_v86 (F := Ideal) x0 x1 x2 x3 x4 (ix3 t h j) = ((dO A t (h * 128 + j) : ℝ) : EReal) := by
  pointwise [val_main_v86, val_main_v85, val_main_v84, val_main_v83, val_main_v82, val_main_v77, val_main_v76, v71 H, v81 H, v48 H, v40 H]
  simp only [coe_mul', coe_add']
  refine GlaPure.coe_congr ?_
  rw [dO, head_base h j.isLt, head_col h j.isLt]
  have e : ∑ l ∈ range 128, don A t (h * 128 + l) * A.gn l * oh A t (h * 128 + l)
      = rr A (h * 128) t * ∑ l ∈ range 128, o A t (h * 128 + l) * (don A t (h * 128 + l) * A.gn l) := by
    rw [mul_sum]
    refine sum_congr rfl fun l hl => ?_
    rw [oh, head_base h (mem_range.1 hl)]; ring
  rw [e, oh, head_base h j.isLt]
  ring

/-! ### The recurrence -/

theorem v89 (t s : Fin 16384) (h : Fin 4) : val_main_v89 (F := Ideal) x0 x1 x2 x3 x4 (ix3 t s h) = ((Wh A (h * 128) t s : ℝ) : EReal) := by
  pointwise [val_main_v89, val_main_v88, val_main_v87, v86 H, v11 H]
  simp only [coe_mul', coe_sum]
  rw [Wh, Fin.sum_univ_eq_sum_range (fun j => dO A t (h * 128 + j) * v A s (h * 128 + j))]
theorem v91 (s : Fin 16384) (h : Fin 4) (j : Fin 128) : val_main_v91 (F := Ideal) x0 x1 x2 x3 x4 (ix3 s h j) = ((dv A s (h * 128 + j) : ℝ) : EReal) := by
  pointwise [val_main_v91, val_main_v90, val_main_v87, v86 H, v38 H]
  simp only [coe_mul', coe_sum]
  refine GlaPure.coe_congr ?_
  simp only [mul_ite, mul_zero]
  rw [sum_ge_ite s (fun t => dO A t (h * 128 + j) * U A t s (h * 128)), dv]
  exact sum_congr rfl fun t _ => by rw [U_head A t s h j j.isLt, mul_comm]
theorem v94 (t s : Fin 16384) (h : Fin 4) (d : Fin 64) : val_main_v94 (F := Ideal) x0 x1 x2 x3 x4 (ix4 t s h d)
    = ((if s ≤ t then W A t s (h * 64 + d) * dec A (h * 64 + d) t s else 0 : ℝ) : EReal) := by
  pointwise [val_main_v94, val_main_v92, v89 H, v31 H]
  rw [coe_mul']
  refine GlaPure.coe_congr ?_
  rw [W_head A t s h d d.isLt, mul_ite, mul_zero]
theorem v103 (s : Fin 16384) (h : Fin 4) (d : Fin 64) : val_main_v103 (F := Ideal) x0 x1 x2 x3 x4 (ix3 s h d) = ((dk A s (h * 64 + d) : ℝ) : EReal) := by
  pointwise [val_main_v103, val_main_v98, val_main_v97, val_main_v96, val_main_v95, val_main_v32, val_main_cst_13, val_main_cst_15, v7 H, v94 H]
  simp only [Fin.sum_univ_one, coe_mul', coe_sum]
  refine GlaPure.coe_congr ?_
  simp only [mul_ite, mul_zero]
  rw [sum_ge_ite s (fun t => q A t (h * 64 + d) * (W A t s (h * 64 + d) * dec A (h * 64 + d) t s)), dk]
  exact sum_congr rfl fun t _ => by ring
theorem v104 (t : Fin 16384) (h : Fin 4) (d : Fin 64) : val_main_v104 (F := Ideal) x0 x1 x2 x3 x4 (ix3 t h d) = ((dq A t (h * 64 + d) : ℝ) : EReal) := by
  pointwise [val_main_v104, val_main_v102, val_main_v101, val_main_v100, val_main_v99, val_main_v33, val_main_cst_14, val_main_cst_16, v9 H, v94 H]
  simp only [Fin.sum_univ_one, coe_mul', coe_sum]
  refine GlaPure.coe_congr ?_
  simp only [ite_mul, zero_mul]
  rw [sum_le_ite t (fun s => W A t s (h * 64 + d) * dec A (h * 64 + d) t s * K A s (h * 64 + d)), dq]
  exact sum_congr rfl fun s _ => by ring
theorem v106 (t s : Fin 16384) (h : Fin 4) (d : Fin 64) : val_main_v106 (F := Ideal) x0 x1 x2 x3 x4 (ix4 t s h d)
    = ((if s ≤ t then pair A t s (h * 64 + d) else 0 : ℝ) : EReal) := by
  pointwise [val_main_v106, val_main_v105, val_main_v93, val_main_v92, val_main_call6_v0, val_main_call6_cst, v30_1, v36 H, v89 H, v31 H]
  rw [GlaPure.sel_ite, coe_mul', coe_mul']
  by_cases hs : s ≤ t
  · rw [if_pos hs, if_pos hs, if_pos hs]
    refine GlaPure.coe_congr ?_
    rw [pair, W_head A t s h d d.isLt]; ring
  · rw [if_neg hs, if_neg hs]; rfl
theorem v114 (t : Fin 16384) (h : Fin 4) (d : Fin 64) : val_main_v114 (F := Ideal) x0 x1 x2 x3 x4 (ix3 t h d) = ((db A t (h * 64 + d) : ℝ) : EReal) := by
  pointwise [val_main_v114, val_main_v113, val_main_v112, val_main_v111, val_main_v110, val_main_v109, val_main_v108, val_main_v107,
    val_main_cst_17, val_main_cst_18, val_main_cst_19, val_main_cst_20, v106 H]
  simp only [Fin.sum_univ_one, coe_neg', coe_sum, coe_add']
  refine GlaPure.coe_congr ?_
  rw [sum_neg_distrib, sum_ge_ite t (fun x => pair A x t (h * 64 + d)), sum_le_ite t (fun x => pair A t x (h * 64 + d)), db, q_dq, K_dk]
  ring
theorem v115 (t : Fin 16384) (h : Fin 4) (d : Fin 64) : val_main_v115 (F := Ideal) x0 x1 x2 x3 x4 (ix3 t h d) = ((dla A t (h * 64 + d) : ℝ) : EReal) := by
  unfold val_main_v115 Host.reduceWindowAdd
  rw [Ideal.hostReduceWindowAdd_def, show val_main_call7_call0_v0 (F := Ideal) (Shape.Idx.first h_S_) = (0 : EReal) from by
    pointwise [val_main_call7_call0_v0, val_main_call7_call0_cst]]
  exact revcumsum (fun s => db A s (h * 64 + d)) t h d fun s => v114 H s h d
theorem v17_1 (t : Fin 16384) (k : Fin 256) : val_main_v17_1 (F := Ideal) x0 x1 x2 (ix2 t k) = ((GlaMath.sig (0 - al A t k) : ℝ) : EReal) := by
  pointwise [val_main_v17_1, val_main_call0_call0_v21, val_main_call0_call0_v20, val_main_call0_call0_v19, val_main_call0_call0_v18, val_main_call0_call0_v17,
    val_main_call0_call0_v16, val_main_call0_call0_v15, val_main_call0_call0_v14, val_main_call0_call0_v13, val_main_call0_v0, v16 H, v17 H,
    val_main_call0_call0_cst_0, val_main_call0_call0_cst_1, val_main_call0_call0_cst_2, val_main_call0_call0_cst_3]
  rw [ofBits_top, coe_neg', if_neg (EReal.coe_ne_top _), if_neg (EReal.coe_ne_top _), coe_sub', Ideal.exp_coe, ← softplus, exp_softplus, zero_sub]
theorem v119 (t : Fin 16384) (k : Fin 256) : val_main_v119 (F := Ideal) x0 x1 x2 x3 x4 (ix2 t k) = ((dal A t k : ℝ) : EReal) := by
  pointwise [val_main_v119, val_main_call8_v1, val_main_call8_v0, val_main_v118, val_main_v117, val_main_v116, val_main_cst_21, v115 H, v17_1 H]
  rw [ofBits_16, coe_div' _ (by norm_num), coe_neg', coe_mul', coe_neg', Nat.div_add_mod']
  refine GlaPure.coe_congr ?_
  rw [dal]; ring

/-! ### The results -/

theorem r_db (u : Fin 1) (k : Fin 256) : val_main_v142 (F := Ideal) x0 x1 x2 x3 x4 (ix2 u k) = ((dbg A k : ℝ) : EReal) := by
  pointwise [val_main_v142, val_main_v122, val_main_v121, val_main_v120, val_main_cst_22, val_main_cst_23, v119 H]
  simp only [Fin.sum_univ_one, coe_sum]
  rw [dbg, Fin.sum_univ_eq_sum_range (fun t => dal A t k)]
theorem r_dgn (u : Fin 1) (j : Fin 128) : val_main_v143 (F := Ideal) x0 x1 x2 x4 (ix2 u j) = ((dgn A j : ℝ) : EReal) := by
  pointwise [val_main_v143, v72 H]
theorem v124 (r : Fin 16) (k : Fin 256) : val_main_v124 (F := Ideal) x0 x1 x2 x3 x4 (ix2 r k) = ((dwg A r k : ℝ) : EReal) := by
  pointwise [val_main_v124, val_main_v123, v119 H, v12 H]
  simp only [coe_mul', coe_sum]
  rw [dwg, Fin.sum_univ_eq_sum_range (fun t => dal A t k * z A t r)]
  exact GlaPure.coe_congr (sum_congr rfl fun t _ => mul_comm _ _)
theorem r_dwg (r : Fin 128) (k : Fin 256) : val_main_v141 (F := Ideal) x0 x1 x2 x3 x4 (ix2 r k) = ((dwg A r k : ℝ) : EReal) := by
  pointwise [val_main_v141, v124 H, val_main_call10_v0, val_main_c_30]
  by_cases hr : r.val < 16
  · rw [dif_pos hr]
  · rw [dif_neg hr, sit_zero]
    refine GlaPure.coe_congr ?_
    rw [dwg]
    exact (sum_eq_zero fun t _ => by rw [z, if_neg hr, zero_mul]).symm
theorem v125 (t : Fin 16384) (r : Fin 16) : val_main_v125 (F := Ideal) x0 x1 x2 x3 x4 (ix2 t r) = ((dz A t r : ℝ) : EReal) := by
  pointwise [val_main_v125, val_main_v1, v119 H, H.w]
  simp only [coe_mul', coe_sum]
  rw [dz, Fin.sum_univ_eq_sum_range (fun k => dal A t k * A.w r k)]
  exact GlaPure.coe_congr (sum_congr rfl fun k _ => by rw [wz, if_pos r.isLt])
theorem r_out (t : Fin 16384) (j : Fin 1664) : val_main_v140 (F := Ideal) x0 x1 x2 x3 x4 (ix2 t j) = ((out A t j : ℝ) : EReal) := by
  pointwise [val_main_v140, val_main_v139, val_main_v138, val_main_v137, val_main_v136, val_main_v135, val_main_v134, val_main_v133, val_main_v132, val_main_v131,
    val_main_v130, val_main_v129, val_main_v128, val_main_v127, val_main_v126, val_main_v65, val_main_cst_7, val_main_cst_24, val_main_cst_25, val_main_cst_26,
    val_main_cst_27, val_main_cst_28, val_main_call9_v0, val_main_c_29, v64 H, v91 H, v103 H, v104 H, v125 H]
  simp only [Nat.div_add_mod', sit_zero, GlaPure.ofBits_eighth, coe_mul', dite_eq_ite, GlaPure.coe_ite', coe_add']
  refine (apply_ite (fun a : ℝ => (a : EReal)) _ _ _).symm.trans (GlaPure.coe_congr ?_)
  unfold out
  split_ifs <;> first | omega | (simp; done) | (ring; done) | skip
  exact (sum_eq_zero fun k _ => by rw [wz, if_neg (by omega), mul_zero]).symm
end
end Cert.GlaRefPure
end
end
-- ==== Proof.GlaTile.lean ====
/- The gated linear attention's backward kernel: what one grid point leaves in its output blocks and in its carried state. -/
module

public import proofs.«01_k».proof.Proof.Gen.GlaKernelIdeal.Value
public import Idealize.ShloMosaic.Lib.Pipeline.ValueKit
public import Idealize.ShloMosaic.Lib.Pipeline.ReadBack
public import proofs.«01_k».proof.Proof.GlaPure

@[expose] public section

set_option maxRecDepth 16384
set_option maxHeartbeats 2000000

noncomputable section

namespace Cert.GlaTile

open Cert.GlaKernelIdeal Cert.GlaKernelIdeal.Gen Cert.GlaPure Cert.GlaMath Cert.Reals
open Idealize.ShloMosaic Idealize.ShloMosaic.TcCoe Idealize.SL.Sem
open Idealize.ShloMosaic.Pipeline (Dat)

variable (m : (ℓ : Loc nD τ sig) → Buf (Elt Ideal) ℓ) (c : Dev nD) (A : Args)

/-- The input blocks of grid point `t` hold the rows of `A` from row `r` on. -/
structure Blocks (t : Fin cfg0.N) (r : ℕ) : Prop where
  q : (X0_0 m c t : V 512 256 .bf16) = (blk r (qr A) : V 512 256 .bf16)
  k : (X0_1 m c t : V 512 256 .bf16) = (blk r (K A) : V 512 256 .bf16)
  v : (X0_2 m c t : V 512 512 .bf16) = (blk r (v A) : V 512 512 .bf16)
  g : (X0_3 m c t : V 512 512 .bf16) = (blk r (g A) : V 512 512 .bf16)
  z : (iblk m c 4 t : V 512 128 .bf16) = (blk r (z A) : V 512 128 .bf16)
  o : (iblk m c 5 t : V 512 512 .f32) = (blk r (o A) : V 512 512 .f32)
  s : (iblk m c 6 t : FVec Ideal ⟨3, ![8, 512, 256]⟩ .bf16) = stk A r
  d : (iblk m c 7 t : V 512 512 .bf16) = (blk r A.dm : V 512 512 .bf16)
  wg : (iblk m c 8 t : V 128 256 .bf16) = (blk 0 (wz A) : V 128 256 .bf16)
  bg : (iblk m c 9 t : V 1 256 .f32) = (row A.bg : V 1 256 .f32)
  gn : (iblk m c 10 t : V 1 128 .f32) = (row A.gn : V 1 128 .f32)

variable {m c A}

/-- One store of the output block, read at a place it may or may not cover. -/
theorem canon_or {h w a b : ℕ} (inb) {f : ℕ → ℕ → ℝ} {r r' : ℕ} {L : List (View.Piece (Elt Ideal) ⟨2, ![512, 1664]⟩ .bf16)}
    {y0 : Fin 512} {y1 : Fin 1664} (er : r' = r + a) (hf : ∀ t j, j < w → f t j = out A t (b + j))
    (hL : ((y0 : ℕ) < a ∨ a + h ≤ y0) ∨ ((y1 : ℕ) < b ∨ b + w ≤ y1) → View.canon L (ix2 y0 y1) = ((out A (r + y0) y1 : ℝ) : EReal)) :
    View.canon ((⟨Rect.unit (s := ⟨2, ![512, 1664]⟩) ![a, b] ![h, w] inb, (blk r' f : V h w .bf16)⟩ : View.Piece (Elt Ideal) ⟨2, ![512, 1664]⟩ .bf16) :: L) (ix2 y0 y1)
      = ((out A (r + y0) y1 : ℝ) : EReal) := by
  rw [canon2]
  split
  · rename_i hh
    show ((f (r' + (y0 - a)) (y1 - b) : ℝ) : EReal) = _
    rw [hf _ _ (by omega), show r' + ((y0 : ℕ) - a) = r + y0 by omega, show b + ((y1 : ℕ) - b) = y1 by omega]
  · rename_i hh
    exact hL (by omega)

theorem out_q (t j : ℕ) (h : j < 256) : dq8 A t j = out A t (0 + j) := by
  unfold out; rw [if_pos (by omega), zero_add]; rfl
theorem out_k (t j : ℕ) (h : j < 256) : dk A t j = out A t (256 + j) := by
  unfold out; rw [if_neg (by omega), if_pos (by omega), show 256 + j - 256 = j by omega]
theorem out_v (t j : ℕ) (h : j < 512) : dv A t j = out A t (512 + j) := by
  unfold out; rw [if_neg (by omega), if_neg (by omega), if_pos (by omega), show 512 + j - 512 = j by omega]
theorem out_g (b : ℕ) (hb : b + 128 ≤ 512) (t j : ℕ) (h : j < 128) : hd b (dg A) t j = out A t (1024 + b + j) := by
  unfold out hd; rw [if_neg (by omega), if_neg (by omega), if_neg (by omega), if_pos (by omega), show 1024 + b + j - 1024 = b + j by omega]
theorem out_z (t j : ℕ) (h : j < 128) : dz A t j = out A t (1536 + j) := by
  unfold out; rw [if_neg (by omega), if_neg (by omega), if_neg (by omega), if_neg (by omega), show 1536 + j - 1536 = j by omega]

/-- The eighteen stores of the output block are together the packed gradient of its rows. -/
theorem canon_out (A : Args) (r : ℕ) : View.canon (Val := Elt Ideal) (e := .bf16) (s := S512x1664)
    [⟨Rect.unit (s := S512x1664) ![0, 1536] ![256, 128] inb_S512x1664_S256x128_0_1536, (blk r (dz A) : V 256 128 .bf16)⟩,
      ⟨Rect.unit (s := S512x1664) ![0, 256] ![256, 256] inb_S512x1664_S256x256_0_256, (blk r (dk A) : V 256 256 .bf16)⟩,
      ⟨Rect.unit (s := S512x1664) ![0, 0] ![256, 256] inb_S512x1664_S256x256_0_0, (blk r (dq8 A) : V 256 256 .bf16)⟩,
      ⟨Rect.unit (s := S512x1664) ![0, 512] ![64, 512] inb_S512x1664_S64x512_0_512, (blk r (dv A) : V 64 512 .bf16)⟩,
      ⟨Rect.unit (s := S512x1664) ![64, 512] ![64, 512] inb_S512x1664_S64x512_64_512, (blk (r + 64) (dv A) : V 64 512 .bf16)⟩,
      ⟨Rect.unit (s := S512x1664) ![128, 512] ![64, 512] inb_S512x1664_S64x512_128_512, (blk (r + 128) (dv A) : V 64 512 .bf16)⟩,
      ⟨Rect.unit (s := S512x1664) ![192, 512] ![64, 512] inb_S512x1664_S64x512_192_512, (blk (r + 192) (dv A) : V 64 512 .bf16)⟩,
      ⟨Rect.unit (s := S512x1664) ![256, 1536] ![256, 128] inb_S512x1664_S256x128_256_1536, (blk (r + 256) (dz A) : V 256 128 .bf16)⟩,
      ⟨Rect.unit (s := S512x1664) ![256, 256] ![256, 256] inb_S512x1664_S256x256_256_256, (blk (r + 256) (dk A) : V 256 256 .bf16)⟩,
      ⟨Rect.unit (s := S512x1664) ![256, 0] ![256, 256] inb_S512x1664_S256x256_256_0, (blk (r + 256) (dq8 A) : V 256 256 .bf16)⟩,
      ⟨Rect.unit (s := S512x1664) ![256, 512] ![64, 512] inb_S512x1664_S64x512_256_512, (blk (r + 256) (dv A) : V 64 512 .bf16)⟩,
      ⟨Rect.unit (s := S512x1664) ![320, 512] ![64, 512] inb_S512x1664_S64x512_320_512, (blk (r + 320) (dv A) : V 64 512 .bf16)⟩,
      ⟨Rect.unit (s := S512x1664) ![384, 512] ![64, 512] inb_S512x1664_S64x512_384_512, (blk (r + 384) (dv A) : V 64 512 .bf16)⟩,
      ⟨Rect.unit (s := S512x1664) ![448, 512] ![64, 512] inb_S512x1664_S64x512_448_512, (blk (r + 448) (dv A) : V 64 512 .bf16)⟩,
      ⟨Rect.unit (s := S512x1664) ![0, 1408] ![512, 128] inb_S512x1664_S512x128_0_1408, (blk r (hd 384 (dg A)) : V 512 128 .bf16)⟩,
      ⟨Rect.unit (s := S512x1664) ![0, 1280] ![512, 128] inb_S512x1664_S512x128_0_1280, (blk r (hd 256 (dg A)) : V 512 128 .bf16)⟩,
      ⟨Rect.unit (s := S512x1664) ![0, 1152] ![512, 128] inb_S512x1664_S512x128_0_1152, (blk r (hd 128 (dg A)) : V 512 128 .bf16)⟩,
      ⟨Rect.unit (s := S512x1664) ![0, 1024] ![512, 128] inb_S512x1664_S512x128_0_1024, (blk r (hd 0 (dg A)) : V 512 128 .bf16)⟩]
    = (blk r (out A) : V 512 1664 .bf16) := by
  refine ext2 fun y0 y1 => ?_
  refine canon_or _ rfl out_z fun n0 => ?_
  refine canon_or _ rfl out_k fun n1 => ?_
  refine canon_or _ rfl out_q fun n2 => ?_
  refine canon_or _ rfl out_v fun n3 => ?_
  refine canon_or _ rfl out_v fun n4 => ?_
  refine canon_or _ rfl out_v fun n5 => ?_
  refine canon_or _ rfl out_v fun n6 => ?_
  refine canon_or _ rfl out_z fun n7 => ?_
  refine canon_or _ rfl out_k fun n8 => ?_
  refine canon_or _ rfl out_q fun n9 => ?_
  refine canon_or _ rfl out_v fun n10 => ?_
  refine canon_or _ rfl out_v fun n11 => ?_
  refine canon_or _ rfl out_v fun n12 => ?_
  refine canon_or _ rfl out_v fun n13 => ?_
  refine canon_or _ rfl (out_g 384 (by omega)) fun n14 => ?_
  refine canon_or _ rfl (out_g 256 (by omega)) fun n15 => ?_
  refine canon_or _ rfl (out_g 128 (by omega)) fun n16 => ?_
  refine canon_or _ rfl (out_g 0 (by omega)) fun n17 => ?_
  exfalso
  have l0 := y0.isLt; have l1 := y1.isLt
  by_cases b256 : (y1 : ℕ) < 256
  · clear n0 n1 n3 n4 n5 n6 n7 n8 n10 n11 n12 n13 n14 n15 n16 n17; omega
  by_cases b512 : (y1 : ℕ) < 512
  · clear n0 n2 n3 n4 n5 n6 n7 n9 n10 n11 n12 n13 n14 n15 n16 n17; omega
  by_cases b1024 : (y1 : ℕ) < 1024
  · clear n0 n1 n2 n7 n8 n9 n14 n15 n16 n17; omega
  by_cases b1152 : (y1 : ℕ) < 1152
  · clear n0 n1 n2 n3 n4 n5 n6 n7 n8 n9 n10 n11 n12 n13 n14 n15 n16; omega
  by_cases b1280 : (y1 : ℕ) < 1280
  · clear n0 n1 n2 n3 n4 n5 n6 n7 n8 n9 n10 n11 n12 n13 n14 n15 n17; omega
  by_cases b1408 : (y1 : ℕ) < 1408
  · clear n0 n1 n2 n3 n4 n5 n6 n7 n8 n9 n10 n11 n12 n13 n14 n16 n17; omega
  by_cases b1536 : (y1 : ℕ) < 1536
  · clear n0 n1 n2 n3 n4 n5 n6 n7 n8 n9 n10 n11 n12 n13 n15 n16 n17; omega
  clear n1 n2 n3 n4 n5 n6 n8 n9 n10 n11 n12 n13 n14 n15 n16 n17; omega

theorem d_zero {r : ℕ} (A : Args) (h : r + 512 = 16384) : k0_pay2 (F := Ideal) = (blk 0 (Dn A (r + 512)) : V 512 256 .f32) := by
  refine ext2 fun p q => ?_
  rw [h]
  pointwise [k0_pay2, blk_apply, Dn_end, zero_coe]

/-- Grid point `t`, the first: its block of the input gradient, the two carried sums' terms and the carried state. -/
theorem stepA {t : Fin cfg0.N} {r : ℕ} (H : Blocks m c A t r) (h : t.val % 32 = 0) (hr2 : r + 512 = 16384) (hr : r % 512 = 0) (hr' : r + 512 ≤ 16384) :
    (outsAt0 m c t.val t.isLt).1 = (blk r (out A) : V 512 1664 .bf16)
    ∧ (outsAt0 m c t.val t.isLt).2.1 = addf (addf (bc S128x256 0x00000000#32) (blk 0 (dwgT A (r + 256)) : V 128 256 .f32)) (blk 0 (dwgT A r))
    ∧ (outsAt0 m c t.val t.isLt).2.2.1 = addf (addf (bc S1x256 0x00000000#32) (row (dbgT A (r + 256)) : V 1 256 .f32)) (row (dbgT A r))
    ∧ (outsAt0 m c t.val t.isLt).2.2.2.1 = addf (bc S1x128 0x00000000#32) (addf (addf (addf (addf (bc S1x128 0x00000000#32)
        (row (dgnT A r 0) : V 1 128 .f32)) (row (dgnT A r 128))) (row (dgnT A r 256))) (row (dgnT A r 384)))
    ∧ (outsAt0 m c t.val t.isLt).2.2.2.2 = (blk 0 (Dn A r) : V 512 256 .f32) := by
  have hD : k0_pay2 (F := Ideal) = (blk 0 (Dn A (r + 512)) : V 512 256 .f32) := d_zero A hr2
  rw [outsAt0_A m c t h]
  frame_out
  simp (disch := omega) only [H.q, H.k, H.v, H.g, H.z, H.o, H.s, H.d, H.wg, H.bg, H.gn, hD, ld_stk A r 0 inb_S8x512x256_S1x512x256_0_0_0, ld_stk A r 1
    inb_S8x512x256_S1x512x256_1_0_0, ld_stk A r 2 inb_S8x512x256_S1x512x256_2_0_0, ld_stk A r 3 inb_S8x512x256_S1x512x256_3_0_0, ld_stk A r 4
    inb_S8x512x256_S1x512x256_4_0_0, ld_stk A r 5 inb_S8x512x256_S1x512x256_5_0_0, ld_stk A r 6 inb_S8x512x256_S1x512x256_6_0_0, ld_stk A r 7
    inb_S8x512x256_S1x512x256_7_0_0,
    shapeCast_id, tr, ex, slice, ldW_bf16, ldW_f32, ldH_bf16, ldH_f32, cat4_of, cat, e_rr, e_oh, e_sg, e_don, e_dg, e_dgn, e_do,
    d_al, d_la, d_zz, mulZ, addZ, d_bl, d_bt, d_bm, d_eb, d_ebl, d_ebm, d_emb, d_elb, d_q, d_qem, d_kem, d_qe, d_kd, r60, r61, r62, r63,
    i_dq A 0 rfl, i_dq A 1 rfl, i_dq A 2 rfl, i_dq A 3 rfl, i_dk A 0 rfl, i_dk A 1 rfl, i_dk A 2 rfl, i_dk A 3 rfl,
    i_dv A 0 rfl, i_dv A 1 rfl, i_dv A 2 rfl, i_dv A 3 rfl, i_dqs, i_dks, c_dk, c_dq, c_last, c_lastB, c_dv, c_D,
    f_dq, f_dk, f_dq8, f_db, f_dla, f_dal, f_dz, f_dwg, f_dbg,
    scM0_0, VS0_0, Memref.IsWhole.read_unread, read_unread_whole, read4W, read4H, View.readCov_cons_toLoadRect,
    Nat.add_assoc, Nat.reduceAdd, Nat.reduceSub, Nat.reduceMul, Nat.add_zero, Nat.zero_add, k0_pay1, k0_pay3, k0_pay4, k0_pay5, k0_pay6, k0_pay7, k0_pay8,
    k0_pay9, k0_pay10, k0_pay11, k0_pay12, k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50, k0_pay51, k0_pay64, k0_pay65,
    k0_pay66, k0_pay67, k0_pay68, k0_pay69, k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91, k0_pay92, k0_pay93, k0_pay94, k0_pay95,
    k0_pay96, k0_pay97, k0_pay98, k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132, k0_pay133, k0_pay134, k0_pay135,
    k0_pay136, k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160, k0_pay161,
    k0_pay162, k0_pay163, k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223, k0_pay224, k0_pay225, k0_pay226,
    k0_pay227, k0_pay228, k0_pay229, k0_pay230, k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262, k0_pay263, k0_pay264, k0_pay265,
    k0_pay266, k0_pay267, k0_pay268, k0_pay269]
  exact ⟨canon_out A r, trivial, trivial, trivial, trivial⟩

/-- Grid point `t`, any but the first: its block of the input gradient, the two carried sums' terms and the carried state. -/
theorem stepB {t : Fin cfg0.N} {r : ℕ} (H : Blocks m c A t r) (h : ¬t.val % 32 = 0) (hr : r % 512 = 0) (hr' : r + 512 ≤ 16384)
    (hD : (outsAt0 m c (t.val - 1) (Nat.lt_of_le_of_lt (Nat.sub_le _ _) t.isLt)).2.2.2.2 = (blk 0 (Dn A (r + 512)) : V 512 256 .f32)) :
    (outsAt0 m c t.val t.isLt).1 = (blk r (out A) : V 512 1664 .bf16)
    ∧ (outsAt0 m c t.val t.isLt).2.1 = addf (addf ((outsAt0 m c (t.val - 1) (Nat.lt_of_le_of_lt (Nat.sub_le _ _) t.isLt)).2.1) (blk 0 (dwgT A (r + 256)) : V 128 256 .f32)) (blk 0 (dwgT A r))
    ∧ (outsAt0 m c t.val t.isLt).2.2.1 = addf (addf ((outsAt0 m c (t.val - 1) (Nat.lt_of_le_of_lt (Nat.sub_le _ _) t.isLt)).2.2.1) (row (dbgT A (r + 256)) : V 1 256 .f32)) (row (dbgT A r))
    ∧ (outsAt0 m c t.val t.isLt).2.2.2.1 = addf ((outsAt0 m c (t.val - 1) (Nat.lt_of_le_of_lt (Nat.sub_le _ _) t.isLt)).2.2.2.1) (addf (addf (addf (addf (bc S1x128 0x00000000#32)
        (row (dgnT A r 0) : V 1 128 .f32)) (row (dgnT A r 128))) (row (dgnT A r 256))) (row (dgnT A r 384)))
    ∧ (outsAt0 m c t.val t.isLt).2.2.2.2 = (blk 0 (Dn A r) : V 512 256 .f32) := by
  rw [outsAt0_B m c t h]
  frame_out
  simp (disch := omega) only [H.q, H.k, H.v, H.g, H.z, H.o, H.s, H.d, H.wg, H.bg, H.gn, hD, ld_stk A r 0 inb_S8x512x256_S1x512x256_0_0_0, ld_stk A r 1
    inb_S8x512x256_S1x512x256_1_0_0, ld_stk A r 2 inb_S8x512x256_S1x512x256_2_0_0, ld_stk A r 3 inb_S8x512x256_S1x512x256_3_0_0, ld_stk A r 4
    inb_S8x512x256_S1x512x256_4_0_0, ld_stk A r 5 inb_S8x512x256_S1x512x256_5_0_0, ld_stk A r 6 inb_S8x512x256_S1x512x256_6_0_0, ld_stk A r 7
    inb_S8x512x256_S1x512x256_7_0_0,
    shapeCast_id, tr, ex, slice, ldW_bf16, ldW_f32, ldH_bf16, ldH_f32, cat4_of, cat, e_rr, e_oh, e_sg, e_don, e_dg, e_dgn, e_do,
    d_al, d_la, d_zz, mulZ, addZ, d_bl, d_bt, d_bm, d_eb, d_ebl, d_ebm, d_emb, d_elb, d_q, d_qem, d_kem, d_qe, d_kd, r60, r61, r62, r63,
    i_dq A 0 rfl, i_dq A 1 rfl, i_dq A 2 rfl, i_dq A 3 rfl, i_dk A 0 rfl, i_dk A 1 rfl, i_dk A 2 rfl, i_dk A 3 rfl,
    i_dv A 0 rfl, i_dv A 1 rfl, i_dv A 2 rfl, i_dv A 3 rfl, i_dqs, i_dks, c_dk, c_dq, c_last, c_lastB, c_dv, c_D,
    f_dq, f_dk, f_dq8, f_db, f_dla, f_dal, f_dz, f_dwg, f_dbg,
    scM0_0, VS0_0, Memref.IsWhole.read_unread, read_unread_whole, read4W, read4H, View.readCov_cons_toLoadRect,
    Nat.add_assoc, Nat.reduceAdd, Nat.reduceSub, Nat.reduceMul, Nat.add_zero, Nat.zero_add, k0_pay1, k0_pay3, k0_pay4, k0_pay5, k0_pay6, k0_pay7, k0_pay8,
    k0_pay9, k0_pay10, k0_pay11, k0_pay12, k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50, k0_pay51, k0_pay64, k0_pay65,
    k0_pay66, k0_pay67, k0_pay68, k0_pay69, k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91, k0_pay92, k0_pay93, k0_pay94, k0_pay95,
    k0_pay96, k0_pay97, k0_pay98, k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132, k0_pay133, k0_pay134, k0_pay135,
    k0_pay136, k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160, k0_pay161,
    k0_pay162, k0_pay163, k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223, k0_pay224, k0_pay225, k0_pay226,
    k0_pay227, k0_pay228, k0_pay229, k0_pay230, k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262, k0_pay263, k0_pay264, k0_pay265,
    k0_pay266, k0_pay267, k0_pay268, k0_pay269]
  exact ⟨canon_out A r, trivial, trivial, trivial, trivial⟩

end Cert.GlaTile

end
end
-- ==== Proof.GlaEntry.lean ====
/-
  The arrays the kernel's region starts from: the forward output and the states, which the host computes from the arguments,
  the packed projection and the padded gate weight. Each is read off the host's operations and given in terms of the
  arguments' reals.
-/
module
public import proofs.«01_k».proof.Proof.GlaTile
public import proofs.«01_k».proof.Proof.GlaRefPure
@[expose] public section
set_option maxRecDepth 16384
noncomputable section
namespace Cert.GlaEntry
open Cert.GlaKernelIdeal Cert.GlaKernelIdeal.Gen Cert.GlaPure Cert.GlaMath
open Idealize.ShloMosaic Idealize.ShloMosaic.TcCoe Idealize.SL.Sem
open Idealize.ShloMosaic.Pipeline (Dat)
open Finset (range sum_range_succ)

/-! ### The host's operations -/

section
variable (a0 : FVec Ideal S16384x2576 .f32) (a1 : FVec Ideal S1x16x256 .f32) (a2 : FVec Ideal S1x256 .f32)
/-- Floor division by a constant, as the host computes it. -/
def fdiv (x : IVec S1x512x256 32) (d : BitVec 32) : IVec S1x512x256 32 :=
  select (andi (cmpi .ne (signi x) (broadcastInDim S1x512x256 ![] bcast_S_S1x512x256 (signi (constantI S_ 32 d))))
    (cmpi .ne (Host.remsi x (broadcastInDim S1x512x256 ![] bcast_S_S1x512x256 (constantI S_ 32 d)))
      (broadcastInDim S1x512x256 ![] bcast_S_S1x512x256 (constantI S_ 32 0#32))))
    (subi (Host.divsi x (broadcastInDim S1x512x256 ![] bcast_S_S1x512x256 (constantI S_ 32 d)))
      (broadcastInDim S1x512x256 ![] bcast_S_S1x512x256 (constantI S_ 32 1#32)))
    (Host.divsi x (broadcastInDim S1x512x256 ![] bcast_S_S1x512x256 (constantI S_ 32 d)))
/-- Row `j` of a state belongs to the head of column `k`. -/
def sameHead : IVec S1x512x256 1 := cmpi .eq (fdiv (iotaInDim S1x512x256 32 1) 128#32) (fdiv (iotaInDim S1x512x256 32 2) 64#32)
/-- Position `s` lies before chunk `c`. -/
def before : IVec S256x16384 1 := cmpi .slt (iotaInDim S256x16384 32 1)
  (muli (broadcastInDim S256x16384 ![] bcast_S_S256x16384 (constantI S_ 32 64#32)) (iotaInDim S256x16384 32 0))
/-- The log decay before each chunk. -/
def start : FVec Ideal S256x4x64 .f32 :=
  shapeCast S256x4x64 (extractStridedSlice S256x1x4x64 ![0, 0, 0, 0] (shapeCast S256x64x4x64
    (subf (GlaRefIdeal.Read.val_main_v21 (F := Ideal) a0 a1 a2) (GlaRefIdeal.Read.val_main_v20 (F := Ideal) a0 a1 a2))
    shapeCasts_S16384x4x64_S256x64x4x64) slices_S256x64x4x64_S256x1x4x64_0_0_0_0) shapeCasts_S256x1x4x64_S256x4x64
/-- The log decay from a position to the start of a chunk. -/
def gap : FVec Ideal S256x16384x4x64 .f32 :=
  subf (broadcastInDim S256x16384x4x64 ![0, 1, 2, 3] bcast_S256x1x4x64_S256x16384x4x64_0_1_2_3
      (broadcastInDim S256x1x4x64 ![0, 2, 3] bcast_S256x4x64_S256x1x4x64_0_2_3 (start a0 a1 a2)))
    (broadcastInDim S256x16384x4x64 ![0, 1, 2, 3] bcast_S1x16384x4x64_S256x16384x4x64_0_1_2_3
      (broadcastInDim S1x16384x4x64 ![1, 2, 3] bcast_S16384x4x64_S1x16384x4x64_1_2_3 (GlaRefIdeal.Read.val_main_v21 (F := Ideal) a0 a1 a2)))
/-- The decay from a position to the start of a later chunk. -/
def decay : FVec Ideal S256x16384x4x64 .f32 :=
  Host.exp (select (broadcastInDim S256x16384x4x64 ![0, 1, 2, 3] bcast_S256x16384x1x1_S256x16384x4x64_0_1_2_3
      (broadcastInDim S256x16384x1x1 ![0, 1] bcast_S256x16384_S256x16384x1x1_0_1 before))
    (gap a0 a1 a2) (broadcastInDim S256x16384x4x64 ![] bcast_S_S256x16384x4x64 (constant S_ .f32 0xFF800000#32)))
/-- What is left of a key at the start of a chunk. -/
def kept : FVec Ideal S256x16384x4x64 .f32 :=
  mulf (broadcastInDim S256x16384x4x64 ![0, 1, 2, 3] bcast_S1x16384x4x64_S256x16384x4x64_0_1_2_3
    (broadcastInDim S1x16384x4x64 ![1, 2, 3] bcast_S16384x4x64_S1x16384x4x64_1_2_3 (GlaRefIdeal.Read.val_main_v9 (F := Ideal) a0))) (decay a0 a1 a2)
/-- The states before the chunks, by head. -/
def st4 : FVec Ideal S256x4x128x64 .f32 :=
  transpose S256x4x128x64 [2, 0, 1, 3] (Host.dotGeneral (φ₁ := .f32) (φ₂ := .f32) dot_S16384x4x128_S256x16384x4x64_S4x128x256x64_0_1_2_03_1_2 none
    (GlaRefIdeal.Read.val_main_v11 (F := Ideal) a0 : FVec Ideal S16384x4x128 .f32) (kept a0 a1 a2)) transposes_S4x128x256x64_S256x4x128x64_2_0_1_3
/-- The heads one below the other. -/
def st3 : FVec Ideal S256x512x64 .f32 := shapeCast S256x512x64 (st4 a0 a1 a2) shapeCasts_S256x4x128x64_S256x512x64
/-- The columns repeated for each head. -/
def tiled : FVec Ideal S256x512x256 .f32 :=
  shapeCast S256x512x256 (broadcastInDim S1x256x1x512x4x64 ![0, 1, 2, 3, 4, 5] bcast_S1x256x1x512x1x64_S1x256x1x512x4x64_0_1_2_3_4_5
    (shapeCast S1x256x1x512x1x64 (st3 a0 a1 a2) shapeCasts_S256x512x64_S1x256x1x512x1x64)) shapeCasts_S1x256x1x512x4x64_S256x512x256
/-- The states that the kernel takes, zero outside the heads' blocks. -/
def states : FVec Ideal S256x512x256 .bf16 :=
  truncf .bf16 (select (broadcastInDim S256x512x256 ![0, 1, 2] bcast_S1x512x256_S256x512x256_0_1_2 sameHead) (tiled a0 a1 a2)
    (broadcastInDim S256x512x256 ![] bcast_S_S256x512x256 (constant S_ .f32 0x00000000#32))) bitsLt_bf16_f32
end
/-- The three column ranges of the projection side by side. -/
def pack3 (x : FVec Ideal S16384x1536 .f32) (y : FVec Ideal S16384x1024 .f32) (w : FVec Ideal S16384x128 .f32) : FVec Ideal S16384x2688 .bf16 :=
  truncf .bf16 (concatenate S16384x2688 1 [⟨S16384x1536, x⟩, ⟨S16384x1024, y⟩, ⟨S16384x128, w⟩]
    concatenates_S16384x1536_S16384x1024_S16384x128_S16384x2688_d1) bitsLt_bf16_f32
/-- The packed projection, from the columns of `proj`. -/
def packed (a0 : FVec Ideal S16384x2576 .f32) : FVec Ideal S16384x2688 .bf16 :=
  pack3 (extractStridedSlice S16384x1536 ![0, 0] a0 slices_S16384x2576_S16384x1536_0_0)
    (extractStridedSlice S16384x1024 ![0, 1552] a0 slices_S16384x2576_S16384x1024_0_1552)
    (pad S16384x128 ![0, 0] ![0, 112] ![0, 0] (extractStridedSlice S16384x16 ![0, 1536] a0 slices_S16384x2576_S16384x16_0_1536)
      (sitofp .f32 (constantI S_ 32 0#32) : FVec Ideal S_ .f32) pads_S16384x16_S16384x128_000_01120 h_S_)
/-- The padded gate weight. -/
def wpad (a1 : FVec Ideal S1x16x256 .f32) : FVec Ideal S128x256 .bf16 :=
  truncf .bf16 (pad S128x256 ![0, 0] ![112, 0] ![0, 0] (shapeCast S16x256 a1 shapeCasts_S1x16x256_S16x256)
    (sitofp .f32 (constantI S_ 32 0#32) : FVec Ideal S_ .f32) pads_S16x256_S128x256_01120_000 h_S_) bitsLt_bf16_f32

/-! ### What the region starts from -/

section
variable (m : (ℓ : Loc nD τ sig) → Buf (Elt Ideal) ℓ) (c : Dev nD)
abbrev a0 : FVec Ideal S16384x2576 .f32 := m ((c.tc : Thread nD τ).loc main_arg0)
abbrev a1 : FVec Ideal S1x16x256 .f32 := m ((c.tc : Thread nD τ).loc main_arg1)
abbrev a2 : FVec Ideal S1x256 .f32 := m ((c.tc : Thread nD τ).loc main_arg2)
abbrev a3 : FVec Ideal S1x128 .f32 := m ((c.tc : Thread nD τ).loc main_arg3)
abbrev a4 : FVec Ideal S16384x1024 .f32 := m ((c.tc : Thread nD τ).loc main_arg4)
set_option maxHeartbeats 4000000
theorem e40 : (V m c main_v40 : FVec Ideal S16384x512 .f32) = shapeCast S16384x512 (GlaRefIdeal.Read.val_main_v40 (F := Ideal) (a0 m c) (a1 m c) (a2 m c))
    shapeCasts_S16384x4x128_S16384x512 := by
  show StableHlo.after (List.flatten _) _ _ = _
  simp only [List.flatten_cons, List.flatten_nil, List.append_nil, List.cons_append, List.nil_append, StableHlo.after_cons, StableHlo.after_nil]
  after_results_simp
  after_results_loop
  all_goals rfl
theorem e74 : (V m c main_v74 : FVec Ideal S256x512x256 .bf16) = states (a0 m c) (a1 m c) (a2 m c) := by
  show StableHlo.after (List.flatten _) _ _ = _
  simp only [List.flatten_cons, List.flatten_nil, List.append_nil, List.cons_append, List.nil_append, StableHlo.after_cons, StableHlo.after_nil]
  after_results_simp
  after_results_loop
  all_goals rfl
theorem e77 : (V m c main_v77 : FVec Ideal S128x256 .bf16) = wpad (a1 m c) := by
  show StableHlo.after (List.flatten _) _ _ = _
  simp only [List.flatten_cons, List.flatten_nil, List.append_nil, List.cons_append, List.nil_append, StableHlo.after_cons, StableHlo.after_nil]
  after_results_simp
  after_results_loop
  all_goals rfl
theorem e84 : (V m c main_v84 : FVec Ideal S16384x1024 .bf16) = truncf .bf16 (a4 m c) bitsLt_bf16_f32 := by
  show StableHlo.after (List.flatten _) _ _ = _
  simp only [List.flatten_cons, List.flatten_nil, List.append_nil, List.cons_append, List.nil_append, StableHlo.after_cons, StableHlo.after_nil]
  after_results_simp
  after_results_loop
  all_goals rfl
theorem tail22 (σ : Valuation τ sig (Elt Ideal)) : (StableHlo.after (hostOps0_22 (F := Ideal)) σ main_v83 : FVec Ideal S16384x2688 .bf16)
    = pack3 (σ main_v78) (σ main_v79) (σ main_v81) := by
  simp only [StableHlo.after_cons, StableHlo.after_nil]
  after_results_simp
  after_results_loop
  all_goals rfl
abbrev W21 : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b))
theorem v78 : (W21 m c main_v78 : FVec Ideal S16384x1536 .f32) = extractStridedSlice S16384x1536 ![0, 0] (a0 m c) slices_S16384x2576_S16384x1536_0_0 := by
  show StableHlo.after (List.flatten _) _ _ = _
  simp only [List.flatten_cons, List.flatten_nil, List.append_nil, List.cons_append, List.nil_append, StableHlo.after_cons, StableHlo.after_nil]
  after_results_simp
  after_results_loop
  all_goals rfl
theorem v79 : (W21 m c main_v79 : FVec Ideal S16384x1024 .f32) = extractStridedSlice S16384x1024 ![0, 1552] (a0 m c) slices_S16384x2576_S16384x1024_0_1552 := by
  show StableHlo.after (List.flatten _) _ _ = _
  simp only [List.flatten_cons, List.flatten_nil, List.append_nil, List.cons_append, List.nil_append, StableHlo.after_cons, StableHlo.after_nil]
  after_results_simp
  after_results_loop
  all_goals rfl
theorem v81 : (W21 m c main_v81 : FVec Ideal S16384x128 .f32) = pad S16384x128 ![0, 0] ![0, 112] ![0, 0] (extractStridedSlice S16384x16 ![0, 1536] (a0 m c) slices_S16384x2576_S16384x16_0_1536)
      (sitofp .f32 (constantI S_ 32 0#32) : FVec Ideal S_ .f32) pads_S16384x16_S16384x128_000_01120 h_S_ := by
  show StableHlo.after (List.flatten _) _ _ = _
  simp only [List.flatten_cons, List.flatten_nil, List.append_nil, List.cons_append, List.nil_append, StableHlo.after_cons, StableHlo.after_nil]
  after_results_simp
  after_results_loop
  all_goals rfl
theorem e83 : (V m c main_v83 : FVec Ideal S16384x2688 .bf16) = packed (a0 m c) := by
  have e : (V m c main_v83 : FVec Ideal S16384x2688 .bf16) = StableHlo.after hostOps0_22 (W21 m c) main_v83 := by
    refine (congrArg (fun l => StableHlo.after l (fun b => m (c, b)) main_v83) (List.flatten_append
      (L₁ := ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (List (HloOp τ sig (Elt Ideal))))) (L₂ := [hostOps0_22]))).trans ?_
    rw [List.flatten_singleton, StableHlo.after_append]
  rw [e, tail22, v78, v79, v81]
  rfl
end

/-! ### Their values -/

/-- Floor division of two numbers. -/
def floorDiv (x d : BitVec 32) : BitVec 32 :=
  Scalar.select
    (IntOp.andi
      (IntOp.cmpi CmpIPredicate.ne (if x = 0 then 0 else if x.msb = true then -1 else 1) (if d = 0 then 0 else if d.msb = true then -1 else 1 : BitVec 32))
      (IntOp.cmpi CmpIPredicate.ne (IntOp.remsi ArithUnit.host x d) 0#32))
    (IntOp.subi (IntOp.divsi ArithUnit.host x d) 1#32) (IntOp.divsi ArithUnit.host x d)

section
open Cert.Reals
open Cert.GlaRefPure (Holds v9 v11 v20 v21 v40 ofBits_bot sit_zero toInt_pos)
variable {A : Args} {x0 : FVec Ideal S16384x2576 .f32} {x1 : FVec Ideal S1x16x256 .f32} {x2 : FVec Ideal S1x256 .f32}
  {x3 : FVec Ideal S1x128 .f32} {x4 : FVec Ideal S16384x1024 .f32} (H : Holds A x0 x1 x2 x3 x4)
include H
theorem start_apply (c : Fin 256) (h : Fin 4) (d : Fin 64) : start x0 x1 x2 (ix3 c h d) = ((P A (h * 64 + d) (64 * c) : ℝ) : EReal) := by
  pointwise [start, v21 H, v20 H]
  rw [coe_sub']
  refine coe_congr ?_
  rw [P, sum_range_succ, add_sub_cancel_right, P, mul_comm]
omit H in
theorem before_apply (c : Fin 256) (s : Fin 16384) : before (ix2 c s) = if s.val < 64 * c.val then 1#1 else 0#1 := by
  pointwise [before]
  have e : IntOp.muli 64#32 (BitVec.ofNat 32 c) = BitVec.ofNat 32 (64 * c) := (BitVec.ofNat_mul _ _).symm
  rw [e]
  show BitVec.ofBool ((BitVec.ofNat 32 s).slt (BitVec.ofNat 32 (64 * c))) = _
  rw [BitVec.slt, toInt_pos s.isLt, toInt_pos (a := 64 * c.val) (by omega)]
  simp only [Nat.cast_lt]
  by_cases h : s.val < 64 * c.val
  · rw [if_pos h, decide_eq_true h]; rfl
  · rw [if_neg h, decide_eq_false h]; rfl
theorem decay_apply (c : Fin 256) (s : Fin 16384) (h : Fin 4) (d : Fin 64) :
    decay x0 x1 x2 (ix4 c s h d) = ((if s.val < 64 * c.val then Real.exp (P A (h * 64 + d) (64 * c) - P A (h * 64 + d) (s + 1)) else 0 : ℝ) : EReal) := by
  pointwise [decay, gap, before_apply, start_apply H, v21 H]
  rw [sel_ite, ofBits_bot]
  split_ifs with h
  · rw [coe_sub', Ideal.exp_coe]
  · exact Ideal.exp_bot
theorem st4_apply (c : Fin 256) (h : Fin 4) (j : Fin 128) (d : Fin 64) :
    st4 x0 x1 x2 (ix4 c h j d) = ((∑ s ∈ range (64 * c), v A s (h * 128 + j) * (K A s (h * 64 + d) * Real.exp (P A (h * 64 + d) (64 * c) - P A (h * 64 + d) (s + 1))) : ℝ) : EReal) := by
  pointwise [st4, kept, decay_apply H, v9 H, v11 H]
  simp only [coe_mul', coe_sum]
  refine coe_congr ?_
  rw [Fin.sum_univ_eq_sum_range (fun s => v A s (h * 128 + j) * (K A s (h * 64 + d) *
    if s < 64 * c.val then Real.exp (P A (h * 64 + d) (64 * c) - P A (h * 64 + d) (s + 1)) else 0)),
    ← Finset.sum_subset (s₁ := range (64 * c.val)) (s₂ := range 16384) (Finset.range_subset_range.mpr (by omega))]
  · exact Finset.sum_congr rfl fun s hs => by rw [if_pos (Finset.mem_range.mp hs)]
  · intro s _ hs
    rw [if_neg (by simpa using hs), mul_zero, mul_zero]
theorem tiled_apply (c : Fin 256) (j : Fin 512) (k : Fin 256) :
    tiled x0 x1 x2 (ix3 c j k) = ((∑ s ∈ range (64 * c), v A s j * (K A s (j / 128 * 64 + k % 64) * Real.exp (P A (j / 128 * 64 + k % 64) (64 * c) - P A (j / 128 * 64 + k % 64) (s + 1))) : ℝ) : EReal) := by
  pointwise [tiled, st3, st4_apply H]
  rw [Nat.div_add_mod']
omit H in
theorem fdiv128 : ∀ j : Fin 512, floorDiv (BitVec.ofNat 32 j) 128#32 = BitVec.ofNat 32 (j / 128) := by decide +kernel
omit H in
theorem fdiv64 : ∀ k : Fin 256, floorDiv (BitVec.ofNat 32 k) 64#32 = BitVec.ofNat 32 (k / 64) := by decide +kernel
omit H in
theorem eq_ite : ∀ a b : Fin 4, IntOp.cmpi CmpIPredicate.eq (BitVec.ofNat 32 a) (BitVec.ofNat 32 b) = if a.val = b.val then 1#1 else 0#1 := by decide +kernel
omit H in
theorem sameHead_apply (j : Fin 512) (k : Fin 256) : sameHead (ix3 0 j k) = if j.val / 128 = k.val / 64 then 1#1 else 0#1 := by
  pointwise [sameHead, fdiv]
  exact (congrArg₂ (IntOp.cmpi CmpIPredicate.eq) (fdiv128 j) (fdiv64 k)).trans (eq_ite ⟨j / 128, by omega⟩ ⟨k / 64, by omega⟩)
theorem states_apply (c : Fin 256) (j : Fin 512) (k : Fin 256) : states x0 x1 x2 (ix3 c j k) = ((St A (64 * c) j k : ℝ) : EReal) := by
  pointwise [states, sameHead_apply, tiled_apply H]
  rw [sel_ite, St]
  split_ifs with h
  · rw [h, Nat.div_add_mod']
  · rfl
theorem packed_apply (t : Fin 16384) (j : Fin 2688) : packed x0 (ix2 t j)
    = ((if j.val < 1536 then A.p t j else if j.val < 2560 then A.p t (j + 16) else z A t (j - 2560) : ℝ) : EReal) := by
  pointwise [packed, pack3, H.p]
  rw [sit_zero]
  unfold z
  split_ifs <;> first | omega | rfl | exact coe_congr (congrArg _ (by omega))
theorem wpad_apply (r : Fin 128) (k : Fin 256) : wpad x1 (ix2 r k) = ((wz A r k : ℝ) : EReal) := by
  pointwise [wpad, H.w]
  rw [sit_zero]
  unfold wz
  split_ifs <;> rfl
end

end Cert.GlaEntry
end
end
-- ==== Proof.GlaFinal.lean ====
/-
  The gated recurrence's kernel over its grid: the 32 points take the tiles of 512 rows from the last to the first and carry
  the state's gradient. What each block of a point holds, what the point leaves, and what each output array is at the end.
-/
module
public import proofs.«01_k».proof.Proof.GlaEntry
@[expose] public section
set_option maxRecDepth 16384
noncomputable section
namespace Cert.GlaFinal
open Cert.GlaKernelIdeal Cert.GlaKernelIdeal.Gen Cert.GlaPure Cert.GlaMath Cert.GlaTile Cert.GlaEntry Cert.Reals
open Idealize.ShloMosaic Idealize.ShloMosaic.TcCoe Idealize.SL.Sem
open Idealize.ShloMosaic.Pipeline (Dat)
open Cert.GlaRefPure (Holds)
open Finset (range)
variable (m : (ℓ : Loc nD τ sig) → Buf (Elt Ideal) ℓ) (c : Dev nD) (A : Args)

theorem idx : ∀ t : Fin cfg0.N, win0_0.index t = ![31 - t.val, 0] ∧ win0_1.index t = ![31 - t.val, 1] ∧ win0_2.index t = ![31 - t.val, 1]
    ∧ win0_3.index t = ![31 - t.val, 2] ∧ win0_4.index t = ![31 - t.val, 20] ∧ win0_5.index t = ![31 - t.val, 0] ∧ win0_6.index t = ![31 - t.val, 0, 0]
    ∧ win0_7.index t = ![31 - t.val, 0] ∧ win0_8.index t = ![0, 0] ∧ win0_9.index t = ![0, 0] ∧ win0_10.index t = ![0, 0]
    ∧ win0_11.index t = ![31 - t.val, 0] ∧ win0_12.index t = ![0, 0] ∧ win0_13.index t = ![0, 0] ∧ win0_14.index t = ![0, 0] :=
  (by decide +kernel : ∀ t : Fin grid0.N, _)

/-- The first row of grid point `t`'s tile. -/
def base (t : Fin cfg0.N) : ℕ := 512 * (31 - t.val)

variable {m c A} (H : Holds A (a0 m c) (a1 m c) (a2 m c) (a3 m c) (a4 m c))
include H

/-- The packed projection's entries, by their array. -/
theorem hP (r : Fin 16384) (j : Fin 2688) : (V m c main_v83 : FVec Ideal S16384x2688 .bf16) (ix2 r j)
    = ((if j.val < 1536 then A.p r j else if j.val < 2560 then A.p r (j + 16) else z A r (j - 2560) : ℝ) : EReal) := by
  rw [e83]; exact packed_apply H r j

theorem bX0 (t : Fin cfg0.N) : (X0_0 m c t : V 512 256 .bf16) = (blk (base t) (qr A) : V 512 256 .bf16) := by
  have ht : t.val < 32 := t.isLt
  refine ext2 fun p q => ?_
  have hV := hP H ⟨base t + p, by unfold base; omega⟩ ⟨q, by omega⟩
  rw [if_pos (show q.val < 1536 by omega)] at hV
  refine Eq.trans ?_ hV
  unfold X0_0 Pipeline.Window.fill
  rw [dif_pos (moved0_0 t _)]
  blk_simp [iblk]; blk_ext [base, idx t]
theorem bX1 (t : Fin cfg0.N) : (X0_1 m c t : V 512 256 .bf16) = (blk (base t) (K A) : V 512 256 .bf16) := by
  have ht : t.val < 32 := t.isLt
  refine ext2 fun p q => ?_
  have hV := hP H ⟨base t + p, by unfold base; omega⟩ ⟨256 + q, by omega⟩
  rw [if_pos (show 256 + q.val < 1536 by omega)] at hV
  refine Eq.trans ?_ hV
  unfold X0_1 Pipeline.Window.fill
  rw [dif_pos (moved0_1 t _)]
  blk_simp [iblk]; blk_ext [base, idx t]
theorem bX2 (t : Fin cfg0.N) : (X0_2 m c t : V 512 512 .bf16) = (blk (base t) (v A) : V 512 512 .bf16) := by
  have ht : t.val < 32 := t.isLt
  refine ext2 fun p q => ?_
  have hV := hP H ⟨base t + p, by unfold base; omega⟩ ⟨512 + q, by omega⟩
  rw [if_pos (show 512 + q.val < 1536 by omega)] at hV
  refine Eq.trans ?_ hV
  unfold X0_2 Pipeline.Window.fill
  rw [dif_pos (moved0_2 t _)]
  blk_simp [iblk]; blk_ext [base, idx t]
theorem bX3 (t : Fin cfg0.N) : (X0_3 m c t : V 512 512 .bf16) = (blk (base t) (g A) : V 512 512 .bf16) := by
  have ht : t.val < 32 := t.isLt
  refine ext2 fun p q => ?_
  have hV := hP H ⟨base t + p, by unfold base; omega⟩ ⟨1024 + q, by omega⟩
  rw [if_pos (show 1024 + q.val < 1536 by omega)] at hV
  refine Eq.trans ?_ hV
  unfold X0_3 Pipeline.Window.fill
  rw [dif_pos (moved0_3 t _)]
  blk_simp [iblk]; blk_ext [base, idx t]
theorem b4 (t : Fin cfg0.N) : (iblk m c 4 t : V 512 128 .bf16) = (blk (base t) (z A) : V 512 128 .bf16) := by
  have ht : t.val < 32 := t.isLt
  refine ext2 fun p q => ?_
  obtain ⟨j, hj⟩ : ∃ j, j = 2560 + q.val := ⟨_, rfl⟩
  have hV := hP H ⟨base t + p, by unfold base; omega⟩ ⟨j, by omega⟩
  rw [if_neg (show ¬ j < 1536 by omega), if_neg (show ¬ j < 2560 by omega), show j - 2560 = q.val by omega] at hV
  refine Eq.trans ?_ hV
  blk_simp [iblk]; blk_ext [base, idx t]
theorem b5 (t : Fin cfg0.N) : (iblk m c 5 t : V 512 512 .f32) = (blk (base t) (o A) : V 512 512 .f32) := by
  have ht : t.val < 32 := t.isLt
  have hV : ∀ (r : Fin 16384) (j : Fin 512), (V m c main_v40 : FVec Ideal S16384x512 .f32) (ix2 r j) = ((o A r j : ℝ) : EReal) := fun r j => by
    rw [e40]; pointwise [Cert.GlaRefPure.v40 H, Nat.div_add_mod']
  refine ext2 fun p q => (Eq.trans ?_ (hV ⟨base t + p, by unfold base; omega⟩ q))
  blk_simp [iblk]
  refine congrArg (V m c main_v40) ?_
  blk_ext [base, idx t]
theorem b6 (t : Fin cfg0.N) : (iblk m c 6 t : FVec Ideal ⟨3, ![8, 512, 256]⟩ .bf16) = stk A (base t) := by
  have ht : t.val < 32 := t.isLt
  have hV : ∀ (n : Fin 256) (j : Fin 512) (k : Fin 256), (V m c main_v74 : FVec Ideal S256x512x256 .bf16) (ix3 n j k) = ((St A (64 * n) j k : ℝ) : EReal) :=
    fun n j k => by rw [e74]; exact states_apply H n j k
  funext i
  idx_vars i
  refine Eq.trans ?_ ((hV ⟨8 * (31 - t.val) + i0, by omega⟩ i1 i2).trans ?_)
  · blk_simp [iblk]; blk_ext [base, idx t]
  · show _ = ((St A (base t + 64 * i0.val) i1.val i2.val : ℝ) : EReal)
    refine coe_congr (congrArg (fun n => St A n i1 i2) ?_)
    show 64 * (8 * (31 - t.val) + i0.val) = _
    unfold base; omega
theorem b7 (t : Fin cfg0.N) : (iblk m c 7 t : V 512 512 .bf16) = (blk (base t) A.dm : V 512 512 .bf16) := by
  have ht : t.val < 32 := t.isLt
  have hV : ∀ (r : Fin 16384) (j : Fin 1024), (V m c main_v84 : FVec Ideal S16384x1024 .bf16) (ix2 r j) = ((A.dm r j : ℝ) : EReal) := fun r j => by
    rw [e84]; exact H.dm r j
  refine ext2 fun p q => (Eq.trans ?_ (hV ⟨base t + p, by unfold base; omega⟩ ⟨q, by omega⟩))
  blk_simp [iblk]; blk_ext [base, idx t]
theorem b8 (t : Fin cfg0.N) : (iblk m c 8 t : V 128 256 .bf16) = (blk 0 (wz A) : V 128 256 .bf16) := by
  have hV : ∀ (r : Fin 128) (j : Fin 256), (V m c main_v77 : FVec Ideal S128x256 .bf16) (ix2 r j) = ((wz A r j : ℝ) : EReal) := fun r j => by
    rw [e77]; exact wpad_apply H r j
  refine ext2 fun p q => (Eq.trans ?_ ((hV p q).trans ?_))
  · blk_simp [iblk]; blk_ext [idx t]
  · rw [blk_apply, Nat.zero_add]
theorem b9 (t : Fin cfg0.N) : (iblk m c 9 t : V 1 256 .f32) = (row A.bg : V 1 256 .f32) := by
  have hV : ∀ q, (V m c main_arg2 : FVec Ideal S1x256 .f32) (ix2 0 q) = ((A.bg q : ℝ) : EReal) := fun q => by
    rw [V_main_arg2]; exact H.bg q
  refine ext2 fun p q => (Eq.trans ?_ (hV q))
  obtain rfl : p = 0 := Subsingleton.elim _ _
  blk_simp [iblk]; blk_ext [idx t]
theorem b10 (t : Fin cfg0.N) : (iblk m c 10 t : V 1 128 .f32) = (row A.gn : V 1 128 .f32) := by
  have hV : ∀ q, (V m c main_arg3 : FVec Ideal S1x128 .f32) (ix2 0 q) = ((A.gn q : ℝ) : EReal) := fun q => by
    rw [V_main_arg3]; exact H.gn q
  refine ext2 fun p q => (Eq.trans ?_ (hV q))
  obtain rfl : p = 0 := Subsingleton.elim _ _
  blk_simp [iblk]; blk_ext [idx t]
theorem blocks (t : Fin cfg0.N) : Blocks m c A t (base t) :=
  ⟨bX0 H t, bX1 H t, bX2 H t, bX3 H t, b4 H t, b5 H t, b6 H t, b7 H t, b8 H t, b9 H t, b10 H t⟩

/-! ### What a point leaves -/

/-- What a point of tile base `r` leaves, from the accumulators before it. -/
def Leaves (m : (ℓ : Loc nD τ sig) → Buf (Elt Ideal) ℓ) (c : Dev nD) (A : Args) (t : Fin cfg0.N) (r : ℕ) (w : V 128 256 .f32) (b : V 1 256 .f32) (n : V 1 128 .f32) : Prop :=
  (outsAt0 m c t.val t.isLt).1 = (blk r (out A) : V 512 1664 .bf16)
    ∧ (outsAt0 m c t.val t.isLt).2.1 = addf (addf w (blk 0 (dwgT A (r + 256)) : V 128 256 .f32)) (blk 0 (dwgT A r))
    ∧ (outsAt0 m c t.val t.isLt).2.2.1 = addf (addf b (row (dbgT A (r + 256)) : V 1 256 .f32)) (row (dbgT A r))
    ∧ (outsAt0 m c t.val t.isLt).2.2.2.1 = addf n (addf (addf (addf (addf (bc S1x128 0x00000000#32)
        (row (dgnT A r 0) : V 1 128 .f32)) (row (dgnT A r 128))) (row (dgnT A r 256))) (row (dgnT A r 384)))
    ∧ (outsAt0 m c t.val t.isLt).2.2.2.2 = (blk 0 (Dn A r) : V 512 256 .f32)
/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

/-- The first point. -/
theorem pointA (t : Fin cfg0.N) (h : t.val % 32 = 0) : Leaves m c A t (base t) (bc S128x256 0x00000000#32) (bc S1x256 0x00000000#32) (bc S1x128 0x00000000#32) :=
  have ht : t.val < 32 := t.isLt
  stepA (blocks H t) h (by unfold base; omega) (by unfold base; omega) (by unfold base; omega)

/-- The state's gradient after each point. -/
theorem dst : ∀ (n : ℕ) (h : n < cfg0.N), (outsAt0 m c n h).2.2.2.2 = (blk 0 (Dn A (base ⟨n, h⟩)) : V 512 256 .f32)
  | 0, h => (pointA H ⟨0, h⟩ rfl).2.2.2.2
  | n + 1, h => by
    have h' : n + 1 < 32 := h
    have ih := dst n (by omega)
    rw [show base ⟨n, _⟩ = base ⟨n + 1, h⟩ + 512 by show 512 * (31 - n) = 512 * (31 - (n + 1)) + 512; omega] at ih
    exact (stepB (t := ⟨n + 1, h⟩) (blocks H ⟨n + 1, h⟩) (by show ¬(n + 1) % 32 = 0; omega) (by show 512 * (31 - (n + 1)) % 512 = 0; omega)
      (by show 512 * (31 - (n + 1)) + 512 ≤ 16384; omega) ih).2.2.2.2

/-- A point after the first. -/
theorem pointB (t : Fin cfg0.N) (h : ¬t.val % 32 = 0) : Leaves m c A t (base t) (prev m c t).2.1 (prev m c t).2.2.1 (prev m c t).2.2.2.1 := by
  have ht : t.val < 32 := t.isLt
  have ih := dst H (t.val - 1) (Nat.lt_of_le_of_lt (Nat.sub_le _ _) t.isLt)
  rw [show base ⟨t.val - 1, _⟩ = base t + 512 by show 512 * (31 - (t.val - 1)) = 512 * (31 - t.val) + 512; omega] at ih
  exact stepB (blocks H t) h (by unfold base; omega) (by unfold base; omega) ih

theorem tile11 (t : Fin cfg0.N) : (outsAt0 m c t.val t.isLt).1 = (blk (base t) (out A) : V 512 1664 .bf16) := by
  by_cases h : t.val % 32 = 0
  · exact (pointA H t h).1
  · exact (pointB H t h).1

theorem final11 : (dats m 0 c).arrAt 11 cfg0.N = fun i : S16384x1664.Idx => ((out A (i 0) (i 1) : ℝ) : EReal) := by
  refine (dats m 0 c).arrAt_eq_of_covers 11 _ (by decide +kernel) fun t _ y => ?_
  have ht : t.val < 32 := t.isLt
  have e : win0_11.index t = ![31 - t.val, 0] := (idx t).2.2.2.2.2.2.2.2.2.2.2.1
  blk_simp
  rw [after0_11]
  idx_vars y
  rw [tile11 H t]
  refine coe_congr (congrArg₂ (out A) ?_ ?_)
  · rw [e]; show base t + y0.val = (31 - t.val) * 512 + y0.val; unfold base; omega
  · rw [e]; show y1.val = 0 * 1664 + y1.val; omega

/-! ### The sums over the points -/

omit H in
/-- The last tile first, the second half of a tile first: all rows. -/
theorem sum_tiles (f : ℕ → ℝ) : ∀ n : ℕ, ∑ s ∈ range n, (∑ i ∈ range 256, f (512 * s + 256 + i) + ∑ i ∈ range 256, f (512 * s + i)) = ∑ i ∈ range (512 * n), f i
  | 0 => rfl
  | n + 1 => by
    rw [Finset.sum_range_succ, sum_tiles f n, show 512 * (n + 1) = 512 * n + 256 + 256 by omega, Finset.sum_range_add f (512 * n + 256), Finset.sum_range_add f (512 * n)]
    ring
omit H in
theorem sum_rev (f : ℕ → ℝ) : ∑ s : Fin 32, (∑ i ∈ range 256, f (512 * (31 - s) + 256 + i) + ∑ i ∈ range 256, f (512 * (31 - s) + i)) = ∑ i ∈ range 16384, f i := by
  rw [← sum_tiles f 32, ← Finset.sum_range_reflect,
    Fin.sum_univ_eq_sum_range (fun s => ∑ i ∈ range 256, f (512 * (31 - s) + 256 + i) + ∑ i ∈ range 256, f (512 * (31 - s) + i))]
omit H in
theorem sum_run (t : Fin cfg0.N) (h : ∀ s : Fin 32, 32 * (t.val / 32) + s.val < cfg0.N) (f : ℕ → ℝ) :
    ∑ s : Fin 32, ((∑ i ∈ range 256, f (base ⟨32 * (t.val / 32) + s.val, h s⟩ + 256 + i) + ∑ i ∈ range 256, f (base ⟨32 * (t.val / 32) + s.val, h s⟩ + i) : ℝ) : EReal)
      = ((∑ i ∈ range 16384, f i : ℝ) : EReal) := by
  have ht : t.val < 32 := t.isLt
  have e : ∀ s : Fin 32, base ⟨32 * (t.val / 32) + s.val, h s⟩ = 512 * (31 - s.val) := fun s => by unfold base; simp only; omega
  simp only [e]
  rw [coe_sum, sum_rev f]

theorem final12 : (dats m 0 c).arrAt 12 cfg0.N = fun j : S128x256.Idx => ((dwg A (j 0) (j 1) : ℝ) : EReal) := by
  refine (dats m 0 c).arrAt_eq_of_covers 12 _ (by decide +kernel) fun t hf y => ?_
  have e : win0_12.index t = ![0, 0] := (idx t).2.2.2.2.2.2.2.2.2.2.2.2.1
  blk_simp
  rw [after0_12]
  rw [Pipeline.eq_sum_fin_of_reset_step_apply_of_flush (fun n h => (outsAt0 m c n h).2.1) 32 (fun _ => 0)
    (fun t j => ((dwgT A (base t + 256) (j 0) (j 1) + dwgT A (base t) (j 0) (j 1) : ℝ) : EReal))
    (fun t h j => by
      rw [(pointA H t h).2.1]
      idx_vars j
      pointwise [bc]
      rw [blk_apply, blk_apply, Nat.zero_add, coe_add'])
    (fun t h j => by
      rw [(pointB H t h).2.1]
      idx_vars j
      pointwise
      rw [blk_apply, blk_apply, Nat.zero_add, add_assoc, coe_add']) t ((flush0_12 t).mp hf) _, zero_add]
  idx_vars y
  rw [e]
  refine (sum_run t (fun s => Pipeline.run_point_lt_of_flush (J := 32) t ((flush0_12 t).mp hf) s) (fun i => z A i y0 * dal A i y1)).trans ?_
  refine coe_congr (congrArg₂ (dwg A) ?_ ?_)
  · show y0.val = 0 * 128 + y0.val; omega
  · show y1.val = 0 * 256 + y1.val; omega

theorem final13 : (dats m 0 c).arrAt 13 cfg0.N = fun j : S1x256.Idx => ((dbg A (j 1) : ℝ) : EReal) := by
  refine (dats m 0 c).arrAt_eq_of_covers 13 _ (by decide +kernel) fun t hf y => ?_
  have e : win0_13.index t = ![0, 0] := (idx t).2.2.2.2.2.2.2.2.2.2.2.2.2.1
  blk_simp
  rw [after0_13]
  rw [Pipeline.eq_sum_fin_of_reset_step_apply_of_flush (fun n h => (outsAt0 m c n h).2.2.1) 32 (fun _ => 0)
    (fun t j => ((dbgT A (base t + 256) (j 1) + dbgT A (base t) (j 1) : ℝ) : EReal))
    (fun t h j => by
      rw [(pointA H t h).2.2.1]
      idx_vars j
      pointwise [bc]
      rw [row_apply, row_apply, coe_add'])
    (fun t h j => by
      rw [(pointB H t h).2.2.1]
      idx_vars j
      pointwise
      rw [row_apply, row_apply, add_assoc, coe_add']) t ((flush0_13 t).mp hf) _, zero_add]
  idx_vars y
  rw [e]
  refine (sum_run t (fun s => Pipeline.run_point_lt_of_flush (J := 32) t ((flush0_13 t).mp hf) s) (fun i => dal A i y1)).trans ?_
  refine coe_congr (congrArg (dbg A) ?_)
  show y1.val = 0 * 256 + y1.val; omega

omit H in
/-- A tile's part of the norm's gain gradient, by halves. -/
theorem dgn_half (r j : ℕ) : dgnT A r 0 j + dgnT A r 128 j + dgnT A r 256 j + dgnT A r 384 j
    = ∑ i ∈ range 256, (∑ h ∈ range 4, don A (r + 256 + i) (128 * h + j) * oh A (r + 256 + i) (128 * h + j))
      + ∑ i ∈ range 256, (∑ h ∈ range 4, don A (r + i) (128 * h + j) * oh A (r + i) (128 * h + j)) := by
  have e : ∀ i, ∑ h ∈ range 4, don A (r + i) (128 * h + j) * oh A (r + i) (128 * h + j)
      = don A (r + i) (0 + j) * oh A (r + i) (0 + j) + don A (r + i) (128 + j) * oh A (r + i) (128 + j)
        + don A (r + i) (256 + j) * oh A (r + i) (256 + j) + don A (r + i) (384 + j) * oh A (r + i) (384 + j) := fun i => by
    simp only [Finset.sum_range_succ, Finset.sum_range_zero, Nat.mul_zero, Nat.mul_one, Nat.reduceMul]
    rw [zero_add]
  have s : ∑ i ∈ range 512, ∑ h ∈ range 4, don A (r + i) (128 * h + j) * oh A (r + i) (128 * h + j)
      = dgnT A r 0 j + dgnT A r 128 j + dgnT A r 256 j + dgnT A r 384 j := by
    rw [Finset.sum_congr rfl fun i _ => e i, Finset.sum_add_distrib, Finset.sum_add_distrib, Finset.sum_add_distrib]
    rfl
  rw [← s, Finset.sum_range_add _ 256 256, add_comm]
  simp only [Nat.add_assoc]

theorem final14 : (dats m 0 c).arrAt 14 cfg0.N = fun j : S1x128.Idx => ((dgn A (j 1) : ℝ) : EReal) := by
  refine (dats m 0 c).arrAt_eq_of_covers 14 _ (by decide +kernel) fun t hf y => ?_
  have e : win0_14.index t = ![0, 0] := (idx t).2.2.2.2.2.2.2.2.2.2.2.2.2.2
  blk_simp
  rw [after0_14]
  rw [Pipeline.eq_sum_fin_of_reset_step_apply_of_flush (fun n h => (outsAt0 m c n h).2.2.2.1) 32 (fun _ => 0)
    (fun t j => ((dgnT A (base t) 0 (j 1) + dgnT A (base t) 128 (j 1) + dgnT A (base t) 256 (j 1) + dgnT A (base t) 384 (j 1) : ℝ) : EReal))
    (fun t h j => by
      rw [(pointA H t h).2.2.2.1]
      idx_vars j
      pointwise [bc]
      simp only [row_apply, zero_add, coe_add'])
    (fun t h j => by
      rw [(pointB H t h).2.2.2.1]
      idx_vars j
      pointwise [bc]
      simp only [row_apply, zero_add, coe_add']) t ((flush0_14 t).mp hf) _, zero_add]
  idx_vars y
  rw [e]
  simp only [dgn_half]
  refine (sum_run t (fun s => Pipeline.run_point_lt_of_flush (J := 32) t ((flush0_14 t).mp hf) s)
    (fun i => ∑ h ∈ range 4, don A i (128 * h + y1) * oh A i (128 * h + y1))).trans ?_
  refine coe_congr (congrArg (dgn A) ?_)
  show y1.val = 0 * 128 + y1.val; omega
end Cert.GlaFinal
end
end
-- ==== Proof.GlaClaim.lean ====
/- The value claim of the gated recurrence's backward call: from finite arguments both programs end with the real-number
    gradients of `GlaMath`, whose arguments are the arrays' real values. -/
module

public import proofs.«01_k».proof.Defs
public import proofs.«01_k».proof.Proof.Finite
public import proofs.«01_k».proof.Proof.GlaRefPure
public import proofs.«01_k».proof.Proof.GlaFinal
public import proofs.«01_k».proof.Proof.Gen.GlaRefIdeal.Run

@[expose] public section
noncomputable section

namespace Cert.GlaClaim
open Idealize.ShloMosaic Idealize.ShloMosaic.TcCoe Idealize.SL.Sem
open Cert.Reals Cert.GlaMath Cert.GlaEntry
open Cert.GlaKernelIdeal (nD τ sig)

variable (m : (ℓ : Loc nD τ sig) → Buf (Elt Ideal) ℓ) (c : Dev nD)

/-- An array of reals continued by zero. -/
def ext {n k : ℕ} (x : Fin n → Fin k → EReal) (i j : ℕ) : ℝ := if h : i < n ∧ j < k then (x ⟨i, h.1⟩ ⟨j, h.2⟩).toReal else 0
theorem ext_coe {n k : ℕ} (x : Fin n → Fin k → EReal) (i : Fin n) (j : Fin k) : ext x i j = (x i j).toReal := dif_pos ⟨i.2, j.2⟩

/-- The real values of the arguments. -/
def args : Args where
  p := ext fun (t : Fin 16384) (j : Fin 2576) => a0 m c (ix2 t j)
  w := ext fun (r : Fin 16) (k : Fin 256) => a1 m c (ix3 0 r k)
  bg := ext (fun (u : Fin 1) (k : Fin 256) => a2 m c (ix2 u k)) 0
  gn := ext (fun (u : Fin 1) (j : Fin 128) => a3 m c (ix2 u j)) 0
  dm := ext fun (t : Fin 16384) (j : Fin 1024) => a4 m c (ix2 t j)

variable {m c} [Cert.Pre_finite_gla.Facts]

theorem holds (hp : Pre_GlaKernelIdeal_finite_gla m) (c : Dev nD) : GlaRefPure.Holds (args m c) (a0 m c) (a1 m c) (a2 m c) (a3 m c) (a4 m c) where
  p t j := (real_of_finite (hp c).1 (fun _ => by pointwise [ofBits_top]) _).trans (GlaPure.coe_congr (ext_coe (fun (t : Fin 16384) (j : Fin 2576) => a0 m c (ix2 t j)) t j).symm)
  w r k := (real_of_finite (hp c).2.1 (fun _ => by pointwise [ofBits_top]) _).trans (GlaPure.coe_congr (ext_coe (fun (r : Fin 16) (k : Fin 256) => a1 m c (ix3 0 r k)) r k).symm)
  bg k := (real_of_finite (hp c).2.2.1 (fun _ => by pointwise [ofBits_top]) _).trans (GlaPure.coe_congr (ext_coe (fun (u : Fin 1) (k : Fin 256) => a2 m c (ix2 u k)) 0 k).symm)
  gn j := (real_of_finite (hp c).2.2.2.1 (fun _ => by pointwise [ofBits_top]) _).trans (GlaPure.coe_congr (ext_coe (fun (u : Fin 1) (j : Fin 128) => a3 m c (ix2 u j)) 0 j).symm)
  dm t j := (real_of_finite (hp c).2.2.2.2 (fun _ => by pointwise [ofBits_top]) _).trans (GlaPure.coe_congr (ext_coe (fun (t : Fin 16384) (j : Fin 1024) => a4 m c (ix2 t j)) t j).symm)

theorem algebraic [hk : Cert.GlaKernelIdeal.Facts] [hr : Cert.GlaRefIdeal.Facts] :
    algebraic_GlaKernelIdeal_GlaRefIdeal_pre_finite_gla := by
  intro m g m' g' hp ha
  refine ⟨fun c i => ((out (args m c) (i 0) (i 1) : ℝ) : EReal), fun c i => ((dwg (args m c) (i 0) (i 1) : ℝ) : EReal),
    fun c i => ((dbg (args m c) (i 1) : ℝ) : EReal), fun c i => ((dgn (args m c) (i 1) : ℝ) : EReal), ?_, ?_⟩
  · refine (θ_run _ _ _).mono (fun r h c => ?_) (Cert.GlaKernelIdeal.Value.run_blocks m g)
    have H := holds hp c
    have h := h c
    rw [GlaFinal.final11 H, GlaFinal.final12 H, GlaFinal.final13 H, GlaFinal.final14 H] at h
    exact h
  · refine (θ_run _ _ _).mono (fun r h c => ?_) (Cert.GlaRefIdeal.Value.run m' g')
    obtain ⟨b0, b1, b2, b3, b4⟩ := ha c
    have H := holds hp c
    have R : GlaRefPure.Holds (args m c) _ _ _ _ _ :=
      ⟨fun t j => (congrFun b0 _).trans (H.p t j), fun r k => (congrFun b1 _).trans (H.w r k), fun k => (congrFun b2 _).trans (H.bg k),
       fun j => (congrFun b3 _).trans (H.gn j), fun t j => (congrFun b4 _).trans (H.dm t j)⟩
    obtain ⟨r0, r1, r2, r3, rest⟩ := h c
    refine ⟨r0.trans ((Cert.GlaRefIdeal.Read.val_main_v140_eq _).trans (funext fun i => ?_)), r1.trans ((Cert.GlaRefIdeal.Read.val_main_v141_eq _).trans (funext fun i => ?_)),
      r2.trans ((Cert.GlaRefIdeal.Read.val_main_v142_eq _).trans (funext fun i => ?_)), r3.trans ((Cert.GlaRefIdeal.Read.val_main_v143_eq _).trans (funext fun i => ?_)), rest⟩
    · idx_vars i; exact GlaRefPure.r_out R i0 i1
    · idx_vars i; exact GlaRefPure.r_dwg R i0 i1
    · idx_vars i; exact GlaRefPure.r_db R i0 i1
    · idx_vars i; exact GlaRefPure.r_dgn R i0 i1

end Cert.GlaClaim
-- ==== Proof.InprojRing.lean ====
/- What a three-slot ring, two blocks ahead, holds before and after a point, as one entailment each: the frame of a kernel that streams operands
   through such rings uses them ring by ring, without rewriting its whole goal. -/
module

public import Idealize.ShloMosaic.Lib.Ring

@[expose] public section

namespace Cert.InprojRing

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.Ring

variable {M : Type _} [URA M] {NB : ℕ} [NeZero NB] {C : Fin 3 → Type _} (cell : Fin 3 → sProp M) (slot : (s : Fin 3) → C s → sProp M)
  (flight : (s : Fin 3) → Fin NB → C s → sProp M)

/-- The ring before point `k`, no block held apart: every slot free before the first point, then two blocks ahead. -/
def ring (k : ℕ) : sProp M :=
  if k = 0 then At₀ cell slot (fun _ : Fin NB => iprop(emp)) else At 2 cell slot (fun _ => iprop(emp)) flight k

/-- Before the first point every slot is free. -/
theorem first_in (k : ℕ) (hk : k = 0) (h : 3 ≤ NB) :
    ring cell slot flight k ⊢ iprop(free cell slot (sl 3 k) ∗ free cell slot (sl 3 (k + 1)) ∗ free cell slot (sl 3 (k + 2))) := by
  unfold ring
  rw [if_pos hk, At₀_eq3' _ _ _ k hk h]
  iintro ⟨-, H⟩
  iexact H

/-- After the first point two blocks are in flight and its own slot is free. -/
theorem first_out (k : ℕ) (hk : k = 0) (h : 3 ≤ NB) :
    iprop(inflight flight (sl 3 (k + 1)) (bk NB (k + 1)) ∗ inflight flight (sl 3 (k + 2)) (bk NB (k + 2)) ∗ free cell slot (sl 3 k))
      ⊢ ring cell slot flight (k + 1) := by
  unfold ring
  rw [if_neg (Nat.succ_ne_zero k), At3_one' _ _ _ _ k hk h]
  exact with_homes (Idealize.SL.BI.Entails.refl _)

/-- Before a later point that still starts a block: two in flight, one slot free. -/
theorem mid_in (k : ℕ) (h1 : 1 ≤ k) (hB : k + 2 < NB) :
    ring cell slot flight k
      ⊢ iprop(inflight flight (sl 3 k) (bk NB k) ∗ inflight flight (sl 3 (k + 1)) (bk NB (k + 1)) ∗ free cell slot (sl 3 (k + 2))) := by
  unfold ring
  rw [if_neg (by omega), At3_here _ _ _ _ k hB]
  iintro ⟨-, H⟩
  iexact H

/-- After it the block that it waited for has left its slot free and the one that it started is in flight. -/
theorem mid_out (k : ℕ) (hB : k + 2 < NB) :
    iprop(inflight flight (sl 3 (k + 1)) (bk NB (k + 1)) ∗ inflight flight (sl 3 (k + 2)) (bk NB (k + 2)) ∗ free cell slot (sl 3 k))
      ⊢ ring cell slot flight (k + 1) := by
  unfold ring
  rw [if_neg (Nat.succ_ne_zero k), At3_next _ _ _ _ k hB, slotAt3_next0 _ _ _ k (by omega), slotAt3_next1 _ _ _ k hB]
  exact with_homes (Idealize.SL.BI.Entails.refl _)

/-- Before one of the last two points: its block in flight, the next one's slot in its role, the third slot free. -/
theorem tail_in (k : ℕ) (h1 : 1 ≤ k) (hk : k < NB) :
    ring cell slot flight k
      ⊢ iprop(inflight flight (sl 3 k) (bk NB k) ∗ slotAt 2 cell slot flight k 1 ∗ free cell slot (sl 3 (k + 2))) := by
  unfold ring
  rw [if_neg (by omega), At3_here_tail _ _ _ _ k hk]
  iintro ⟨-, H⟩
  iexact H

/-- After it its own slot is free too. -/
theorem tail_out (k : ℕ) (hB : NB ≤ k + 2) (hk : k < NB) :
    iprop(slotAt 2 cell slot flight k 1 ∗ free cell slot (sl 3 (k + 2)) ∗ free cell slot (sl 3 k)) ⊢ ring cell slot flight (k + 1) := by
  unfold ring
  rw [if_neg (Nat.succ_ne_zero k), At3_next_tail _ _ _ _ k hB hk, slotAt3_tail_role _ _ _ k]
  exact with_homes (Idealize.SL.BI.Entails.refl _)

/-- A body's triple over its own resources gives the pipeline's: the rings' pieces `A`, `B`, `C`, `D` go in and come back as the next point's, each by
    the entailments `hin` and `hout`, the inputs `P0`, `P1` are kept, the outputs go from `E2`, `E3` to `R2`, `R3`. -/
theorem shell {M : Type _} [URA M] {ω δ0 δ1 δ2 δ3 : Type _} {p p' : ω → Prop} {owe : ω → sProp M} {G : (PUnit → sProp M) → sProp M}
    {Φ Φ' R P0 P1 P2 P3 Q2 Q3 R2 R3 A0 A1 A2 B0 B1 B2 C0 C1 C2 D0 D1 D2 A0' A1' A2' B0' B1' B2' C0' C1' C2' D0' D1' D2' : sProp M}
    {E2 : δ2 → sProp M} {E3 : δ3 → sProp M}
    (hin : Φ ⊢ iprop(R ∗ (A0 ∗ A1 ∗ A2) ∗ (B0 ∗ B1 ∗ B2) ∗ (C0 ∗ C1 ∗ C2) ∗ (D0 ∗ D1 ∗ D2)))
    (hout : iprop(R ∗ (A0' ∗ A1' ∗ A2') ∗ (B0' ∗ B1' ∗ B2') ∗ (C0' ∗ C1' ∗ C2') ∗ (D0' ∗ D1' ∗ D2')) ⊢ Φ')
    (h2 : Q2 ⊢ R2) (h3 : Q3 ⊢ R3) (e2 : iprop(∃ d, E2 d) ⊢ P2) (e3 : iprop(∃ d, E3 d) ⊢ P3) (hp : ∀ w, p' w)
    (run : ∀ (W : ω) (K : PUnit → sProp M), iprop(P0 ∗ P1 ∗ P2 ∗ P3 ∗ A0 ∗ A1 ∗ A2 ∗ B0 ∗ B1 ∗ B2 ∗ C0 ∗ C1 ∗ C2 ∗ D0 ∗ D1 ∗ D2 ∗ owe W
      ∗ (iprop(P0 ∗ P1 ∗ Q2 ∗ Q3 ∗ A0' ∗ A1' ∗ A2' ∗ B0' ∗ B1' ∗ B2' ∗ C0' ∗ C1' ∗ C2' ∗ D0' ∗ D1' ∗ D2' ∗ (∃ W', owe W')) -∗ K ⟨⟩)) ⊢ G K) :
    iprop(Φ ∗ (∃ W, ⌜p W⌝ ∗ owe W) ∗ (∃ _ : δ0, P0) ∗ (∃ _ : δ1, P1) ∗ (∃ d, E2 d) ∗ (∃ d, E3 d))
      ⊢ G (fun _ => iprop(Φ' ∗ (∃ W, ⌜p' W⌝ ∗ owe W) ∗ P0 ∗ P1 ∗ R2 ∗ R3)) := by
  iintro ⟨HΦ, ⟨%W, -, HW⟩, ⟨%d0, H0⟩, ⟨%d1, H1⟩, H2, H3⟩
  ihave HΦ' := hin $$ HΦ
  icases HΦ' with ⟨Hg, ⟨A0, A1, A2⟩, ⟨B0, B1, B2⟩, ⟨C0, C1, C2⟩, ⟨D0, D1, D2⟩⟩
  iapply (run W _)
  isplitl [H0]; · iexact H0
  isplitl [H1]; · iexact H1
  isplitl [H2]; · iapply e2; iexact H2
  isplitl [H3]; · iapply e3; iexact H3
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  isplitl [C2]; · iexact C2
  isplitl [D0]; · iexact D0
  isplitl [D1]; · iexact D1
  isplitl [D2]; · iexact D2
  isplitl [HW]; · iexact HW
  iintro ⟨H0, H1, H2, H3, A0, A1, A2, B0, B1, B2, C0, C1, C2, D0, D1, D2, ⟨%W', HW'⟩⟩
  isplitl [Hg A0 A1 A2 B0 B1 B2 C0 C1 C2 D0 D1 D2]
  · iapply hout
    isplitl [Hg]; · iexact Hg
    isplitl [A0 A1 A2]
    · isplitl [A0]; · iexact A0
      isplitl [A1]; · iexact A1
      iexact A2
    isplitl [B0 B1 B2]
    · isplitl [B0]; · iexact B0
      isplitl [B1]; · iexact B1
      iexact B2
    isplitl [C0 C1 C2]
    · isplitl [C0]; · iexact C0
      isplitl [C1]; · iexact C1
      iexact C2
    isplitl [D0]; · iexact D0
    isplitl [D1]; · iexact D1
    iexact D2
  isplitl [HW']
  · iexists W'; isplitr; · ipureintro; exact hp W'
    iexact HW'
  isplitl [H0]; · iexact H0
  isplitl [H1]; · iexact H1
  isplitl [H2]; · iapply h2; iexact H2
  iapply h3; iexact H3

section Deal

variable {M : Type _} [URA M] {G S0 S1 S2 S3 Q0 Q1 Q2 Q3 Q4 Q5 Q6 Q7 Q8 Q9 Q10 Q11 H0 H1 H2 H3 R0 R1 R2 R3 : sProp M}

/-- Four rings' memory, semaphores and source arrays, kind by kind, dealt out ring by ring. -/
theorem deal (h0 : iprop(S0 ∗ (Q0 ∗ Q1 ∗ Q2) ∗ H0) ⊢ R0) (h1 : iprop(S1 ∗ (Q3 ∗ Q4 ∗ Q5) ∗ H1) ⊢ R1)
    (h2 : iprop(S2 ∗ (Q6 ∗ Q7 ∗ Q8) ∗ H2) ⊢ R2) (h3 : iprop(S3 ∗ (Q9 ∗ Q10 ∗ Q11) ∗ H3) ⊢ R3) :
    iprop((S0 ∗ S1 ∗ S2 ∗ S3) ∗ G ∗ (Q0 ∗ Q1 ∗ Q2 ∗ Q3 ∗ Q4 ∗ Q5 ∗ Q6 ∗ Q7 ∗ Q8 ∗ Q9 ∗ Q10 ∗ Q11) ∗ (H0 ∗ H1 ∗ H2 ∗ H3))
      ⊢ iprop(G ∗ R0 ∗ R1 ∗ R2 ∗ R3) := by
  have pack {S A B C H : sProp M} : S ⊢ iprop(A -∗ B -∗ C -∗ H -∗ (S ∗ (A ∗ B ∗ C) ∗ H)) := by
    iintro s a b c h
    isplitl [s]; · iexact s
    isplitr [h]
    · isplitl [a]; · iexact a
      isplitl [b]; · iexact b
      iexact c
    iexact h
  iintro ⟨⟨s0, s1, s2, s3⟩, g, ⟨a0, a1, a2, b0, b1, b2, c0, c1, c2, d0, d1, d2⟩, ⟨e0, e1, e2, e3⟩⟩
  isplitl [g]; · iexact g
  isplitl [s0 a0 a1 a2 e0]; · iapply h0; iapply pack $$ s0 a0 a1 a2 e0
  isplitl [s1 b0 b1 b2 e1]; · iapply h1; iapply pack $$ s1 b0 b1 b2 e1
  isplitl [s2 c0 c1 c2 e2]; · iapply h2; iapply pack $$ s2 c0 c1 c2 e2
  iapply h3; iapply pack $$ s3 d0 d1 d2 e3

/-- And collected again at the end. -/
theorem collect (h0 : R0 ⊢ iprop(S0 ∗ (Q0 ∗ Q1 ∗ Q2) ∗ H0)) (h1 : R1 ⊢ iprop(S1 ∗ (Q3 ∗ Q4 ∗ Q5) ∗ H1))
    (h2 : R2 ⊢ iprop(S2 ∗ (Q6 ∗ Q7 ∗ Q8) ∗ H2)) (h3 : R3 ⊢ iprop(S3 ∗ (Q9 ∗ Q10 ∗ Q11) ∗ H3)) :
    iprop(G ∗ R0 ∗ R1 ∗ R2 ∗ R3)
      ⊢ iprop((S0 ∗ S1 ∗ S2 ∗ S3) ∗ G ∗ (Q0 ∗ Q1 ∗ Q2 ∗ Q3 ∗ Q4 ∗ Q5 ∗ Q6 ∗ Q7 ∗ Q8 ∗ Q9 ∗ Q10 ∗ Q11) ∗ (H0 ∗ H1 ∗ H2 ∗ H3)) := by
  refine (BIClass.sep_mono (Idealize.SL.BI.Entails.refl _) (BIClass.sep_mono h0 (BIClass.sep_mono h1 (BIClass.sep_mono h2 h3)))).trans ?_
  iintro ⟨g, ⟨s0, ⟨a0, a1, a2⟩, e0⟩, ⟨s1, ⟨b0, b1, b2⟩, e1⟩, ⟨s2, ⟨c0, c1, c2⟩, e2⟩, ⟨s3, ⟨d0, d1, d2⟩, e3⟩⟩
  isplitl [s0 s1 s2 s3]
  · isplitl [s0]; · iexact s0
    isplitl [s1]; · iexact s1
    isplitl [s2]; · iexact s2
    iexact s3
  isplitl [g]; · iexact g
  isplitr [e0 e1 e2 e3]
  · isplitl [a0]; · iexact a0
    isplitl [a1]; · iexact a1
    isplitl [a2]; · iexact a2
    isplitl [b0]; · iexact b0
    isplitl [b1]; · iexact b1
    isplitl [b2]; · iexact b2
    isplitl [c0]; · iexact c0
    isplitl [c1]; · iexact c1
    isplitl [c2]; · iexact c2
    isplitl [d0]; · iexact d0
    isplitl [d1]; · iexact d1
    iexact d2
  isplitl [e0]; · iexact e0
  isplitl [e1]; · iexact e1
  isplitl [e2]; · iexact e2
  iexact e3

end Deal

/-- A value that does not depend on the variable of an existential. -/
theorem exists_const {M : Type _} [URA M] {δ : Type _} {P : sProp M} : iprop(∃ _ : δ, P) ⊢ P := by
  iintro ⟨%d, H⟩
  iexact H

end Cert.InprojRing
-- ==== Proof.InprojRun.lean ====
/- The run of the input projection's backward call, over any float values: what each grid point leaves in the two outputs, the body's triple at a
   point, and the launch.  Both programs' frames and the value claim read it. -/
module

public import proofs.«01_k».proof.Proof.Gen.InprojKernelIdeal.Frame.RunC
public import proofs.«01_k».proof.Proof.InprojRing
public import Idealize.ShloMosaic.Lib.Claim

@[expose] public section

set_option maxRecDepth 16384

noncomputable section

namespace Cert.InprojRun

open Cert.InprojKernelIdeal Cert.InprojKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

/-! ## What a point leaves -/

/-- The staging buffers of a point. -/
structure Bufs where
  gain : Memref sig .tc .vmem S1x1024 .f32
  gainWhole : gain.IsWhole
  w : Memref sig .tc .vmem S2576x1024 .bf16
  wWhole : w.IsWhole
  dx : Memref sig .tc .vmem S512x1024 .f32
  dxWhole : dx.IsWhole
  dg : Memref sig .tc .vmem S1x1024 .f32
  dgWhole : dg.IsWhole

/-- What a point reads: two staged blocks, and four arrays through their rings. -/
structure Ins (F : FTy → Type) [FloatOps F] (c : Dev nD) where
  gain : Vec F S1x1024 .f32
  w : Vec F S2576x1024 .bf16
  x : HbBuf0 (F := F) c hbM0_0
  dh : HbBuf0 (F := F) c hbM0_1
  dpg : HbBuf0 (F := F) c hbM0_2
  dpc : HbBuf0 (F := F) c hbM0_3

/-- The two outputs' blocks. -/
abbrev Outs (F : FTy → Type) [FloatOps F] := Vec F S512x1024 .f32 × Vec F S1x1024 .f32

section Cases

variable (c : Dev nD) (t : Fin cfg0.N) (P : Bufs) (X : Ins F c) (xo : Vec F S1x1024 .f32)

/-- The outputs' blocks at the first point: the run's stores, read back. -/
def leftA (hc0 : cond0_0 (grid0.coords t)) (hc1 : cond0_1 (grid0.coords t)) : Outs F :=
  (VO0_2.read (Elt F) (VO0_2.writes (Elt F) VO0_2.junk (kernelRun0_A c t P.gain P.gainWhole P.w P.wWhole P.dx P.dxWhole P.dg P.dgWhole hc0 hc1 X.gain X.w X.x X.dh X.dpg X.dpc).1),
   VO0_3.read (Elt F) (VO0_3.writes (Elt F) VO0_3.junk (kernelRun0_A c t P.gain P.gainWhole P.w P.wWhole P.dx P.dxWhole P.dg P.dgWhole hc0 hc1 X.gain X.w X.x X.dh X.dpg X.dpc).2.1))

/-- The outputs' blocks at a later point that starts a block: the run's stores, read back. -/
def leftB (hc0 : ¬cond0_0 (grid0.coords t)) (hc1 : cond0_1 (grid0.coords t)) : Outs F :=
  (VO0_2.read (Elt F) (VO0_2.writes (Elt F) VO0_2.junk (kernelRun0_B c t P.gain P.gainWhole P.w P.wWhole P.dx P.dxWhole P.dg P.dgWhole hc0 hc1 X.gain X.w xo X.x X.dh X.dpg X.dpc).1),
   VO0_3.read (Elt F) (VO0_3.writes (Elt F) VO0_3.junk (kernelRun0_B c t P.gain P.gainWhole P.w P.wWhole P.dx P.dxWhole P.dg P.dgWhole hc0 hc1 X.gain X.w xo X.x X.dh X.dpg X.dpc).2.1))

/-- The outputs' blocks at one of the last two points: the run's stores, read back. -/
def leftC (hc0 : ¬cond0_0 (grid0.coords t)) (hc1 : ¬cond0_1 (grid0.coords t)) : Outs F :=
  (VO0_2.read (Elt F) (VO0_2.writes (Elt F) VO0_2.junk (kernelRun0_C c t P.gain P.gainWhole P.w P.wWhole P.dx P.dxWhole P.dg P.dgWhole hc0 hc1 X.gain X.w xo X.x X.dh X.dpg X.dpc).1),
   VO0_3.read (Elt F) (VO0_3.writes (Elt F) VO0_3.junk (kernelRun0_C c t P.gain P.gainWhole P.w P.wWhole P.dx P.dxWhole P.dg P.dgWhole hc0 hc1 X.gain X.w xo X.x X.dh X.dpg X.dpc).2.1))

/-- A buffer whose stores tile its block is owned at what any other buffer of that block would read after them. -/
theorem owns_of_tiled {S : Shape} {e : EltTy} (M : Memref sig .tc .vmem S e) (V : View sig .tc .vmem S e) (L : List (View.Piece (Elt F) S e))
    (h : View.Piece.tiledL L S.size = true) :
    iprop(∃ f, M.view.loc (c : Thread nD τ) ↦[M.view.set]{fullShare} M.view.writes (Elt F) f L)
      ⊢ (owns (c : Thread nD τ) M fullShare (V.read (Elt F) (V.writes (Elt F) V.junk L)) : sProp 𝕄) := by
  iintro ⟨%f, H⟩
  unfold owns; iexists _; isplitr
  swap; · iexact H
  ipureintro
  exact View.read_writes_of_cover M.view f V V.junk L (View.cover_of_tiledL L S.size h)

/-- A buffer owned at some block. -/
theorem owns_some {S : Shape} {e : EltTy} (M : Memref sig .tc .vmem S e) {δ : Type _} (E : δ → Vec F S e) :
    iprop(∃ d, owns (c : Thread nD τ) M fullShare (E d)) ⊢ (iprop(∃ d, owns (c : Thread nD τ) M fullShare d) : sProp 𝕄) := by
  iintro ⟨%d, H⟩
  iexists _; iexact H

/-- The generator's register and the four rings before point `k`. -/
def rings (k : ℕ) : sProp 𝕄 :=
  iprop((∃ r, prngReg c r) ∗ ringAt0_0 c X.x k ∗ ringAt0_1 c X.dh k ∗ ringAt0_2 c X.dpg k ∗ ringAt0_3 c X.dpc k)

theorem beside {R A0 A1 A2 A3 B0 B1 B2 B3 : sProp 𝕄} (h0 : A0 ⊢ B0) (h1 : A1 ⊢ B1) (h2 : A2 ⊢ B2) (h3 : A3 ⊢ B3) :
    iprop(R ∗ A0 ∗ A1 ∗ A2 ∗ A3) ⊢ iprop(R ∗ B0 ∗ B1 ∗ B2 ∗ B3) :=
  BIClass.sep_mono (Idealize.SL.BI.Entails.refl _) (BIClass.sep_mono h0 (BIClass.sep_mono h1 (BIClass.sep_mono h2 h3)))

/-- The body at a point turns the outputs' buffers from `E2`, `E3` into `o`, and the rings into the next point's. -/
def Steps {δ2 δ3 : Type} (E2 : δ2 → Vec F S512x1024 .f32) (E3 : δ3 → Vec F S1x1024 .f32) (o : Outs F) : Prop :=
  ∀ (δ0 δ1 : Type) (p p' : Waits sig Unit → Prop) (_ : ∀ W, p' W),
    iprop(rings c X t.val ∗ (∃ W, ⌜p W⌝ ∗ owes (c : Thread nD τ) 0 W)
        ∗ (∃ _ : δ0, owns (c : Thread nD τ) P.gain fullShare X.gain) ∗ (∃ _ : δ1, owns (c : Thread nD τ) P.w fullShare X.w)
        ∗ (∃ d, owns (c : Thread nD τ) P.dx fullShare (E2 d)) ∗ (∃ d, owns (c : Thread nD τ) P.dg fullShare (E3 d)))
      ⊢ wp frame (wpE (defs₀ (F := F)) Variants.none c none) Set.univ (cc0_inproj_bwd (grid0.coords t) P.gain P.gainWhole P.w P.wWhole
          (Memref.whole main_v3) (Memref.isWhole_whole _) (Memref.whole main_v7) (Memref.isWhole_whole _) (Memref.whole main_v2)
          (Memref.isWhole_whole _) (Memref.whole main_v9) (Memref.isWhole_whole _) P.dx P.dxWhole P.dg P.dgWhole scM0_0 (Memref.isWhole_whole _)
          scM0_1 (Memref.isWhole_whole _) scM0_2 (Memref.isWhole_whole _) scM0_3 (Memref.isWhole_whole _) cc0_scratch4)
        (fun _ => iprop(rings c X (t.val + 1) ∗ (∃ W, ⌜p' W⌝ ∗ owes (c : Thread nD τ) 0 W)
          ∗ owns (c : Thread nD τ) P.gain fullShare X.gain ∗ owns (c : Thread nD τ) P.w fullShare X.w
          ∗ owns (c : Thread nD τ) P.dx fullShare o.1 ∗ owns (c : Thread nD τ) P.dg fullShare o.2))

set_option maxHeartbeats 2400000 in
theorem stepsA (hc0 : cond0_0 (grid0.coords t)) (hc1 : cond0_1 (grid0.coords t)) {δ2 δ3 : Type} (E2 : δ2 → Vec F S512x1024 .f32) (E3 : δ3 → Vec F S1x1024 .f32) :
    Steps c t P X E2 E3 (leftA c t P X hc0 hc1) := by
  intro δ0 δ1 p p' hp
  have hk : t.val = 0 := (rstep0_0_A t hc0 hc1).1
  unfold rings leftA
  dsimp only
  exact InprojRing.shell
    (beside (InprojRing.first_in (cellP0_0 c) (slotW0_0 c X.x) (flightW0_0 c X.x) t.val hk (by decide))
      (InprojRing.first_in (cellP0_1 c) (slotW0_1 c X.dh) (flightW0_1 c X.dh) t.val hk (by decide))
      (InprojRing.first_in (cellP0_2 c) (slotW0_2 c X.dpg) (flightW0_2 c X.dpg) t.val hk (by decide))
      (InprojRing.first_in (cellP0_3 c) (slotW0_3 c X.dpc) (flightW0_3 c X.dpc) t.val hk (by decide)))
    (beside (InprojRing.first_out (cellP0_0 c) (slotW0_0 c X.x) (flightW0_0 c X.x) t.val hk (by decide))
      (InprojRing.first_out (cellP0_1 c) (slotW0_1 c X.dh) (flightW0_1 c X.dh) t.val hk (by decide))
      (InprojRing.first_out (cellP0_2 c) (slotW0_2 c X.dpg) (flightW0_2 c X.dpg) t.val hk (by decide))
      (InprojRing.first_out (cellP0_3 c) (slotW0_3 c X.dpc) (flightW0_3 c X.dpc) t.val hk (by decide)))
    (owns_of_tiled c P.dx VO0_2 _ (by sl_kernel_rfl)) (owns_of_tiled c P.dg VO0_3 _ (by sl_kernel_rfl))
    (owns_some c P.dx E2) (owns_some c P.dg E3) hp (kernelRun0_A c t P.gain P.gainWhole P.w P.wWhole P.dx P.dxWhole P.dg P.dgWhole hc0 hc1 X.gain X.w X.x X.dh X.dpg X.dpc).2.2

set_option maxHeartbeats 2400000 in
theorem stepsB (hc0 : ¬cond0_0 (grid0.coords t)) (hc1 : cond0_1 (grid0.coords t)) {δ2 δ3 : Type} (E2 : δ2 → Vec F S512x1024 .f32) :
    Steps c t P X E2 (fun _ : δ3 => xo) (leftB c t P X xo hc0 hc1) := by
  intro δ0 δ1 p p' hp
  obtain ⟨hk, hB, -⟩ := rstep0_0_B t hc0 hc1
  unfold rings leftB
  dsimp only
  exact InprojRing.shell
    (beside (InprojRing.mid_in (cellP0_0 c) (slotW0_0 c X.x) (flightW0_0 c X.x) t.val hk hB)
      (InprojRing.mid_in (cellP0_1 c) (slotW0_1 c X.dh) (flightW0_1 c X.dh) t.val hk hB)
      (InprojRing.mid_in (cellP0_2 c) (slotW0_2 c X.dpg) (flightW0_2 c X.dpg) t.val hk hB)
      (InprojRing.mid_in (cellP0_3 c) (slotW0_3 c X.dpc) (flightW0_3 c X.dpc) t.val hk hB))
    (beside (InprojRing.mid_out (cellP0_0 c) (slotW0_0 c X.x) (flightW0_0 c X.x) t.val hB)
      (InprojRing.mid_out (cellP0_1 c) (slotW0_1 c X.dh) (flightW0_1 c X.dh) t.val hB)
      (InprojRing.mid_out (cellP0_2 c) (slotW0_2 c X.dpg) (flightW0_2 c X.dpg) t.val hB)
      (InprojRing.mid_out (cellP0_3 c) (slotW0_3 c X.dpc) (flightW0_3 c X.dpc) t.val hB))
    (owns_of_tiled c P.dx VO0_2 _ (by sl_kernel_rfl)) (owns_of_tiled c P.dg VO0_3 _ (by sl_kernel_rfl))
    (owns_some c P.dx E2) InprojRing.exists_const hp (kernelRun0_B c t P.gain P.gainWhole P.w P.wWhole P.dx P.dxWhole P.dg P.dgWhole hc0 hc1 X.gain X.w xo X.x X.dh X.dpg X.dpc).2.2

set_option maxHeartbeats 2400000 in
theorem stepsC (hc0 : ¬cond0_0 (grid0.coords t)) (hc1 : ¬cond0_1 (grid0.coords t)) {δ2 δ3 : Type} (E2 : δ2 → Vec F S512x1024 .f32) :
    Steps c t P X E2 (fun _ : δ3 => xo) (leftC c t P X xo hc0 hc1) := by
  intro δ0 δ1 p p' hp
  obtain ⟨hk, hB, hlt, -⟩ := rstep0_0_C t hc0 hc1
  unfold rings leftC
  dsimp only
  exact InprojRing.shell
    (beside (InprojRing.tail_in (cellP0_0 c) (slotW0_0 c X.x) (flightW0_0 c X.x) t.val hk hlt)
      (InprojRing.tail_in (cellP0_1 c) (slotW0_1 c X.dh) (flightW0_1 c X.dh) t.val hk hlt)
      (InprojRing.tail_in (cellP0_2 c) (slotW0_2 c X.dpg) (flightW0_2 c X.dpg) t.val hk hlt)
      (InprojRing.tail_in (cellP0_3 c) (slotW0_3 c X.dpc) (flightW0_3 c X.dpc) t.val hk hlt))
    (beside (InprojRing.tail_out (cellP0_0 c) (slotW0_0 c X.x) (flightW0_0 c X.x) t.val hB hlt)
      (InprojRing.tail_out (cellP0_1 c) (slotW0_1 c X.dh) (flightW0_1 c X.dh) t.val hB hlt)
      (InprojRing.tail_out (cellP0_2 c) (slotW0_2 c X.dpg) (flightW0_2 c X.dpg) t.val hB hlt)
      (InprojRing.tail_out (cellP0_3 c) (slotW0_3 c X.dpc) (flightW0_3 c X.dpc) t.val hB hlt))
    (owns_of_tiled c P.dx VO0_2 _ (by sl_kernel_rfl)) (owns_of_tiled c P.dg VO0_3 _ (by sl_kernel_rfl))
    (owns_some c P.dx E2) InprojRing.exists_const hp (kernelRun0_C c t P.gain P.gainWhole P.w P.wWhole P.dx P.dxWhole P.dg P.dgWhole hc0 hc1 X.gain X.w xo X.x X.dh X.dpg X.dpc).2.2

end Cases

/-! ## The outputs along the grid -/

variable (m : (ℓ : Loc nD τ sig) → Buf (Elt F) ℓ) (ρ : Dev nD → PrngReg) (c : Dev nD)

/-- Point `t`'s staging buffers. -/
abbrev bufs (t : Fin cfg0.N) : Bufs := ⟨ms0_0 t, hs0_0 t, ms0_1 t, hs0_1 t, ms0_2 t, hs0_2 t, ms0_3 t, hs0_3 t⟩

/-- What point `t` reads. -/
abbrev ins (t : Fin cfg0.N) : Ins F c := ⟨iblk m c 0 t, iblk m c 1 t, V m c main_v3, V m c main_v7, V m c main_v2, V m c main_v9⟩

theorem lt32 (t : Fin cfg0.N) : t.val < 32 := lt_of_lt_of_eq t.isLt N_0

theorem first {t : Fin cfg0.N} (h : t.val = 0) : cond0_0 (grid0.coords t) := (hcond0_0 t).mpr (by omega)
theorem later {t : Fin cfg0.N} (h : t.val ≠ 0) : ¬cond0_0 (grid0.coords t) := fun k => by have := (hcond0_0 t).mp k; have := lt32 t; omega
theorem starts {t : Fin cfg0.N} (h : t.val < 30) : cond0_1 (grid0.coords t) := (hcond0_1 t).mpr h
theorem drains {t : Fin cfg0.N} (h : ¬t.val < 30) : ¬cond0_1 (grid0.coords t) := fun k => h ((hcond0_1 t).mp k)

/-- What point `t` makes of the gain's gradient so far. -/
def step (t : Fin cfg0.N) (xo : Vec F S1x1024 .f32) : Outs F :=
  if h : t.val = 0 then leftA c t (bufs t) (ins m c t) (first h) (starts (by omega))
  else if h1 : t.val < 30 then leftB c t (bufs t) (ins m c t) xo (later h) (starts h1)
  else leftC c t (bufs t) (ins m c t) xo (later h) (drains h1)

/-- The outputs' blocks after point `n`: the steps up to it, one over the other. -/
def outs : (n : ℕ) → n < cfg0.N → Outs F
  | 0, h => step m c ⟨0, h⟩ (VO0_3.read (Elt F) VO0_3.junk)
  | n + 1, h => step m c ⟨n + 1, h⟩ (outs n (Nat.lt_of_succ_lt h)).2

/-- The blocks that the point before `t` left. -/
abbrev prior (t : Fin cfg0.N) : Outs F := outs m c (t.val - 1) (Nat.lt_of_le_of_lt (Nat.sub_le _ _) t.isLt)

theorem outs_later (t : Fin cfg0.N) (h : t.val ≠ 0) : outs m c t.val t.isLt = step m c t (prior m c t).2 := by
  rcases t with ⟨_ | n, hn⟩
  · exact absurd rfl h
  · rfl

theorem outs_first (t : Fin cfg0.N) (h : t.val = 0) : outs m c t.val t.isLt = step m c t (VO0_3.read (Elt F) VO0_3.junk) := by
  rcases t with ⟨_ | n, hn⟩
  · rfl
  · exact absurd h (Nat.succ_ne_zero n)

theorem outs_A (t : Fin cfg0.N) (h : t.val = 0) :
    outs m c t.val t.isLt = leftA c t (bufs t) (ins m c t) (first h) (starts (by omega)) :=
  (outs_first m c t h).trans (dif_pos h)

theorem outs_B (t : Fin cfg0.N) (h : t.val ≠ 0) (h1 : t.val < 30) :
    outs m c t.val t.isLt = leftB c t (bufs t) (ins m c t) (prior m c t).2 (later h) (starts h1) :=
  (outs_later m c t h).trans ((dif_neg h).trans (dif_pos h1))

theorem outs_C (t : Fin cfg0.N) (h : t.val ≠ 0) (h1 : ¬t.val < 30) :
    outs m c t.val t.isLt = leftC c t (bufs t) (ins m c t) (prior m c t).2 (later h) (drains h1) :=
  (outs_later m c t h).trans ((dif_neg h).trans (dif_neg h1))

/-- The pipeline's data: inputs at their blocks, outputs at `outs`, the rings as invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ k := iprop((∃ r, prngReg c r) ∗ ringAt0_0 c (V m c main_v3) k.val ∗ ringAt0_1 c (V m c main_v7) k.val
    ∗ ringAt0_2 c (V m c main_v2) k.val ∗ ringAt0_3 c (V m c main_v9) k.val)
  q _ := fullShare
  owed _ := 0

theorem entry (w : Fin cfg0.W) : (dats m 0 c).A w = V m c (Pipeline.arrRef spec0 w) := by dsimp only [dats]

theorem after_dx (t : Fin cfg0.N) : (dats m 0 c).after 2 t = (outs m c t.val t.isLt).1 := by dsimp only [dats]
theorem after_dg (t : Fin cfg0.N) : (dats m 0 c).after 3 t = (outs m c t.val t.isLt).2 := by dsimp only [dats]

/-- The gain's gradient is kept from one point to the next. -/
theorem kept (t : Fin cfg0.N) (h : t.val ≠ 0) (d) : (dats m 0 c).before 3 t d = (prior m c t).2 := by
  have := lt32 t
  have nf : (cfg0.win 3).flush ⟨t.val - 1, Nat.lt_of_le_of_lt (Nat.sub_le _ _) t.isLt⟩ = false := Bool.eq_false_iff.mpr fun k => by
    have := (flush0_3 _).mp k; dsimp only at this; omega
  rw [Dat.before_out_kept _ 3 rfl t h nf (fun _ => rfl) (fun _ _ => rfl)]
  dsimp only [dats]

/-- A point's triple, whichever its case, against the pipeline's data. -/
theorem point (t : Fin cfg0.N) :
    Steps c t (bufs t) (ins m c t) (fun d => (dats m 0 c).before 2 t d) (fun d => (dats m 0 c).before 3 t d) (outs m c t.val t.isLt) := by
  by_cases h : t.val = 0
  · rw [outs_A m c t h]; exact stepsA c t _ _ _ _ _ _
  · simp only [kept m c t h]
    by_cases h1 : t.val < 30
    · rw [outs_B m c t h h1]; exact stepsB c t _ _ _ _ _ _
    · rw [outs_C m c t h h1]; exact stepsC c t _ _ _ _ _ _

theorem obligation : BodyObligation (dats (F := F) m 0 c) (defs₀ (F := F)) Variants.none () Set.univ := fun t => by
  have e : defs₀ (F := F) .tc cfg0.body (cfg0.bodyArgs t (cfg0.slots t)) = bodyAt0 t := by unfold defs₀; rw [Defs.onTc_tc]
  have b0 : ∀ d, (dats m 0 c).before 0 t d = iblk m c 0 t := before0_0_of m (dats m 0 c) (entry m c 0) (fun _ => by dsimp only [dats]) t
  have b1 : ∀ d, (dats m 0 c).before 1 t d = iblk m c 1 t := before0_1_of m (dats m 0 c) (entry m c 1) (fun _ => by dsimp only [dats]) t
  have k : iprop((dats m 0 c).Φ t.castSucc ∗ (dats m 0 c).owesAt () t.castSucc
        ∗ (∃ d, owns (c : Thread nD τ) (ms0_0 t) fullShare ((dats m 0 c).before 0 t d)) ∗ (∃ d, owns (c : Thread nD τ) (ms0_1 t) fullShare ((dats m 0 c).before 1 t d))
        ∗ (∃ d, owns (c : Thread nD τ) (ms0_2 t) fullShare ((dats m 0 c).before 2 t d)) ∗ (∃ d, owns (c : Thread nD τ) (ms0_3 t) fullShare ((dats m 0 c).before 3 t d)))
      ⊢ wp frame (wpE (defs₀ (F := F)) Variants.none c none) Set.univ (bodyAt0 t)
        (fun _ => iprop((dats m 0 c).Φ t.succ ∗ (dats m 0 c).owesAt () t.succ
          ∗ owns (c : Thread nD τ) (ms0_0 t) fullShare (iblk m c 0 t) ∗ owns (c : Thread nD τ) (ms0_1 t) fullShare (iblk m c 1 t)
          ∗ owns (c : Thread nD τ) (ms0_2 t) fullShare (outs m c t.val t.isLt).1 ∗ owns (c : Thread nD τ) (ms0_3 t) fullShare (outs m c t.val t.isLt).2)) := by
    simp only [b0, b1]
    unfold Dat.owesAt Pipeline.owesWithin bodyAt0
    exact point m c t _ _ _ _ fun _ _ _ => Or.inl trivial
  rw [bigSep_W0, bigSep_W0, e]
  exact triple_restated k rfl .rfl fun _ => .rfl

/-! ## The launch -/

theorem opens : Pipeline.ΦD osem0 spec0 H0 (V m) c ⊢ (dats m 0 c).Φ 0 := by
  rw [PhiD0_eq]
  exact InprojRing.deal (ring0_0_in m c) (ring0_1_in m c) (ring0_2_in m c) (ring0_3_in m c)

theorem closes : (dats m 0 c).Φ (Fin.last cfg0.N) ⊢ Pipeline.ΦD osem0 spec0 H0 (V m) c := by
  rw [PhiD0_eq]
  exact InprojRing.collect (ring0_0_out m c) (ring0_1_out m c) (ring0_2_out m c) (ring0_3_out m c)

set_option backward.isDefEq.respectTransparency.types false in
/-- Every run ends with the pipeline's arrays at the data's, and every semaphore at zero. -/
theorem run : θ_run defs (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V := V m) (hmain := hmain m Variants.none) (hA := entry m) (hin := opens m) (hout := closes m)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (entry m) ((θ_run defs _ _).mono (fun _ h => h.1) (run m ρ))

end Cert.InprojRun

end
-- ==== Proof.InprojFrame.lean ====
/- The frames of the input projection's backward call: the idealized program's at any float values, and the machine program's, which is the same text. -/
module

public import proofs.«01_k».proof.Defs
public import proofs.«01_k».proof.Proof.InprojRun
public import proofs.«01_k».proof.Proof.Gen.InprojKernel

@[expose] public section
noncomputable section

namespace Cert.InprojFrame
open Idealize.ShloMosaic Idealize.ShloMosaic.TcCoe Idealize.SL.Sem
open Cert.InprojKernelIdeal

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨h.1, h.2.2⟩) (θ_run_and (InprojRun.unchanged m ρ) (InprojRun.run m ρ))

theorem bits : Cert.quiescent_InprojKernel (hInprojKernel := Cert.InprojKernel.Gen.facts) := fun m ρ _ => by
  refine cast ?_ (frame (F := Bits) m ρ)
  sl_kernel_rfl

end Cert.InprojFrame

end
-- ==== Proof.InprojMath.lean ====
/- The mathematics of the input projection's backward step, row by row over the reals. -/
module

public import proofs.«01_k».proof.Proof.Reals

@[expose] public section

set_option maxRecDepth 16384

noncomputable section

namespace Cert.InprojMath

open Cert.Reals
open Idealize.ShloMosaic

/-- The residual stream, the first norm's gain, the input projection, and the two cotangents. -/
structure Args where
  x : Fin 16384 → Fin 1024 → ℝ
  g : Fin 1024 → ℝ
  w : Fin 1024 → Fin 2576 → ℝ
  dh : Fin 16384 → Fin 1024 → ℝ
  dp : Fin 16384 → Fin 2576 → ℝ

variable (A : Args) (r : Fin 16384)

/-- The gradient of the normed row. -/
def dxn (q : Fin 1024) : ℝ := ∑ k, A.dp r k * A.w q k

/-- The gradient of the residual stream. -/
def dx (q : Fin 1024) : ℝ := A.dh r q + rmsBwd (A.x r) (fun q => dxn A r q * A.g q) q

/-- What a row adds to the gradient of the gain. -/
def dgr (q : Fin 1024) : ℝ := dxn A r q * (A.x r q * rms (A.x r))

/-- The first columns of the projection's cotangent, padded with zeros to whole lanes. -/
def pk (k : Fin 1664) : ℝ := if h : k.val < 1552 then A.dp r ⟨k.val, by omega⟩ else 0

/-- The padded product and the product with the remaining columns make the whole product: the pad adds nothing. -/
theorem dxn_split (q : Fin 1024) :
    (∑ k : Fin 1664, pk A r k * A.w q ⟨k.val, by omega⟩) + ∑ k : Fin 1024, A.dp r ⟨1552 + k.val, by omega⟩ * A.w q ⟨1552 + k.val, by omega⟩
      = dxn A r q := by
  rw [dxn, Fin.sum_univ_two_halves 1552 1024 rfl, Fin.sum_univ_two_halves 1552 112 rfl]
  congr 1
  rw [Finset.sum_eq_zero (s := (Finset.univ : Finset (Fin 112))) fun k _ => ?_, add_zero]
  · exact Finset.sum_congr rfl fun k _ => by rw [pk, dif_pos k.isLt]
  · rw [pk, dif_neg (by simp), zero_mul]

/-- The gradient of the norm as the chain rule spells it. -/
theorem rmsBwd_chain {n : ℕ} (h d : Fin n → ℝ) (q : Fin n) (c : ℝ) (hc : c = n) :
    rmsBwd h d q = d q * rms h + h q * ((∑ k, h k * d k) * (-(1 / 2) * (rms h * (rms h * rms h))) / c)
      + (∑ k, h k * d k) * (-(1 / 2) * (rms h * (rms h * rms h))) / c * h q := by
  have hs : ∑ k, d k * (h k * rms h) = rms h * ∑ k, h k * d k := by
    rw [Finset.mul_sum]; exact Finset.sum_congr rfl fun k _ => by ring
  rw [rmsBwd, hs, hc]; ring

end Cert.InprojMath
-- ==== Proof.InprojRefPure.lean ====
/- The reference of the input projection's backward step, operation by operation over the reals. -/
module

public import proofs.«01_k».proof.Proof.InprojMath
public import proofs.«01_k».proof.Proof.Gen.InprojRefIdeal.Read

@[expose] public section

set_option maxRecDepth 16384

noncomputable section

namespace Cert.InprojRefPure

open Cert.InprojRefIdeal Cert.InprojRefIdeal.Gen Cert.InprojRefIdeal.Read Cert.InprojMath Cert.Reals
open Idealize.ShloMosaic Idealize.ShloMosaic.TcCoe Idealize.SL.Sem

variable (A : Args)

/-- The reference's argument arrays hold the reals `A`. -/
structure Holds (x0 : FVec Ideal S1x16384x1024 .f32) (x1 : FVec Ideal S1x1024 .f32) (x2 : FVec Ideal S1x1024x2576 .f32)
    (x3 : FVec Ideal S1x16384x1024 .f32) (x4 : FVec Ideal S16384x2576 .f32) : Prop where
  x : ∀ r q, x0 (ix3 0 r q) = ((A.x r q : ℝ) : EReal)
  g : ∀ q, x1 (ix2 0 q) = ((A.g q : ℝ) : EReal)
  w : ∀ q k, x2 (ix3 0 q k) = ((A.w q k : ℝ) : EReal)
  dh : ∀ r q, x3 (ix3 0 r q) = ((A.dh r q : ℝ) : EReal)
  dp : ∀ r k, x4 (ix2 r k) = ((A.dp r k : ℝ) : EReal)

variable {A} {x0 : FVec Ideal S1x16384x1024 .f32} {x1 : FVec Ideal S1x1024 .f32} {x2 : FVec Ideal S1x1024x2576 .f32}
  {x3 : FVec Ideal S1x16384x1024 .f32} {x4 : FVec Ideal S16384x2576 .f32} (H : Holds A x0 x1 x2 x3 x4)
include H

/-- The mean square plus the constant. -/
theorem v8 (r : Fin 16384) : val_main_v8 (F := Ideal) x0 (ix2 r 0) = (((∑ k, A.x r k * A.x r k) / 1024 + eps : ℝ) : EReal) := by
  pointwise [val_main_v8, val_main_v7, val_main_v6, val_main_v5, val_main_v4, val_main_v3, val_main_v2, val_main_v0,
    val_main_cst, val_main_cst_0, val_main_cst_1, H.x]
  simp only [coe_mul', coe_sum, zero_add, ofBits_eps, ofBits_1024]
  rw [coe_div' _ (by norm_num), coe_add']

theorem v9 (r : Fin 16384) : val_main_v9 (F := Ideal) x0 (ix2 r 0) = ((rms (A.x r) : ℝ) : EReal) := by
  pointwise [val_main_v9, v8 H]
  rw [coe_rsqrt]
  · simp [rms]
  · simpa using ms_pos (A.x r)

theorem v12 (r : Fin 16384) : val_main_v12 (F := Ideal) x0 (ix2 r 0)
    = ((-(1 / 2) * (rms (A.x r) * (rms (A.x r) * rms (A.x r))) : ℝ) : EReal) := by
  pointwise [val_main_v12, val_main_v11, val_main_v10, val_main_cst_2, v8 H, v9 H]
  rw [coe_div' _ (by simpa using (ms_pos (A.x r)).ne'), ofBits_neg_half, coe_mul', rms_sq]
  norm_num [div_eq_mul_inv]

theorem v14 (r : Fin 16384) (q : Fin 1024) : val_main_v14 (F := Ideal) x0 (ix2 r q) = ((A.x r q * rms (A.x r) : ℝ) : EReal) := by
  pointwise [val_main_v14, val_main_v13, val_main_v0, H.x, v9 H]
  simp only [coe_mul']

theorem v21 (r : Fin 16384) (q : Fin 1024) : val_main_v21 (F := Ideal) x2 x4 (ix2 r q) = ((dxn A r q : ℝ) : EReal) := by
  pointwise [val_main_v21, val_main_v18, H.w, H.dp]
  simp only [coe_mul', coe_sum, dxn]

theorem v26 (r : Fin 16384) (q : Fin 1024) :
    val_main_v26 (F := Ideal) x1 x2 x4 (ix2 r q) = ((dxn A r q * A.g q : ℝ) : EReal) := by
  pointwise [val_main_v26, val_main_v25, val_main_v15, val_main_v1, v21 H, H.g]
  simp only [coe_mul']

/-- Half the gradient of the mean square's root, per row. -/
theorem v38 (r : Fin 16384) (q : Fin 1024) : val_main_v38 (F := Ideal) x0 x1 x2 x4 (ix2 r q)
    = (((∑ k, A.x r k * (dxn A r k * A.g k)) *
        (-(1 / 2) * (rms (A.x r) * (rms (A.x r) * rms (A.x r)))) / 1024 : ℝ) : EReal) := by
  pointwise [val_main_v38, val_main_v37, val_main_v36, val_main_v35, val_main_v34, val_main_v30, val_main_v29,
    val_main_v28, val_main_v0, val_main_cst_5, val_main_cst_6, val_main_cst_7, H.x, v26 H, v12 H]
  simp only [coe_mul', coe_sum, zero_add, ofBits_1024]
  rw [Fin.sum_univ_one, v12 H, coe_mul', coe_div' _ (by norm_num)]

theorem v42 (r : Fin 16384) (q : Fin 1024) :
    val_main_v42 (F := Ideal) x0 x1 x2 x3 x4 (ix2 r q) = ((dx A r q : ℝ) : EReal) := by
  pointwise [val_main_v42, val_main_v41, val_main_v40, val_main_v39, val_main_v33, val_main_v32, val_main_v31,
    val_main_v20, val_main_v0, H.x, H.dh, v9 H, v26 H, v38 H]
  simp only [coe_mul', coe_add']
  rw [dx, rmsBwd_chain _ _ _ 1024 (by norm_num)]
  congr 1; ring

theorem v43 (q : Fin 1024) : val_main_v43 (F := Ideal) x0 x2 x4 (ix2 0 q) = ((∑ r, dgr A r q : ℝ) : EReal) := by
  pointwise [val_main_v43, val_main_v27, val_main_v24, val_main_v23, val_main_v22, val_main_cst_3, val_main_cst_4,
    v14 H, v21 H]
  simp only [coe_mul', coe_sum, zero_add]
  simp [mul_comm, dgr]

end Cert.InprojRefPure
-- ==== Proof.InprojPure.lean ====
/- What the kernel of the input projection's backward step stores, over the reals: each payload at an index, and the
   content of a prefetch slot once its copy has landed. -/
module

public import proofs.«01_k».proof.Proof.InprojMath
public import proofs.«01_k».proof.Proof.InprojRun
public import Idealize.ShloMosaic.Lib.Pipeline.Value
public import Idealize.ShloMosaic.Lib.Pipeline.ValueKit

@[expose] public section

set_option maxRecDepth 16384

noncomputable section

namespace Cert.InprojPure

open Cert.InprojKernelIdeal Cert.InprojKernelIdeal.Gen Cert.InprojMath Cert.Reals
open Idealize.ShloMosaic Idealize.ShloMosaic.TcCoe Idealize.SL.Sem

/-! ### The payloads -/

section Payloads

variable (A : Args) (R : Fin 512 → Fin 16384)

theorem pay6 {v126 : Vec Ideal S1x512x1664 .bf16} {v128 : Vec Ideal S1664x1024 .bf16} {v132 : Vec Ideal S1x512x1024 .bf16}
    {v134 : Vec Ideal S1024x1024 .bf16}
    (h126 : ∀ p k, v126 (ix3 0 p k) = ((pk A (R p) k : ℝ) : EReal))
    (h128 : ∀ (k : Fin 1664) q, v128 (ix2 k q) = ((A.w q ⟨k.val, by omega⟩ : ℝ) : EReal))
    (h132 : ∀ p (k : Fin 1024), v132 (ix3 0 p k) = ((A.dp (R p) ⟨1552 + k.val, by omega⟩ : ℝ) : EReal))
    (h134 : ∀ (k : Fin 1024) q, v134 (ix2 k q) = ((A.w q ⟨1552 + k.val, by omega⟩ : ℝ) : EReal))
    (p : Fin 512) (q : Fin 1024) : k0_pay6 (F := Ideal) v126 v128 v132 v134 (ix2 p q) = ((dxn A (R p) q : ℝ) : EReal) := by
  pointwise [k0_pay6, h126, h128, h132, h134]
  simp only [coe_mul', coe_sum, coe_add', zero_add]
  rw [dxn_split]

variable {v139 : Vec Ideal S1x512x1024 .f32} (h139 : ∀ p q, v139 (ix3 0 p q) = ((A.x (R p) q : ℝ) : EReal))
include h139

theorem pay7 (p : Fin 512) (q : Fin 1024) : k0_pay7 (F := Ideal) v139 (ix2 p q) = ((A.x (R p) q : ℝ) : EReal) := by
  pointwise [k0_pay7, h139]

theorem pay8 (p : Fin 512) (q : Fin 1024) : k0_pay8 (F := Ideal) v139 (ix2 p q) = ((A.x (R p) q * A.x (R p) q : ℝ) : EReal) := by
  pointwise [k0_pay8, pay7 A R h139]
  simp only [coe_mul']

theorem pay1 (p : Fin 512) : k0_pay1 (F := Ideal) (k0_pay8 v139) (ix2 p 0) = ((rms (A.x (R p)) : ℝ) : EReal) := by
  pointwise [k0_pay1, pay8 A R h139]
  simp only [coe_sum, coe_add', zero_add, ofBits_eps, ofBits_1024]
  rw [coe_div' _ (by norm_num), coe_add', coe_rsqrt]
  · rfl
  · exact ms_pos (A.x (R p))

theorem pay2 (p : Fin 512) (q : Fin 1024) :
    k0_pay2 (F := Ideal) (k0_pay7 v139) (k0_pay8 v139) (ix2 p q) = ((A.x (R p) q * rms (A.x (R p)) : ℝ) : EReal) := by
  pointwise [k0_pay2, pay7 A R h139, pay1 A R h139]
  simp only [coe_mul']

variable {v137 : FVec Ideal S512x1024 .f32} (h137 : ∀ p q, v137 (ix2 p q) = ((dxn A (R p) q : ℝ) : EReal))
include h137

theorem pay3 (v151 : Vec Ideal S1x1024 .f32) (q : Fin 1024) :
    k0_pay3 (F := Ideal) v137 (k0_pay7 v139) (k0_pay8 v139) v151 (ix2 0 q)
      = v151 (ix2 0 q) + ((∑ p, dgr A (R p) q : ℝ) : EReal) := by
  pointwise [k0_pay3, h137, pay2 A R h139]
  simp only [coe_mul', coe_sum, zero_add, dgr]

theorem pay4 {v159 : Vec Ideal S1x512x1024 .f32} {v161 : Vec Ideal S1x1024 .f32}
    (h159 : ∀ p q, v159 (ix3 0 p q) = ((A.dh (R p) q : ℝ) : EReal)) (h161 : ∀ q, v161 (ix2 0 q) = ((A.g q : ℝ) : EReal))
    (p : Fin 512) (q : Fin 1024) :
    k0_pay4 (F := Ideal) v137 (k0_pay7 v139) (k0_pay8 v139) v159 v161 (ix2 p q) = ((dx A (R p) q : ℝ) : EReal) := by
  pointwise [k0_pay4, h137, h159, h161, pay1 A R h139, pay2 A R h139]
  simp only [coe_mul', coe_sum, zero_add, ofBits_1024]
  simp only [coe_div' _ (show (1024 : ℝ) ≠ 0 by norm_num), coe_mul', coe_sub', coe_add', dx, rmsBwd]
  norm_num

end Payloads

/-! ### A slot of the prefetch ring -/

theorem off18 : ∀ t : Fin grid0.N, k0_off18 (grid0.coords t) = ![(Ring.sl 3 t.val).val, 0, 0] := by decide +kernel
theorem off17 : ∀ t : Fin grid0.N, k0_off17 (grid0.coords t) = ![(Ring.sl 3 t.val).val, 0, 0] := by decide +kernel

theorem unsq (h : S512x1024.numel = S1x512x1024.numel) (p : Fin 512) (q : Fin 1024) :
    Shape.reshapeEquiv h (ix2 p q) = ix3 0 p q :=
  (Shape.rowMajor S1x512x1024).injective (Fin.ext (by
    rw [Shape.rowMajor_reshapeEquiv, Shape.rowMajor_val_two, Shape.rowMajor_val_three]
    show p.val * 1024 + q.val = (0 * 512 + p.val) * 1024 + q.val
    omega))

theorem unsq' (h : S512x1664.numel = S1x512x1664.numel) (p : Fin 512) (q : Fin 1664) :
    Shape.reshapeEquiv h (ix2 p q) = ix3 0 p q :=
  (Shape.rowMajor S1x512x1664).injective (Fin.ext (by
    rw [Shape.rowMajor_reshapeEquiv, Shape.rowMajor_val_two, Shape.rowMajor_val_three]
    show p.val * 1664 + q.val = (0 * 512 + p.val) * 1664 + q.val
    omega))

variable (s : Fin 3) {off : Fin 3 → ℕ} (ho : off = ![s.val, 0, 0])
include ho

theorem slot0 (h : ∀ a, off a + S1x512x1024.size a ≤ S3x512x1024.size a) (f : Vec Ideal S512x1024 .f32) (p : Fin 512)
    (q : Fin 1024) :
    View.readAt (Elt Ideal) (View.whole cc0_scratch0) (Rect.unit (s := S3x512x1024) off S1x512x1024.size h).toLoadRect
      ((rslot0_0 s).view.writes (Elt Ideal) (rslot0_0 s).view.junk [⟨Rect.whole S512x1024, f⟩]) (ix3 0 p q) = f (ix2 p q) := by
  subst ho
  refine Eq.trans ?_ (congrFun (View.read_writes_whole (rslot0_0 s).view (rslot0_0 s).view.junk f) (ix2 p q))
  generalize (rslot0_0 s).view.writes (Elt Ideal) (rslot0_0 s).view.junk [⟨Rect.whole S512x1024, f⟩] = g
  rw [← unsq (by decide) p q]
  rfl

theorem slot1 (h : ∀ a, off a + S1x512x1024.size a ≤ S3x512x1024.size a) (f : Vec Ideal S512x1024 .f32) (p : Fin 512)
    (q : Fin 1024) :
    View.readAt (Elt Ideal) (View.whole cc0_scratch1) (Rect.unit (s := S3x512x1024) off S1x512x1024.size h).toLoadRect
      ((rslot0_1 s).view.writes (Elt Ideal) (rslot0_1 s).view.junk [⟨Rect.whole S512x1024, f⟩]) (ix3 0 p q) = f (ix2 p q) := by
  subst ho
  refine Eq.trans ?_ (congrFun (View.read_writes_whole (rslot0_1 s).view (rslot0_1 s).view.junk f) (ix2 p q))
  generalize (rslot0_1 s).view.writes (Elt Ideal) (rslot0_1 s).view.junk [⟨Rect.whole S512x1024, f⟩] = g
  rw [← unsq (by decide) p q]
  rfl

theorem slot2 (h : ∀ a, off a + S1x512x1664.size a ≤ S3x512x1664.size a) (f : Vec Ideal S512x1664 .bf16) (p : Fin 512)
    (q : Fin 1664) :
    View.readAt (Elt Ideal) (View.whole cc0_scratch2) (Rect.unit (s := S3x512x1664) off S1x512x1664.size h).toLoadRect
      ((rslot0_2 s).view.writes (Elt Ideal) (rslot0_2 s).view.junk [⟨Rect.whole S512x1664, f⟩]) (ix3 0 p q) = f (ix2 p q) := by
  subst ho
  refine Eq.trans ?_ (congrFun (View.read_writes_whole (rslot0_2 s).view (rslot0_2 s).view.junk f) (ix2 p q))
  generalize (rslot0_2 s).view.writes (Elt Ideal) (rslot0_2 s).view.junk [⟨Rect.whole S512x1664, f⟩] = g
  rw [← unsq' (by decide) p q]
  rfl

theorem slot3 (h : ∀ a, off a + S1x512x1024.size a ≤ S3x512x1024.size a) (f : Vec Ideal S512x1024 .bf16) (p : Fin 512)
    (q : Fin 1024) :
    View.readAt (Elt Ideal) (View.whole cc0_scratch3) (Rect.unit (s := S3x512x1024) off S1x512x1024.size h).toLoadRect
      ((rslot0_3 s).view.writes (Elt Ideal) (rslot0_3 s).view.junk [⟨Rect.whole S512x1024, f⟩]) (ix3 0 p q) = f (ix2 p q) := by
  subst ho
  refine Eq.trans ?_ (congrFun (View.read_writes_whole (rslot0_3 s).view (rslot0_3 s).view.junk f) (ix2 p q))
  generalize (rslot0_3 s).view.writes (Elt Ideal) (rslot0_3 s).view.junk [⟨Rect.whole S512x1024, f⟩] = g
  rw [← unsq (by decide) p q]
  rfl

end Cert.InprojPure
-- ==== Proof.InprojTile.lean ====
/- What a grid point of the input projection's backward kernel leaves in its output blocks, over the reals. -/
module

public import proofs.«01_k».proof.Proof.InprojPure

@[expose] public section

set_option maxRecDepth 16384

noncomputable section

namespace Cert.InprojTile

open Cert.InprojKernelIdeal Cert.InprojKernelIdeal.Gen Cert.InprojRun Cert.InprojMath Cert.InprojPure Cert.Reals
open Idealize.ShloMosaic Idealize.ShloMosaic.TcCoe Idealize.SL.Sem

/-- The row of the array that row `p` of grid point `t`'s tile is. -/
def row (t : Fin cfg0.N) (p : Fin 512) : Fin 16384 := ⟨512 * t.val + p.val, by have : t.val < 32 := t.isLt; omega⟩

theorem bk_val (t : Fin cfg0.N) : (Ring.bk 32 t.val).val = t.val := Nat.mod_eq_of_lt t.isLt

section Sources
variable (t : Fin cfg0.N) (p : Fin 512)

theorem src0 (f : FVec Ideal S16384x1024 .f32) (q : Fin 1024) :
    (View.read (Elt Ideal) (srcB0_0 (Ring.bk 32 t.val)).view f : FVec Ideal S512x1024 .f32) (ix2 p q) = f (ix2 (row t p) q) := by
  refine congrArg f (funext fun a => Fin.ext ?_)
  fin_cases a
  · show 512 * (Ring.bk 32 t.val).val + 1 * p.val = 512 * t.val + p.val
    rw [bk_val, one_mul]
  · show 0 + 1 * q.val = q.val
    rw [one_mul, zero_add]

theorem src1 (f : FVec Ideal S16384x1024 .f32) (q : Fin 1024) :
    (View.read (Elt Ideal) (srcB0_1 (Ring.bk 32 t.val)).view f : FVec Ideal S512x1024 .f32) (ix2 p q) = f (ix2 (row t p) q) := by
  refine congrArg f (funext fun a => Fin.ext ?_)
  fin_cases a
  · show 512 * (Ring.bk 32 t.val).val + 1 * p.val = 512 * t.val + p.val
    rw [bk_val, one_mul]
  · show 0 + 1 * q.val = q.val
    rw [one_mul, zero_add]

theorem src2 (f : FVec Ideal S16384x1664 .bf16) (q : Fin 1664) :
    (View.read (Elt Ideal) (srcB0_2 (Ring.bk 32 t.val)).view f : FVec Ideal S512x1664 .bf16) (ix2 p q) = f (ix2 (row t p) q) := by
  refine congrArg f (funext fun a => Fin.ext ?_)
  fin_cases a
  · show 512 * (Ring.bk 32 t.val).val + 1 * p.val = 512 * t.val + p.val
    rw [bk_val, one_mul]
  · show 0 + 1 * q.val = q.val
    rw [one_mul, zero_add]

theorem src3 (f : FVec Ideal S16384x1024 .bf16) (q : Fin 1024) :
    (View.read (Elt Ideal) (srcB0_3 (Ring.bk 32 t.val)).view f : FVec Ideal S512x1024 .bf16) (ix2 p q) = f (ix2 (row t p) q) := by
  refine congrArg f (funext fun a => Fin.ext ?_)
  fin_cases a
  · show 512 * (Ring.bk 32 t.val).val + 1 * p.val = 512 * t.val + p.val
    rw [bk_val, one_mul]
  · show 0 + 1 * q.val = q.val
    rw [one_mul, zero_add]

end Sources

/-- A grid point's blocks and the arrays its ring copies from hold the reals `A`. -/
structure Loads (A : Args) (c : Dev nD) (x0 : FVec Ideal S1x1024 .f32) (x1 : FVec Ideal S2576x1024 .bf16)
    (f0 f1 : FVec Ideal S16384x1024 .f32) (f2 : FVec Ideal S16384x1664 .bf16) (f3 : FVec Ideal S16384x1024 .bf16) : Prop where
  g : ∀ q, x0 (ix2 0 q) = ((A.g q : ℝ) : EReal)
  w : ∀ k q, x1 (ix2 k q) = ((A.w q k : ℝ) : EReal)
  x : ∀ r q, f0 (ix2 r q) = ((A.x r q : ℝ) : EReal)
  dh : ∀ r q, f1 (ix2 r q) = ((A.dh r q : ℝ) : EReal)
  dpg : ∀ r k, f2 (ix2 r k) = ((pk A r k : ℝ) : EReal)
  dpc : ∀ r (k : Fin 1024), f3 (ix2 r k) = ((A.dp r ⟨1552 + k.val, by omega⟩ : ℝ) : EReal)

/-- What the stored blocks are: the rows' gradient, and `base` with the rows' share of the gain's gradient added. -/
def Leaves (A : Args) (t : Fin cfg0.N) (o : Outs Ideal) (base : Fin 1024 → EReal) : Prop :=
  (∀ p q, o.1 (ix2 p q) = ((dx A (row t p) q : ℝ) : EReal)) ∧ ∀ q, o.2 (ix2 0 q) = base q + ((∑ p, dgr A (row t p) q : ℝ) : EReal)

section Outs

variable {A : Args} {c : Dev nD} {t : Fin cfg0.N} {arg1 : Memref sig .tc .vmem S1x1024 .f32} {harg1 : arg1.IsWhole}
  {arg2 : Memref sig .tc .vmem S2576x1024 .bf16} {harg2 : arg2.IsWhole} {arg7 : Memref sig .tc .vmem S512x1024 .f32}
  {harg7 : arg7.IsWhole} {arg8 : Memref sig .tc .vmem S1x1024 .f32} {harg8 : arg8.IsWhole}
  {x0 : FVec Ideal S1x1024 .f32} {x1 : FVec Ideal S2576x1024 .bf16} {xo3 : FVec Ideal S1x1024 .f32}
  {fh0 : HbBuf0 (F := Ideal) c hbM0_0} {fh1 : HbBuf0 (F := Ideal) c hbM0_1} {fh2 : HbBuf0 (F := Ideal) c hbM0_2}
  {fh3 : HbBuf0 (F := Ideal) c hbM0_3} (L : Loads A c x0 x1 fh0 fh1 fh2 fh3)
include L

theorem ld0 {off : Fin 3 → ℕ} (ho : off = ![(Ring.sl 3 t.val).val, 0, 0])
    (h : ∀ a, off a + S1x512x1024.size a ≤ S3x512x1024.size a) (p : Fin 512) (q : Fin 1024) :
    View.readAt (Elt Ideal) (View.whole cc0_scratch0) (Rect.unit (s := S3x512x1024) off S1x512x1024.size h).toLoadRect
      ((rslot0_0 (Ring.sl 3 t.val)).view.writes (Elt Ideal) (rslot0_0 (Ring.sl 3 t.val)).view.junk
        [⟨Rect.whole S512x1024, ReadAs.same.apply (View.read (Elt Ideal) (srcB0_0 (Ring.bk 32 t.val)).view fh0)⟩]) (ix3 0 p q)
      = ((A.x (row t p) q : ℝ) : EReal) :=
  (slot0 _ ho _ _ p q).trans ((src0 t p fh0 q).trans (L.x _ q))

theorem ld1 {off : Fin 3 → ℕ} (ho : off = ![(Ring.sl 3 t.val).val, 0, 0])
    (h : ∀ a, off a + S1x512x1024.size a ≤ S3x512x1024.size a) (p : Fin 512) (q : Fin 1024) :
    View.readAt (Elt Ideal) (View.whole cc0_scratch1) (Rect.unit (s := S3x512x1024) off S1x512x1024.size h).toLoadRect
      ((rslot0_1 (Ring.sl 3 t.val)).view.writes (Elt Ideal) (rslot0_1 (Ring.sl 3 t.val)).view.junk
        [⟨Rect.whole S512x1024, ReadAs.same.apply (View.read (Elt Ideal) (srcB0_1 (Ring.bk 32 t.val)).view fh1)⟩]) (ix3 0 p q)
      = ((A.dh (row t p) q : ℝ) : EReal) :=
  (slot1 _ ho _ _ p q).trans ((src1 t p fh1 q).trans (L.dh _ q))

theorem ld2 {off : Fin 3 → ℕ} (ho : off = ![(Ring.sl 3 t.val).val, 0, 0])
    (h : ∀ a, off a + S1x512x1664.size a ≤ S3x512x1664.size a) (p : Fin 512) (k : Fin 1664) :
    View.readAt (Elt Ideal) (View.whole cc0_scratch2) (Rect.unit (s := S3x512x1664) off S1x512x1664.size h).toLoadRect
      ((rslot0_2 (Ring.sl 3 t.val)).view.writes (Elt Ideal) (rslot0_2 (Ring.sl 3 t.val)).view.junk
        [⟨Rect.whole S512x1664, ReadAs.same.apply (View.read (Elt Ideal) (srcB0_2 (Ring.bk 32 t.val)).view fh2)⟩]) (ix3 0 p k)
      = ((pk A (row t p) k : ℝ) : EReal) :=
  (slot2 _ ho _ _ p k).trans ((src2 t p fh2 k).trans (L.dpg _ k))

theorem ld3 {off : Fin 3 → ℕ} (ho : off = ![(Ring.sl 3 t.val).val, 0, 0])
    (h : ∀ a, off a + S1x512x1024.size a ≤ S3x512x1024.size a) (p : Fin 512) (k : Fin 1024) :
    View.readAt (Elt Ideal) (View.whole cc0_scratch3) (Rect.unit (s := S3x512x1024) off S1x512x1024.size h).toLoadRect
      ((rslot0_3 (Ring.sl 3 t.val)).view.writes (Elt Ideal) (rslot0_3 (Ring.sl 3 t.val)).view.junk
        [⟨Rect.whole S512x1024, ReadAs.same.apply (View.read (Elt Ideal) (srcB0_3 (Ring.bk 32 t.val)).view fh3)⟩]) (ix3 0 p k)
      = ((A.dp (row t p) ⟨1552 + k.val, by omega⟩ : ℝ) : EReal) :=
  (slot3 _ ho _ _ p k).trans ((src3 t p fh3 k).trans (L.dpc _ k))

theorem leavesA (P : Bufs) (hc0 : cond0_0 (grid0.coords t)) (hc1 : cond0_1 (grid0.coords t)) :
    Leaves A t (leftA c t P ⟨x0, x1, fh0, fh1, fh2, fh3⟩ hc0 hc1) (fun _ => 0) := by
  refine ⟨fun p q => ?_, fun q => ?_⟩
  · dsimp only [leftA]; frame_out
    refine pay4 A (row t) (fun p q => ld0 L (off18 t) _ p q)
      (pay6 A (row t) (fun p k => ld2 L (off17 t) _ p k) (fun k q => ?_) (fun p k => ld3 L (off18 t) _ p k) (fun k q => ?_))
      (fun p q => ld1 L (off18 t) _ p q) L.g p q
    · refine Eq.trans ?_ (L.w _ q); pointwise
    · refine Eq.trans ?_ (L.w _ q); pointwise
  · dsimp only [leftA]; frame_out
    refine (pay3 A (row t) (fun p q => ld0 L (off18 t) _ p q)
      (pay6 A (row t) (fun p k => ld2 L (off17 t) _ p k) (fun k q => ?_) (fun p k => ld3 L (off18 t) _ p k) (fun k q => ?_)) _ q).trans ?_
    · refine Eq.trans ?_ (L.w _ q); pointwise
    · refine Eq.trans ?_ (L.w _ q); pointwise
    · pointwise [k0_pay5]

theorem leavesB (P : Bufs) (hc0 : ¬cond0_0 (grid0.coords t)) (hc1 : cond0_1 (grid0.coords t)) :
    Leaves A t (leftB c t P ⟨x0, x1, fh0, fh1, fh2, fh3⟩ xo3 hc0 hc1) (fun q => xo3 (ix2 0 q)) := by
  refine ⟨fun p q => ?_, fun q => ?_⟩
  · dsimp only [leftB]; frame_out
    refine pay4 A (row t) (fun p q => ld0 L (off18 t) _ p q)
      (pay6 A (row t) (fun p k => ld2 L (off17 t) _ p k) (fun k q => ?_) (fun p k => ld3 L (off18 t) _ p k) (fun k q => ?_))
      (fun p q => ld1 L (off18 t) _ p q) L.g p q
    · refine Eq.trans ?_ (L.w _ q); pointwise
    · refine Eq.trans ?_ (L.w _ q); pointwise
  · dsimp only [leftB]; frame_out
    refine (pay3 A (row t) (fun p q => ld0 L (off18 t) _ p q)
      (pay6 A (row t) (fun p k => ld2 L (off17 t) _ p k) (fun k q => ?_) (fun p k => ld3 L (off18 t) _ p k) (fun k q => ?_)) _ q).trans ?_
    · refine Eq.trans ?_ (L.w _ q); pointwise
    · refine Eq.trans ?_ (L.w _ q); pointwise
    · pointwise

theorem leavesC (P : Bufs) (hc0 : ¬cond0_0 (grid0.coords t)) (hc1 : ¬cond0_1 (grid0.coords t)) :
    Leaves A t (leftC c t P ⟨x0, x1, fh0, fh1, fh2, fh3⟩ xo3 hc0 hc1) (fun q => xo3 (ix2 0 q)) := by
  refine ⟨fun p q => ?_, fun q => ?_⟩
  · dsimp only [leftC]; frame_out
    refine pay4 A (row t) (fun p q => ld0 L (off18 t) _ p q)
      (pay6 A (row t) (fun p k => ld2 L (off17 t) _ p k) (fun k q => ?_) (fun p k => ld3 L (off18 t) _ p k) (fun k q => ?_))
      (fun p q => ld1 L (off18 t) _ p q) L.g p q
    · refine Eq.trans ?_ (L.w _ q); pointwise
    · refine Eq.trans ?_ (L.w _ q); pointwise
  · dsimp only [leftC]; frame_out
    refine (pay3 A (row t) (fun p q => ld0 L (off18 t) _ p q)
      (pay6 A (row t) (fun p k => ld2 L (off17 t) _ p k) (fun k q => ?_) (fun p k => ld3 L (off18 t) _ p k) (fun k q => ?_)) _ q).trans ?_
    · refine Eq.trans ?_ (L.w _ q); pointwise
    · refine Eq.trans ?_ (L.w _ q); pointwise
    · pointwise

end Outs

end Cert.InprojTile
-- ==== Proof.InprojFinal.lean ====
/- The input projection's backward kernel: what its launch starts from, and what each output array is at the end. -/
module

public import proofs.«01_k».proof.Proof.InprojTile

@[expose] public section

set_option maxRecDepth 16384

noncomputable section

namespace Cert.InprojFinal

open Cert.InprojKernelIdeal Cert.InprojKernelIdeal.Gen Cert.InprojRun Cert.InprojMath Cert.InprojTile Cert.Reals
open Idealize.ShloMosaic Idealize.ShloMosaic.TcCoe Idealize.SL.Sem
open Idealize.ShloMosaic.Pipeline (Dat)

variable (m : (ℓ : Loc nD τ sig) → Buf (Elt Ideal) ℓ) (c : Dev nD) (A : Args)

theorem idx : ∀ t : Fin cfg0.N, win0_0.index t = ![0, 0] ∧ win0_1.index t = ![0, 0] ∧ win0_2.index t = ![t.val, 0]
    ∧ win0_3.index t = ![0, 0] :=
  (by decide +kernel : ∀ t : Fin grid0.N, _)

/-- The argument arrays of the kernel's launch hold the reals `A`. -/
structure Holds : Prop where
  x : ∀ r q, (m ((c.tc : Thread nD τ).loc main_arg0) : FVec Ideal S1x16384x1024 .f32) (ix3 0 r q) = ((A.x r q : ℝ) : EReal)
  g : ∀ q, (m ((c.tc : Thread nD τ).loc main_arg1) : FVec Ideal S1x1024 .f32) (ix2 0 q) = ((A.g q : ℝ) : EReal)
  w : ∀ q k, (m ((c.tc : Thread nD τ).loc main_arg2) : FVec Ideal S1x1024x2576 .f32) (ix3 0 q k) = ((A.w q k : ℝ) : EReal)
  dh : ∀ r q, (m ((c.tc : Thread nD τ).loc main_arg3) : FVec Ideal S1x16384x1024 .f32) (ix3 0 r q) = ((A.dh r q : ℝ) : EReal)
  dp : ∀ r k, (m ((c.tc : Thread nD τ).loc main_arg4) : FVec Ideal S16384x2576 .f32) (ix2 r k) = ((A.dp r k : ℝ) : EReal)

/-! ### What the launch starts from -/

section Entry
abbrev a0 : FVec Ideal S1x16384x1024 .f32 := m ((c.tc : Thread nD τ).loc main_arg0)
abbrev a1 : FVec Ideal S1x1024 .f32 := m ((c.tc : Thread nD τ).loc main_arg1)
abbrev a2 : FVec Ideal S1x1024x2576 .f32 := m ((c.tc : Thread nD τ).loc main_arg2)
abbrev a3 : FVec Ideal S1x16384x1024 .f32 := m ((c.tc : Thread nD τ).loc main_arg3)
abbrev a4 : FVec Ideal S16384x2576 .f32 := m ((c.tc : Thread nD τ).loc main_arg4)

/-- The first columns of the projection's cotangent, padded to whole lanes. -/
def dpad (a4 : FVec Ideal S16384x2576 .f32) : FVec Ideal S16384x1664 .bf16 :=
  truncf .bf16 (pad S16384x1664 ![0, 0] ![0, 112] ![0, 0] (extractStridedSlice S16384x1552 ![0, 0] a4 slices_S16384x2576_S16384x1552_0_0)
    (sitofp .f32 (constantI S_ 32 0#32) : FVec Ideal S_ .f32) pads_S16384x1552_S16384x1664_000_01120 h_S_) bitsLt_bf16_f32
/-- The remaining columns. -/
def dpc (a4 : FVec Ideal S16384x2576 .f32) : FVec Ideal S16384x1024 .bf16 :=
  truncf .bf16 (extractStridedSlice S16384x1024 ![0, 1552] a4 slices_S16384x2576_S16384x1024_0_1552) bitsLt_bf16_f32
/-- The transposed projection. -/
def wt (a2 : FVec Ideal S1x1024x2576 .f32) : FVec Ideal S2576x1024 .bf16 :=
  truncf .bf16 (transpose S2576x1024 [1, 0] (shapeCast S1024x2576 a2 shapeCasts_S1x1024x2576_S1024x2576)
    transposes_S1024x2576_S2576x1024_1_0) bitsLt_bf16_f32

theorem e3 : (V m c main_v3 : FVec Ideal S16384x1024 .f32) = shapeCast S16384x1024 (a0 m c) shapeCasts_S1x16384x1024_S16384x1024 := by
  show StableHlo.after (List.flatten _) _ _ = _
  simp only [List.flatten_cons, List.flatten_nil, List.append_nil, List.cons_append, List.nil_append, StableHlo.after_cons, StableHlo.after_nil]
  after_results_simp
  after_results_loop
  all_goals rfl

theorem e7 : (V m c main_v7 : FVec Ideal S16384x1024 .f32) = shapeCast S16384x1024 (a3 m c) shapeCasts_S1x16384x1024_S16384x1024 := by
  show StableHlo.after (List.flatten _) _ _ = _
  simp only [List.flatten_cons, List.flatten_nil, List.append_nil, List.cons_append, List.nil_append, StableHlo.after_cons, StableHlo.after_nil]
  after_results_simp
  after_results_loop
  all_goals rfl

theorem e2 : (V m c main_v2 : FVec Ideal S16384x1664 .bf16) = dpad (a4 m c) := by
  show StableHlo.after (List.flatten _) _ _ = _
  simp only [List.flatten_cons, List.flatten_nil, List.append_nil, List.cons_append, List.nil_append, StableHlo.after_cons, StableHlo.after_nil]
  after_results_simp
  after_results_loop
  all_goals rfl

theorem e9 : (V m c main_v9 : FVec Ideal S16384x1024 .bf16) = dpc (a4 m c) := by
  show StableHlo.after (List.flatten _) _ _ = _
  simp only [List.flatten_cons, List.flatten_nil, List.append_nil, List.cons_append, List.nil_append, StableHlo.after_cons, StableHlo.after_nil]
  after_results_simp
  after_results_loop
  all_goals rfl

theorem e6 : (V m c main_v6 : FVec Ideal S2576x1024 .bf16) = wt (a2 m c) := by
  show StableHlo.after (List.flatten _) _ _ = _
  simp only [List.flatten_cons, List.flatten_nil, List.append_nil, List.cons_append, List.nil_append, StableHlo.after_cons, StableHlo.after_nil]
  after_results_simp
  after_results_loop
  all_goals rfl

theorem e1 : (V m c main_arg1 : FVec Ideal S1x1024 .f32) = a1 m c := by
  show StableHlo.after (List.flatten _) _ _ = _
  simp only [List.flatten_cons, List.flatten_nil, List.append_nil, List.cons_append, List.nil_append, StableHlo.after_cons, StableHlo.after_nil]
  after_results_simp
  after_results_loop
  all_goals rfl

end Entry

theorem sit_zero : (FloatOps.sitofp (F := Ideal) FTy.f32 0#32 : EReal) = ((0 : ℝ) : EReal) := by
  show (((0#32).toInt : ℝ) : EReal) = _
  simp

variable {m c A} (H : Holds m c A)
include H

theorem v3 (r : Fin 16384) (q : Fin 1024) : (V m c main_v3 : FVec Ideal S16384x1024 .f32) (ix2 r q) = ((A.x r q : ℝ) : EReal) := by
  rw [e3]; refine Eq.trans ?_ (H.x r q); pointwise

theorem v7 (r : Fin 16384) (q : Fin 1024) : (V m c main_v7 : FVec Ideal S16384x1024 .f32) (ix2 r q) = ((A.dh r q : ℝ) : EReal) := by
  rw [e7]; refine Eq.trans ?_ (H.dh r q); pointwise

theorem v2 (r : Fin 16384) (k : Fin 1664) : (V m c main_v2 : FVec Ideal S16384x1664 .bf16) (ix2 r k) = ((pk A r k : ℝ) : EReal) := by
  rw [e2]; pointwise [dpad, H.dp]
  rw [sit_zero]
  unfold pk
  split_ifs <;> rfl

theorem v9 (r : Fin 16384) (k : Fin 1024) :
    (V m c main_v9 : FVec Ideal S16384x1024 .bf16) (ix2 r k) = ((A.dp r ⟨1552 + k.val, by omega⟩ : ℝ) : EReal) := by
  rw [e9]; refine Eq.trans ?_ (H.dp r _); pointwise [dpc]

theorem v6 (k : Fin 2576) (q : Fin 1024) : (V m c main_v6 : FVec Ideal S2576x1024 .bf16) (ix2 k q) = ((A.w q k : ℝ) : EReal) := by
  rw [e6]; refine Eq.trans ?_ (H.w q k); pointwise [wt]

theorem blk0 (t : Fin cfg0.N) (q : Fin 1024) : (iblk m c 0 t : FVec Ideal S1x1024 .f32) (ix2 0 q) = ((A.g q : ℝ) : EReal) := by
  have hV : ∀ q, (V m c main_arg1 : FVec Ideal S1x1024 .f32) (ix2 0 q) = ((A.g q : ℝ) : EReal) := fun q => by
    rw [e1]; exact H.g q
  rw [← hV]; blk_simp [iblk]; blk_ext [idx t]

theorem blk1 (t : Fin cfg0.N) (k : Fin 2576) (q : Fin 1024) :
    (iblk m c 1 t : FVec Ideal S2576x1024 .bf16) (ix2 k q) = ((A.w q k : ℝ) : EReal) := by
  rw [← v6 H]; blk_simp [iblk]; blk_ext [idx t]

theorem loads (t : Fin cfg0.N) : Loads A c (iblk m c 0 t) (iblk m c 1 t) (V m c main_v3) (V m c main_v7) (V m c main_v2) (V m c main_v9) :=
  ⟨blk0 H t, blk1 H t, v3 H, v7 H, v2 H, v9 H⟩

/-! ### The output blocks and arrays -/

theorem leaves_first (t : Fin cfg0.N) (h : t.val = 0) : Leaves A t (outs m c t.val t.isLt) (fun _ => 0) := by
  rw [outs_A m c t h]
  exact leavesA (loads H t) _ _ _

theorem leaves_later (t : Fin cfg0.N) (h : t.val ≠ 0) : Leaves A t (outs m c t.val t.isLt) (fun q => (prior m c t).2 (ix2 0 q)) := by
  by_cases h1 : t.val < 30
  · rw [outs_B m c t h h1]; exact leavesB (loads H t) _ _ _
  · rw [outs_C m c t h h1]; exact leavesC (loads H t) _ _ _

theorem tile2 (t : Fin cfg0.N) (p : Fin 512) (q : Fin 1024) : (outs m c t.val t.isLt).1 (ix2 p q) = ((dx A (row t p) q : ℝ) : EReal) := by
  by_cases h : t.val = 0
  · exact (leaves_first H t h).1 p q
  · exact (leaves_later H t h).1 p q

theorem final2 : (dats m 0 c).arrAt 2 cfg0.N = fun i : S16384x1024.Idx => ((dx A (i 0) (i 1) : ℝ) : EReal) := by
  refine (dats m 0 c).arrAt_eq_of_covers 2 _ (by decide +kernel) fun t _ y => ?_
  blk_simp
  rw [after_dx]
  idx_vars y
  have e : (win0_2.blk t).view.emb (ix2 y0 y1) = ix2 (row t y0) y1 := by blk_ext [row, idx t]
  rw [tile2 H t, e]
  rfl

omit H in
theorem sum_rows (f : Fin 16384 → ℝ) :
    ∑ s : Fin 32, ((∑ p : Fin 512, f ⟨512 * s + p, by omega⟩ : ℝ) : EReal) = ((∑ r, f r : ℝ) : EReal) := by
  rw [Fin.sum_univ_tiles 32 512 rfl f, coe_sum]
  simp only [mul_comm]

omit H in
theorem row_run (t : Fin cfg0.N) (s : Fin 32) (h : 32 * (t.val / 32) + s.val < cfg0.N) :
    row ⟨32 * (t.val / 32) + s.val, h⟩ = fun p => ⟨512 * s + p, by omega⟩ := by
  have ht : t.val < 32 := t.isLt
  have : t.val / 32 = 0 := by omega
  funext p; ext; simp [row, this]

omit H in
theorem sum_run (t : Fin cfg0.N) (h : ∀ s : Fin 32, 32 * (t.val / 32) + s.val < cfg0.N) (f : Fin 16384 → ℝ) :
    ∑ s : Fin 32, ((∑ p : Fin 512, f (row ⟨32 * (t.val / 32) + s.val, h s⟩ p) : ℝ) : EReal) = ((∑ r, f r : ℝ) : EReal) := by
  simp only [row_run]
  exact sum_rows f

theorem final3 : (dats m 0 c).arrAt 3 cfg0.N = fun j : S1x1024.Idx => ((∑ r, dgr A r (j 1) : ℝ) : EReal) := by
  refine (dats m 0 c).arrAt_eq_of_covers 3 _ (by decide +kernel) fun t hf y => ?_
  blk_simp
  rw [after_dg]
  rw [Pipeline.eq_sum_fin_of_reset_step_apply_of_flush (fun n h => (outs m c n h).2) 32 (fun _ => 0)
    (fun t j => ((∑ p, dgr A (row t p) (j 1) : ℝ) : EReal))
    (fun t h j => by
      idx_vars j
      obtain rfl : j0 = 0 := Subsingleton.elim _ _
      exact (leaves_first H t (by have := lt32 t; omega)).2 j1)
    (fun t h j => by
      idx_vars j
      obtain rfl : j0 = 0 := Subsingleton.elim _ _
      exact (leaves_later H t (by rintro e; exact h (by rw [e]))).2 j1) t ((flush0_3 t).mp hf) _, zero_add]
  idx_vars y
  have e : (win0_3.blk t).view.emb (ix2 y0 y1) = ix2 y0 y1 := by blk_ext [idx t]
  rw [e]
  exact sum_run t (fun s => Pipeline.run_point_lt_of_flush (J := 32) t ((flush0_3 t).mp hf) s) (fun r => dgr A r y1)

end Cert.InprojFinal
-- ==== Proof.InprojClaim.lean ====
/- The value claim of the input projection's backward step: from finite arguments both programs end with the real-number
    gradients of `InprojMath`, whose arguments are the arrays' real values. -/
module

public import proofs.«01_k».proof.Defs
public import proofs.«01_k».proof.Proof.Finite
public import proofs.«01_k».proof.Proof.InprojRefPure
public import proofs.«01_k».proof.Proof.InprojFinal
public import proofs.«01_k».proof.Proof.Gen.InprojRefIdeal.Run

@[expose] public section
noncomputable section

namespace Cert.InprojClaim
open Idealize.ShloMosaic Idealize.ShloMosaic.TcCoe Idealize.SL.Sem
open Cert.Reals Cert.InprojMath
open Cert.InprojKernelIdeal (nD τ sig main_arg0 main_arg1 main_arg2 main_arg3 main_arg4)

variable (m : (ℓ : Loc nD τ sig) → Buf (Elt Ideal) ℓ) (c : Dev nD)

/-- The real values of the arguments. -/
def args : Args where
  x r q := EReal.toReal ((m ((c.tc : Thread nD τ).loc main_arg0) : FVec Ideal Cert.InprojKernelIdeal.S1x16384x1024 .f32) (ix3 0 r q))
  g q := EReal.toReal ((m ((c.tc : Thread nD τ).loc main_arg1) : FVec Ideal Cert.InprojKernelIdeal.S1x1024 .f32) (ix2 0 q))
  w q k := EReal.toReal ((m ((c.tc : Thread nD τ).loc main_arg2) : FVec Ideal Cert.InprojKernelIdeal.S1x1024x2576 .f32) (ix3 0 q k))
  dh r q := EReal.toReal ((m ((c.tc : Thread nD τ).loc main_arg3) : FVec Ideal Cert.InprojKernelIdeal.S1x16384x1024 .f32) (ix3 0 r q))
  dp r k := EReal.toReal ((m ((c.tc : Thread nD τ).loc main_arg4) : FVec Ideal Cert.InprojKernelIdeal.S16384x2576 .f32) (ix2 r k))

variable {m c} [Cert.Pre_finite_inproj.Facts]

theorem holds (hp : Pre_InprojKernelIdeal_finite_inproj m) (c : Dev nD) : InprojFinal.Holds m c (args m c) where
  x r q := real_of_finite (hp c).1 (fun _ => by pointwise [ofBits_top]) _
  g q := real_of_finite (hp c).2.1 (fun _ => by pointwise [ofBits_top]) _
  w q k := real_of_finite (hp c).2.2.1 (fun _ => by pointwise [ofBits_top]) _
  dh r q := real_of_finite (hp c).2.2.2.1 (fun _ => by pointwise [ofBits_top]) _
  dp r k := real_of_finite (hp c).2.2.2.2 (fun _ => by pointwise [ofBits_top]) _

theorem algebraic [hk : Cert.InprojKernelIdeal.Facts] [hr : Cert.InprojRefIdeal.Facts] :
    algebraic_InprojKernelIdeal_InprojRefIdeal_pre_finite_inproj := by
  intro m g m' g' hp ha
  refine ⟨fun c i => ((dx (args m c) (i 0) (i 1) : ℝ) : EReal), fun c j => ((∑ r, dgr (args m c) r (j 1) : ℝ) : EReal), ?_, ?_⟩
  · refine (θ_run _ _ _).mono (fun r h c => ?_) (θ_run_and (InprojRun.run m g) (InprojRun.unchanged m g))
    have H := holds hp c
    exact ⟨((h.1.1 c).1 2).trans (InprojFinal.final2 H), ((h.1.1 c).1 3).trans (InprojFinal.final3 H), h.2 c⟩
  · refine (θ_run _ _ _).mono (fun r h c => ?_) (Cert.InprojRefIdeal.Value.run m' g')
    obtain ⟨a0, a1, a2, a3, a4⟩ := ha c
    have H := holds hp c
    have R : InprojRefPure.Holds (args m c) _ _ _ _ _ :=
      ⟨fun r q => (congrFun a0 _).trans (H.x r q), fun q => (congrFun a1 _).trans (H.g q), fun q k => (congrFun a2 _).trans (H.w q k),
       fun r q => (congrFun a3 _).trans (H.dh r q), fun r k => (congrFun a4 _).trans (H.dp r k)⟩
    obtain ⟨r0, r1, rest⟩ := h c
    refine ⟨r0.trans ((Cert.InprojRefIdeal.Read.val_main_v42_eq _ _).trans (funext fun i => ?_)),
      r1.trans ((Cert.InprojRefIdeal.Read.val_main_v43_eq _ _ _).trans (funext fun i => ?_)), rest⟩
    · idx_vars i; exact InprojRefPure.v42 R i0 i1
    · idx_vars i; obtain rfl : i0 = 0 := Subsingleton.elim _ _; exact InprojRefPure.v43 R i1

end Cert.InprojClaim
-- ==== Proof.ProjPure.lean ====
/- The input projection's forward call: the normed row and its packed projection as functions of a row, what the kernel
   stores of them, and the content of a prefetch slot once its copy has landed. -/
module

public import proofs.«01_k».proof.Proof.GlaPure
public import proofs.«01_k».proof.Proof.Gen.ProjKernelIdeal.Value
public import Idealize.ShloMosaic.Lib.Pipeline.Value
public import Idealize.ShloMosaic.Lib.Pipeline.ValueKit

@[expose] public section

set_option maxRecDepth 16384

noncomputable section

namespace Cert.ProjPure

open Cert.ProjKernelIdeal Cert.ProjKernelIdeal.Gen
open Idealize.ShloMosaic Idealize.ShloMosaic.TcCoe Idealize.SL.Sem

/-! ### A row's projection -/

/-- A row over its root mean square, times the gain. -/
def xn (x g : Fin 1024 → EReal) (q : Fin 1024) : EReal :=
  x q * Ideal.rsqrt (Ideal.div (∑ k, x k * x k) (Ideal.ofBits .f32 0x44800000#32) + Ideal.ofBits .f32 0x358637BD#32) * g q

/-- The normed row's projection. -/
def proj (x g : Fin 1024 → EReal) (w : Fin 1024 → Fin 2576 → EReal) (j : Fin 2576) : EReal := ∑ k, xn x g k * w k j

/-- The columns in the order the later calls read: all but the low rank ones, then those, padded to whole lanes. -/
def packed (f : Fin 2576 → EReal) (j : Fin 2688) : EReal :=
  if h : j.val < 1536 then f ⟨j.val, by omega⟩
  else if h : j.val < 2560 then f ⟨j.val + 16, by omega⟩
  else if h : j.val < 2576 then f ⟨j.val - 1024, by omega⟩ else 0

/-! ### The payloads -/

section Payloads

variable {x : Fin 512 → Fin 1024 → EReal} {g : Fin 1024 → EReal} {w : Fin 1024 → Fin 2576 → EReal}
  {v45 : Vec Ideal S1x512x1024 .f32} (hx : ∀ p q, v45 (ix3 0 p q) = x p q)
  {v57 : Vec Ideal S1x1024 .f32} (hg : ∀ q, v57 (ix2 0 q) = g q)
include hx hg

theorem pay3 (p : Fin 512) (q : Fin 1024) : k0_pay3 (F := Ideal) v45 v57 (ix2 p q) = xn (x p) g q := by
  pointwise [k0_pay3, hx, hg]
  rfl

theorem pay4 {v62 : Vec Ideal S1536x1024 .bf16} (h62 : ∀ (j : Fin 1536) k, v62 (ix2 j k) = w k ⟨j.val, by omega⟩)
    (p : Fin 512) (j : Fin 1536) : k0_pay4 (F := Ideal) v45 v57 v62 (ix2 p j) = proj (x p) g w ⟨j.val, by omega⟩ := by
  pointwise [k0_pay4, pay3 hx hg, h62]
  rfl

theorem pay1 {v67 : Vec Ideal S1024x1024 .bf16} (h67 : ∀ (j : Fin 1024) k, v67 (ix2 j k) = w k ⟨1552 + j.val, by omega⟩)
    (p : Fin 512) (j : Fin 1024) :
    k0_pay1 (F := Ideal) (k0_pay5 v45 v57 v67) (ix2 p j) = proj (x p) g w ⟨1552 + j.val, by omega⟩ := by
  pointwise [k0_pay1, k0_pay5, pay3 hx hg, h67]
  rfl

omit hx hg in
theorem lt16 : ∀ j : Fin 128, IntOp.cmpi .slt (BitVec.ofNat 32 j) 16#32 = if (j : ℕ) < 16 then 1#1 else 0#1 := by decide +kernel

theorem pay2 {v75 : Vec Ideal S128x1024 .bf16} (h75 : ∀ (j : Fin 128) k, v75 (ix2 j k) = w k ⟨1536 + j.val, by omega⟩)
    (p : Fin 512) (j : Fin 128) : k0_pay2 (F := Ideal) (k0_pay3 v45 v57) v75 (ix2 p j)
      = if (j : ℕ) < 16 then proj (x p) g w ⟨1536 + j.val, by omega⟩ else 0 := by
  pointwise [k0_pay2, pay3 hx hg, h75]
  rw [lt16, Cert.GlaPure.sel_ite]
  rfl

/-- The three stores of the packed block are together the packed projections of its rows. -/
theorem canon_packed (i1 i2 i3) {v62 : Vec Ideal S1536x1024 .bf16} {v67 : Vec Ideal S1024x1024 .bf16} {v75 : Vec Ideal S128x1024 .bf16}
    (h62 : ∀ (j : Fin 1536) k, v62 (ix2 j k) = w k ⟨j.val, by omega⟩)
    (h67 : ∀ (j : Fin 1024) k, v67 (ix2 j k) = w k ⟨1552 + j.val, by omega⟩)
    (h75 : ∀ (j : Fin 128) k, v75 (ix2 j k) = w k ⟨1536 + j.val, by omega⟩) (p : Fin 512) (j : Fin 2688) :
    View.canon (Val := Elt Ideal) (e := .bf16) (s := S512x2688)
      [⟨Rect.unit (s := S512x2688) ![0, 2560] ![512, 128] i1, k0_pay2 (F := Ideal) (k0_pay3 v45 v57) v75⟩,
       ⟨Rect.unit (s := S512x2688) ![0, 1536] ![512, 1024] i2, k0_pay1 (F := Ideal) (k0_pay5 v45 v57 v67)⟩,
       ⟨Rect.unit (s := S512x2688) ![0, 0] ![512, 1536] i3, k0_pay4 (F := Ideal) v45 v57 v62⟩] (ix2 p j)
    = packed (proj (x p) g w) j := by
  have hp := p.isLt
  have hj := j.isLt
  unfold packed
  rw [Cert.GlaPure.canon2]
  split
  · rename_i h
    rw [pay2 hx hg h75, dif_neg (by omega), dif_neg (by omega)]
    by_cases h' : j.val < 2576
    · rw [dif_pos h', if_pos (show j.val - 2560 < 16 by omega)]
      exact congrArg _ (Fin.ext (show 1536 + (j.val - 2560) = j.val - 1024 by omega))
    · rw [dif_neg h', if_neg (show ¬ j.val - 2560 < 16 by omega)]
  rename_i h1
  rw [Cert.GlaPure.canon2]
  split
  · rename_i h
    rw [pay1 hx hg h67, dif_neg (by omega), dif_pos (by omega)]
    exact congrArg _ (Fin.ext (show 1552 + (j.val - 1536) = j.val + 16 by omega))
  rename_i h2
  rw [Cert.GlaPure.canon2]
  split
  · rename_i h
    rw [pay4 hx hg h62, dif_pos (by omega)]
    rfl
  · omega

end Payloads

/-! ### A slot of the prefetch ring -/

/-- The row of the array that row `p` of grid point `t`'s tile is. -/
def row (t : Fin cfg0.N) (p : Fin 512) : Fin 16384 := ⟨512 * t.val + p.val, by have : t.val < 32 := t.isLt; omega⟩

theorem reshape_slot (h : S512x1024.numel = S1x512x1024.numel) (p : Fin 512) (q : Fin 1024) :
    Shape.reshapeEquiv h (ix2 p q) = ix3 0 p q :=
  (Shape.rowMajor S1x512x1024).injective (Fin.ext (by
    rw [Shape.rowMajor_reshapeEquiv, Shape.rowMajor_val_two, Shape.rowMajor_val_three]
    show p.val * 1024 + q.val = (0 * 512 + p.val) * 1024 + q.val
    omega))

theorem slot (t : Fin cfg0.N) (h : ∀ a, k0_off7 (grid0.coords t) a + S1x512x1024.size a ≤ S3x512x1024.size a)
    (f : FVec Ideal S16384x1024 .f32) (p : Fin 512) (q : Fin 1024) :
    View.readAt (Elt Ideal) (View.whole cc0_scratch0) (Rect.unit (s := S3x512x1024) (k0_off7 (grid0.coords t)) S1x512x1024.size h).toLoadRect
      ((rslot0_0 (Ring.sl 3 t.val)).view.writes (Elt Ideal) (rslot0_0 (Ring.sl 3 t.val)).view.junk
        [⟨Rect.whole S512x1024, ReadAs.same.apply (View.read (Elt Ideal) (srcB0_0 (Ring.bk 32 t.val)).view f)⟩]) (ix3 0 p q)
      = f (ix2 (row t p) q) := by
  have src : (View.read (Elt Ideal) (srcB0_0 (Ring.bk 32 t.val)).view f : FVec Ideal S512x1024 .f32) (ix2 p q) = f (ix2 (row t p) q) := by
    refine congrArg f (funext fun a => Fin.ext ?_)
    fin_cases a
    · show 512 * (t.val % 32) + 1 * p.val = 512 * t.val + p.val
      rw [Nat.mod_eq_of_lt (show t.val < 32 from t.isLt), one_mul]
    · show 0 + 1 * q.val = q.val
      rw [one_mul, zero_add]
  rw [← src]
  revert h
  rw [coff0_0_13 t]
  intro h
  refine Eq.trans ?_ (congrFun (View.read_writes_whole (rslot0_0 (Ring.sl 3 t.val)).view (rslot0_0 (Ring.sl 3 t.val)).view.junk
    (ReadAs.same.apply (View.read (Elt Ideal) (srcB0_0 (Ring.bk 32 t.val)).view f))) (ix2 p q))
  generalize (rslot0_0 (Ring.sl 3 t.val)).view.writes (Elt Ideal) (rslot0_0 (Ring.sl 3 t.val)).view.junk
    [⟨Rect.whole S512x1024, ReadAs.same.apply (View.read (Elt Ideal) (srcB0_0 (Ring.bk 32 t.val)).view f)⟩] = b
  rw [← reshape_slot (by decide) p q]
  rfl

end Cert.ProjPure
-- ==== Proof.ProjRefPure.lean ====
/- The reference of the input projection's forward call: its two results at an index. -/
module

public import proofs.«01_k».proof.Proof.ProjPure
public import proofs.«01_k».proof.Proof.GlaRefPure
public import proofs.«01_k».proof.Proof.Gen.ProjRefIdeal.Read

@[expose] public section

set_option maxRecDepth 16384

noncomputable section

namespace Cert.ProjRefPure

open Cert.ProjRefIdeal Cert.ProjRefIdeal.Gen Cert.ProjRefIdeal.Read Cert.ProjPure
open Idealize.ShloMosaic Idealize.ShloMosaic.TcCoe Idealize.SL.Sem

variable (x0 : FVec Ideal S1x16384x1024 .f32) (x1 : FVec Ideal S1x1024 .f32) (x2 : FVec Ideal S1x1024x2576 .f32)

theorem normed (r : Fin 16384) (q : Fin 1024) :
    val_main_v14 (F := Ideal) x0 x1 (ix2 r q) = xn (fun k => x0 (ix3 0 r k)) (fun k => x1 (ix2 0 k)) q := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rfl

theorem projected (r : Fin 16384) (j : Fin 2576) : val_main_v16 (F := Ideal) x0 x1 x2 (ix2 r j)
    = proj (fun k => x0 (ix3 0 r k)) (fun k => x1 (ix2 0 k)) (fun k j => x2 (ix3 0 k j)) j := by
  pointwise [val_main_v16, val_main_v15, normed]
  rfl

theorem v23 (r : Fin 16384) (q : Fin 1024) :
    val_main_v23 (F := Ideal) x0 x1 (ix2 r q) = xn (fun k => x0 (ix3 0 r k)) (fun k => x1 (ix2 0 k)) q := by
  pointwise [val_main_v23, normed]

/-- The packing's three pieces, the last one padded with `z`. -/
theorem packed_eq (f : Fin 2576 → EReal) {z : EReal} (hz : z = 0) (j : Fin 2688) :
    (if h : j.val < 1536 then f ⟨j.val, by omega⟩
      else if h : j.val - 1536 < 1024 then f ⟨1552 + (j.val - 1536), by omega⟩
      else if h : j.val - 1536 - 1024 < 16 then f ⟨1536 + (j.val - 1536 - 1024), by omega⟩ else z) = packed f j := by
  have hj := j.isLt
  unfold packed
  by_cases h1 : j.val < 1536
  · rw [dif_pos h1, dif_pos h1]
  rw [dif_neg h1, dif_neg h1]
  by_cases h2 : j.val < 2560
  · rw [dif_pos h2, dif_pos (show j.val - 1536 < 1024 by omega)]
    exact congrArg f (Fin.ext (show 1552 + (j.val - 1536) = j.val + 16 by omega))
  rw [dif_neg h2, dif_neg (show ¬ j.val - 1536 < 1024 by omega)]
  by_cases h3 : j.val < 2576
  · rw [dif_pos h3, dif_pos (show j.val - 1536 - 1024 < 16 by omega)]
    exact congrArg f (Fin.ext (show 1536 + (j.val - 1536 - 1024) = j.val - 1024 by omega))
  rw [dif_neg h3, dif_neg (show ¬ j.val - 1536 - 1024 < 16 by omega), hz]

theorem v22 (r : Fin 16384) (j : Fin 2688) : val_main_v22 (F := Ideal) x0 x1 x2 (ix2 r j)
    = packed (proj (fun k => x0 (ix3 0 r k)) (fun k => x1 (ix2 0 k)) (fun k j => x2 (ix3 0 k j))) j := by
  have hf := projected x0 x1 x2 r
  revert hf
  generalize proj (fun k => x0 (ix3 0 r k)) (fun k => x1 (ix2 0 k)) (fun k j => x2 (ix3 0 k j)) = f
  intro hf
  pointwise [val_main_v22, val_main_v21, val_main_v20, val_main_v19, val_main_v18, val_main_v17, val_main_call0_v0, val_main_c, hf]
  exact packed_eq f (Cert.GlaRefPure.sit_zero.trans EReal.coe_zero) j

end Cert.ProjRefPure
-- ==== Proof.ProjFinal.lean ====
/- The input projection's forward kernel: what its launch starts from, what a grid point leaves in its output blocks, and
   what each output array is at the end. -/
module

public import proofs.«01_k».proof.Proof.ProjPure

@[expose] public section

set_option maxRecDepth 16384

noncomputable section

namespace Cert.ProjFinal

open Cert.ProjKernelIdeal Cert.ProjKernelIdeal.Gen Cert.ProjKernelIdeal.Value Cert.ProjPure
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0] ∧ win0_1.index t = ![0, 0] ∧ win0_2.index t = ![t.val, 0]
    ∧ win0_3.index t = ![t.val, 0] :=
  (by decide +kernel : ∀ t : Fin grid0.N, _)

/-- The arguments' rows, gain and projection. -/
def xs (r : Fin 16384) (q : Fin 1024) : EReal := (m ((c.tc : Thread nD τ).loc main_arg0) : FVec Ideal S1x16384x1024 .f32) (ix3 0 r q)
def gain (q : Fin 1024) : EReal := (m ((c.tc : Thread nD τ).loc main_arg1) : FVec Ideal S1x1024 .f32) (ix2 0 q)
def ws (k : Fin 1024) (j : Fin 2576) : EReal := (m ((c.tc : Thread nD τ).loc main_arg2) : FVec Ideal S1x1024x2576 .f32) (ix3 0 k j)

/-! ### What the launch starts from -/

theorem v0 (r : Fin 16384) (q : Fin 1024) : (V m c main_v0 : FVec Ideal S16384x1024 .f32) (ix2 r q) = xs m c r q := by
  entry_read; pointwise [xs]

theorem blk0 (t : Fin cfg0.N) (q : Fin 1024) : (iblk m c 0 t : FVec Ideal S1x1024 .f32) (ix2 0 q) = gain m c q := by
  have hV : ∀ q, (V m c main_arg1 : FVec Ideal S1x1024 .f32) (ix2 0 q) = gain m c q := fun q => by
    entry_read; rfl
  rw [← hV]; blk_simp [iblk]; blk_ext [idx t]

theorem blk1 (t : Fin cfg0.N) (j : Fin 2576) (k : Fin 1024) : (iblk m c 1 t : FVec Ideal S2576x1024 .bf16) (ix2 j k) = ws m c k j := by
  have hV : ∀ j k, (V m c main_v3 : FVec Ideal S2576x1024 .bf16) (ix2 j k) = ws m c k j := fun j k => by
    entry_read; pointwise [ws]
  rw [← hV]; blk_simp [iblk]; blk_ext [idx t]

/-- The rows of the projection a load of the block reads. -/
theorem ld1 (t : Fin cfg0.N) {n o : ℕ} (h) (ho : o + n ≤ 2576) (j : Fin n) (k : Fin 1024) :
    View.ld (iblk m c 1 t : FVec Ideal S2576x1024 .bf16) (Rect.unit (s := S2576x1024) ![o, 0] ![n, 1024] h) (ix2 j k)
      = ws m c k ⟨o + j.val, by omega⟩ :=
  (View.ld_unit_apply_of _ _ _ _ _ (ix2 (⟨o + j.val, by omega⟩ : Fin 2576) k) (fun a => by
    fin_cases a
    · rfl
    · exact (Nat.zero_add k.val).symm)).trans (blk1 m c t _ k)

/-! ### The output blocks -/

/-- What the stored blocks are: the packed projections of the tile's rows, and its normed rows. -/
def Leaves (t : Fin cfg0.N) (o : Vec Ideal S512x2688 .bf16 × Vec Ideal S512x1024 .bf16) : Prop :=
  (∀ p j, o.1 (ix2 p j) = packed (proj (xs m c (row t p)) (gain m c) (ws m c)) j)
    ∧ ∀ p q, o.2 (ix2 p q) = xn (xs m c (row t p)) (gain m c) q

theorem leaves (t : Fin cfg0.N) : Leaves m c t (outsAt0 m c t.val t.isLt) := by
  have ht : t.val < 32 := t.isLt
  have hx := fun h p q => (slot t h (V m c main_v0) p q).trans (v0 m c (row t p) q)
  have h62 := fun h (j : Fin 1536) k => (ld1 m c t (o := 0) h (by omega) j k).trans
    (congrArg (ws m c k) (Fin.ext (Nat.zero_add j.val) : _ = (⟨j.val, by omega⟩ : Fin 2576)))
  by_cases h0 : t.val % 32 = 0
  · rw [outsAt0_A m c t h0 (by omega)]
    refine ⟨fun p j => ?_, fun p q => ?_⟩
    · dsimp only; frame_out
      exact canon_packed (hx _) (blk0 m c t) _ _ _ (h62 _) (ld1 m c t _ (by omega)) (ld1 m c t _ (by omega)) p j
    · dsimp only; frame_out
      exact pay3 (hx _) (blk0 m c t) p q
  by_cases h1 : t.val < 30
  · rw [outsAt0_B m c t h0 h1]
    refine ⟨fun p j => ?_, fun p q => ?_⟩
    · dsimp only; frame_out
      exact canon_packed (hx _) (blk0 m c t) _ _ _ (h62 _) (ld1 m c t _ (by omega)) (ld1 m c t _ (by omega)) p j
    · dsimp only; frame_out
      exact pay3 (hx _) (blk0 m c t) p q
  · rw [outsAt0_C m c t h0 h1]
    refine ⟨fun p j => ?_, fun p q => ?_⟩
    · dsimp only; frame_out
      exact canon_packed (hx _) (blk0 m c t) _ _ _ (h62 _) (ld1 m c t _ (by omega)) (ld1 m c t _ (by omega)) p j
    · dsimp only; frame_out
      exact pay3 (hx _) (blk0 m c t) p q

/-! ### The output arrays -/

theorem final2 : (dats m 0 c).arrAt 2 cfg0.N
    = fun i : S16384x2688.Idx => packed (proj (xs m c (i 0)) (gain m c) (ws m c)) (i 1) := by
  refine (dats m 0 c).arrAt_eq_of_covers 2 _ (by decide +kernel) fun t _ y => ?_
  blk_simp
  rw [after0_2]
  idx_vars y
  have e : (win0_2.blk t).view.emb (ix2 y0 y1) = ix2 (row t y0) y1 := by blk_ext [row, idx t]
  rw [(leaves m c t).1, e]
  rfl

theorem final3 : (dats m 0 c).arrAt 3 cfg0.N = fun i : S16384x1024.Idx => xn (xs m c (i 0)) (gain m c) (i 1) := by
  refine (dats m 0 c).arrAt_eq_of_covers 3 _ (by decide +kernel) fun t _ y => ?_
  blk_simp
  rw [after0_3]
  idx_vars y
  have e : (win0_3.blk t).view.emb (ix2 y0 y1) = ix2 (row t y0) y1 := by blk_ext [row, idx t]
  rw [(leaves m c t).2, e]
  rfl

end Cert.ProjFinal
-- ==== Proof.ProjClaim.lean ====
/- The value claim of the input projection's forward call: from any arguments both programs end with the packed projection
   and the normed rows of `ProjPure`. -/
module

public import proofs.«01_k».proof.Defs
public import proofs.«01_k».proof.Proof.ProjRefPure
public import proofs.«01_k».proof.Proof.ProjFinal
public import proofs.«01_k».proof.Proof.Gen.ProjRefIdeal.Run

@[expose] public section
noncomputable section

namespace Cert.ProjClaim
open Idealize.ShloMosaic Idealize.ShloMosaic.TcCoe Idealize.SL.Sem
open Cert.ProjPure Cert.ProjFinal

theorem algebraic [hk : Cert.ProjKernelIdeal.Facts] [hr : Cert.ProjRefIdeal.Facts] : algebraic_ProjKernelIdeal_ProjRefIdeal := by
  intro m g m' g' _ ha
  refine ⟨fun c i => packed (proj (xs m c (i 0)) (gain m c) (ws m c)) (i 1), fun c i => xn (xs m c (i 0)) (gain m c) (i 1), ?_, ?_⟩
  · refine (θ_run _ _ _).mono (fun r h c => ?_) (Cert.ProjKernelIdeal.Value.run_blocks m g)
    obtain ⟨r0, r1, rest⟩ := h c
    exact ⟨r0.trans (final2 m c), r1.trans (final3 m c), rest⟩
  · refine (θ_run _ _ _).mono (fun r h c => ?_) (Cert.ProjRefIdeal.Value.run m' g')
    obtain ⟨a0, a1, a2⟩ := ha c
    obtain ⟨r0, r1, rest⟩ := h c
    refine ⟨r0.trans ((Cert.ProjRefIdeal.Read.val_main_v22_eq _ _ _).trans (funext fun i => ?_)),
      r1.trans ((Cert.ProjRefIdeal.Read.val_main_v23_eq _ _).trans (funext fun i => ?_)), rest⟩
    · idx_vars i
      rw [a0, a1, a2]
      exact ProjRefPure.v22 _ _ _ i0 i1
    · idx_vars i
      rw [a0, a1]
      exact ProjRefPure.v23 _ _ i0 i1

end Cert.ProjClaim
-- ==== Proof.lean ====
module

public import proofs.«01_k».proof.Defs
public import proofs.«01_k».proof.Proof.Gen.MlpKernel
public import proofs.«01_k».proof.Proof.Gen.MlpKernelIdeal
public import proofs.«01_k».proof.Proof.Gen.MlpKernelIdeal.Frame
public import proofs.«01_k».proof.Proof.Gen.MlpRefIdeal
public import proofs.«01_k».proof.Proof.Gen.MlpKernelIdeal.Value
public import proofs.«01_k».proof.Proof.Gen.MlpRefIdeal.Run
public import proofs.«01_k».proof.Proof.Gen.MlpRefIdeal.Read
public import proofs.«01_k».proof.Proof.Gen.Pre_finite_mlp
public import proofs.«01_k».proof.Proof.Gen.InprojKernelIdeal.Frame.RunC
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Pre_finite_inproj
public import proofs.«01_k».proof.Proof.Gen.InprojKernel
public import proofs.«01_k».proof.Proof.Gen.InprojKernelIdeal
public import proofs.«01_k».proof.Proof.Gen.GlaKernel
public import proofs.«01_k».proof.Proof.Gen.GlaKernelIdeal
public import proofs.«01_k».proof.Proof.Gen.GlaKernelIdeal.Frame
public import proofs.«01_k».proof.Proof.Gen.GlaRefIdeal
public import proofs.«01_k».proof.Proof.Gen.GlaKernelIdeal.Value
public import proofs.«01_k».proof.Proof.Gen.GlaRefIdeal.Run
public import proofs.«01_k».proof.Proof.Gen.GlaRefIdeal.Read
public import proofs.«01_k».proof.Proof.Gen.Pre_finite_gla
public import proofs.«01_k».proof.Proof.Gen.ProjKernel
public import proofs.«01_k».proof.Proof.Gen.ProjKernelIdeal
public import proofs.«01_k».proof.Proof.Gen.ProjKernelIdeal.Frame
public import proofs.«01_k».proof.Proof.Gen.ProjKernelIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.MixKernel
public import proofs.«01_k».proof.Proof.Gen.MixKernelIdeal
public import proofs.«01_k».proof.Proof.Gen.MixKernelIdeal.Frame
public import proofs.«01_k».proof.Proof.MlpClaim
public import proofs.«01_k».proof.Proof.GlaClaim
public import proofs.«01_k».proof.Proof.InprojFrame
public import proofs.«01_k».proof.Proof.InprojClaim
public import proofs.«01_k».proof.Proof.ProjClaim

@[expose] public section

noncomputable section

namespace Cert.Proof

open Idealize.ShloMosaic Idealize.SL.Sem

/-- The MLP reference ends with its arguments unchanged; it declares no semaphore. -/
theorem mlpRef_frame : quiescent_MlpRefIdeal (hMlpRefIdeal := Cert.MlpRefIdeal.Gen.facts) := fun m ρ _ =>
  (θ_run _ _ _).mono (fun r h => ⟨fun c => (h c).2.2.2.2.2.2.2.2.2, sem_eq_zero_of_no_sems (by decide) r.2⟩)
    (Cert.MlpRefIdeal.Value.run m ρ)

/-- The recurrence's reference ends with its arguments unchanged; it declares no semaphore. -/
theorem glaRef_frame : quiescent_GlaRefIdeal (hGlaRefIdeal := Cert.GlaRefIdeal.Gen.facts) := fun m ρ _ =>
  (θ_run _ _ _).mono (fun r h => ⟨fun c => (h c).2.2.2.2, sem_eq_zero_of_no_sems (by decide) r.2⟩)
    (Cert.GlaRefIdeal.Value.run m ρ)

/-- The input projection's reference ends with its arguments unchanged; it declares no semaphore. -/
theorem inprojRef_frame : quiescent_InprojRefIdeal (hInprojRefIdeal := Cert.InprojRefIdeal.Gen.facts) := fun m ρ _ =>
  (θ_run _ _ _).mono (fun r h => ⟨fun c => (h c).2.2, sem_eq_zero_of_no_sems (by decide) r.2⟩)
    (Cert.InprojRefIdeal.Value.run m ρ)

/-- The forward projection's reference ends with its arguments unchanged; it declares no semaphore. -/
theorem projRef_frame : quiescent_ProjRefIdeal (hProjRefIdeal := Cert.ProjRefIdeal.Gen.facts) := fun m ρ _ =>
  (θ_run _ _ _).mono (fun r h => ⟨fun c => (h c).2.2, sem_eq_zero_of_no_sems (by decide) r.2⟩)
    (Cert.ProjRefIdeal.Value.run m ρ)

/-! A machine program is its idealized program's text: its frame is the same run's. -/

theorem mlp_bits : quiescent_MlpKernel (hMlpKernel := Cert.MlpKernel.Gen.facts) := fun m ρ _ => by
  refine cast ?_ (Cert.MlpKernelIdeal.Gen.frame (F := Bits) m ρ)
  sl_kernel_rfl

theorem gla_bits : quiescent_GlaKernel (hGlaKernel := Cert.GlaKernel.Gen.facts) := fun m ρ _ => by
  refine cast ?_ (Cert.GlaKernelIdeal.Gen.frame (F := Bits) m ρ)
  sl_kernel_rfl

theorem proj_bits : quiescent_ProjKernel (hProjKernel := Cert.ProjKernel.Gen.facts) := fun m ρ _ => by
  refine cast ?_ (Cert.ProjKernelIdeal.Gen.frame (F := Bits) m ρ)
  sl_kernel_rfl

theorem mix_bits : quiescent_MixKernel (hMixKernel := Cert.MixKernel.Gen.facts) := fun m ρ _ => by
  refine cast ?_ (Cert.MixKernelIdeal.Gen.frame (F := Bits) m ρ)
  sl_kernel_rfl

theorem claim : Cert.Claim := ⟨Cert.MlpKernel.Gen.facts, Cert.MlpKernelIdeal.Gen.facts, Cert.MlpRefIdeal.Gen.facts,
  Cert.GlaKernel.Gen.facts, Cert.GlaKernelIdeal.Gen.facts, Cert.GlaRefIdeal.Gen.facts,
  Cert.InprojKernel.Gen.facts, Cert.InprojKernelIdeal.Gen.facts, Cert.InprojRefIdeal.Gen.facts,
  Cert.ProjKernel.Gen.facts, Cert.ProjKernelIdeal.Gen.facts, Cert.ProjRefIdeal.Gen.facts,
  Cert.MixKernel.Gen.facts, Cert.MixKernelIdeal.Gen.facts,
  Cert.Pre_finite_mlp.Gen.facts, Cert.Pre_finite_gla.Gen.facts, Cert.Pre_finite_inproj.Gen.facts,
  mlp_bits,
  fun m ρ _ => Cert.MlpKernelIdeal.Gen.frame m ρ,
  fun m ρ _ => Cert.MlpKernelIdeal.Gen.frame m ρ,
  fun m ρ _ => mlpRef_frame m ρ trivial,
  fun m ρ _ => mlpRef_frame m ρ trivial,
  gla_bits,
  fun m ρ _ => Cert.GlaKernelIdeal.Gen.frame m ρ,
  fun m ρ _ => Cert.GlaKernelIdeal.Gen.frame m ρ,
  fun m ρ _ => glaRef_frame m ρ trivial,
  fun m ρ _ => glaRef_frame m ρ trivial,
  Cert.InprojFrame.bits,
  fun m ρ _ => Cert.InprojFrame.frame m ρ,
  fun m ρ _ => Cert.InprojFrame.frame m ρ,
  fun m ρ _ => inprojRef_frame m ρ trivial,
  fun m ρ _ => inprojRef_frame m ρ trivial,
  proj_bits,
  fun m ρ _ => Cert.ProjKernelIdeal.Gen.frame m ρ,
  projRef_frame,
  mix_bits,
  fun m ρ _ => Cert.MixKernelIdeal.Gen.frame m ρ,
  trivial, Cert.MlpClaim.algebraic, trivial, Cert.GlaClaim.algebraic, trivial, Cert.InprojClaim.algebraic,
  trivial, Cert.ProjClaim.algebraic, trivial⟩

end Cert.Proof

end
